-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_gw [hPre_finite_gw : Cert.Pre_finite_gw.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_gw.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_gw [hPre_finite_gw : Cert.Pre_finite_gw.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_gw.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_gw [hKernel2Ideal : Cert.Kernel2Ideal.Facts] [hPre_finite_gw : Cert.Pre_finite_gw.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_gw m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_gw [hReference2Ideal : Cert.Reference2Ideal.Facts] [hPre_finite_gw : Cert.Pre_finite_gw.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_gw m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  IdealRules.named_const.Statement Cert.KernelIdeal.κ "no_key" .f32 0xF149F2CA#32 ⊥
  ∧ IdealRules.named_const.Statement Cert.KernelIdeal.κ "log2e" .f32 0x3FB8AA3B#32 (((Real.log 2)⁻¹ : ℝ) : EReal)
  ∧ IdealRules.named_const.Statement Cert.KernelIdeal.κ "floor" .f32 0xC301D7B2#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "q_scale" .f32 0x3E38AA3B#32 (((8 * (Real.log 2))⁻¹ : ℝ) : EReal)

def algebraic_Kernel2Ideal_Reference2Ideal_pre_finite_gw [hKernel2Ideal : Cert.Kernel2Ideal.Facts] [hReference2Ideal : Cert.Reference2Ideal.Facts] [hPre_finite_gw : Cert.Pre_finite_gw.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_gw m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v39_0)) (v1 : (c : Dev Cert.Kernel2Ideal.nD) → Buf (Elt Ideal) ((c.tc : Thread Cert.Kernel2Ideal.nD Cert.Kernel2Ideal.τ).loc Cert.Kernel2Ideal.main_v39_1)) (v2 : (c : Dev Cert.Kernel2Ideal.nD) → Buf (Elt Ideal) ((c.tc : Thread Cert.Kernel2Ideal.nD Cert.Kernel2Ideal.τ).loc Cert.Kernel2Ideal.main_v39_2)) (v3 : (c : Dev Cert.Kernel2Ideal.nD) → Buf (Elt Ideal) ((c.tc : Thread Cert.Kernel2Ideal.nD Cert.Kernel2Ideal.τ).loc Cert.Kernel2Ideal.main_v39_3)) (v4 : (c : Dev Cert.Kernel2Ideal.nD) → Buf (Elt Ideal) ((c.tc : Thread Cert.Kernel2Ideal.nD Cert.Kernel2Ideal.τ).loc Cert.Kernel2Ideal.main_v39_4)) (v5 : (c : Dev Cert.Kernel2Ideal.nD) → Buf (Elt Ideal) ((c.tc : Thread Cert.Kernel2Ideal.nD Cert.Kernel2Ideal.τ).loc Cert.Kernel2Ideal.main_v39_5)) (v6 : (c : Dev Cert.Kernel2Ideal.nD) → Buf (Elt Ideal) ((c.tc : Thread Cert.Kernel2Ideal.nD Cert.Kernel2Ideal.τ).loc Cert.Kernel2Ideal.main_v39_6)) (v7 : (c : Dev Cert.Kernel2Ideal.nD) → Buf (Elt Ideal) ((c.tc : Thread Cert.Kernel2Ideal.nD Cert.Kernel2Ideal.τ).loc Cert.Kernel2Ideal.main_v39_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v39_0) = v0 c
          ∧ r.2.mem ((c.tc : Thread Cert.Kernel2Ideal.nD Cert.Kernel2Ideal.τ).loc Cert.Kernel2Ideal.main_v39_1) = v1 c
          ∧ r.2.mem ((c.tc : Thread Cert.Kernel2Ideal.nD Cert.Kernel2Ideal.τ).loc Cert.Kernel2Ideal.main_v39_2) = v2 c
          ∧ r.2.mem ((c.tc : Thread Cert.Kernel2Ideal.nD Cert.Kernel2Ideal.τ).loc Cert.Kernel2Ideal.main_v39_3) = v3 c
          ∧ r.2.mem ((c.tc : Thread Cert.Kernel2Ideal.nD Cert.Kernel2Ideal.τ).loc Cert.Kernel2Ideal.main_v39_4) = v4 c
          ∧ r.2.mem ((c.tc : Thread Cert.Kernel2Ideal.nD Cert.Kernel2Ideal.τ).loc Cert.Kernel2Ideal.main_v39_5) = v5 c
          ∧ r.2.mem ((c.tc : Thread Cert.Kernel2Ideal.nD Cert.Kernel2Ideal.τ).loc Cert.Kernel2Ideal.main_v39_6) = v6 c
          ∧ r.2.mem ((c.tc : Thread Cert.Kernel2Ideal.nD Cert.Kernel2Ideal.τ).loc Cert.Kernel2Ideal.main_v39_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v145) = v0 c
          ∧ r.2.mem ((c.tc : Thread Cert.Reference2Ideal.nD Cert.Reference2Ideal.τ).loc Cert.Reference2Ideal.main_v146) = v1 c
          ∧ r.2.mem ((c.tc : Thread Cert.Reference2Ideal.nD Cert.Reference2Ideal.τ).loc Cert.Reference2Ideal.main_v147) = v2 c
          ∧ r.2.mem ((c.tc : Thread Cert.Reference2Ideal.nD Cert.Reference2Ideal.τ).loc Cert.Reference2Ideal.main_v148) = v3 c
          ∧ r.2.mem ((c.tc : Thread Cert.Reference2Ideal.nD Cert.Reference2Ideal.τ).loc Cert.Reference2Ideal.main_v149) = v4 c
          ∧ r.2.mem ((c.tc : Thread Cert.Reference2Ideal.nD Cert.Reference2Ideal.τ).loc Cert.Reference2Ideal.main_v150) = v5 c
          ∧ r.2.mem ((c.tc : Thread Cert.Reference2Ideal.nD Cert.Reference2Ideal.τ).loc Cert.Reference2Ideal.main_v151) = v6 c
          ∧ r.2.mem ((c.tc : Thread Cert.Reference2Ideal.nD Cert.Reference2Ideal.τ).loc Cert.Reference2Ideal.main_v152) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_qk : Cert.Pre_finite_qk.Facts) (hPre_finite_gw : Cert.Pre_finite_gw.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Kernel2Ideal_pre_finite_gw (hKernel2Ideal := hKernel2Ideal) (hPre_finite_gw := hPre_finite_gw)
    ∧ quiescent_Reference2Ideal (hReference2Ideal := hReference2Ideal)
    ∧ quiescent_Reference2Ideal_pre_finite_gw (hReference2Ideal := hReference2Ideal) (hPre_finite_gw := hPre_finite_gw)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal_pre_finite_gw (hKernel2Ideal := hKernel2Ideal) (hReference2Ideal := hReference2Ideal) (hPre_finite_gw := hPre_finite_gw)
    ∧ preserves_Kernel3_Kernel3Ideal
    ∧ algebraic_Kernel3Ideal_Reference3Ideal (hKernel3Ideal := hKernel3Ideal) (hReference3Ideal := hReference3Ideal)
-- ==== Pre_finite_gw.lean ====
abbrev S16384x1024 : Shape := ⟨2, ![16384, 1024]⟩
abbrev S4x1024 : Shape := ⟨2, ![4, 1024]⟩
abbrev S4x1024x4096 : Shape := ⟨3, ![4, 1024, 4096]⟩
abbrev S4x64 : Shape := ⟨2, ![4, 64]⟩
abbrev S1x1024x1536 : Shape := ⟨3, ![1, 1024, 1536]⟩
abbrev S1024x1536 : Shape := ⟨2, ![1024, 1536]⟩
abbrev S1x1024 : Shape := ⟨2, ![1, 1024]⟩
abbrev S1024 : Shape := ⟨1, ![1024]⟩
abbrev S_ : Shape := ⟨0, ![]⟩

class Facts : Prop where
  slices_S4x1024x4096_S1x1024x1536_0_0_1024 : S4x1024x4096.Slices ![0, 0, 1024] S1x1024x1536
  shapeCasts_S1x1024x1536_S1024x1536 : S1x1024x1536.ShapeCasts S1024x1536
  slices_S4x1024_S1x1024_0_0 : S4x1024.Slices ![0, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  h_S_ : 0 < S_.numel
  bcast_S_S1024x1536 : S_.BroadcastsInDim S1024x1536 (![] : Fin 0 → Fin S1024x1536.rank)
  reducesTo_S1024x1536_S_d0_1 : S1024x1536.ReducesTo [0, 1] S_

variable [Facts]

def fn {F : FTy → Type} [FloatOps F] (main_arg0 : FVec F S16384x1024 .f32) (main_arg1 : FVec F S4x1024 .f32) (main_arg2 : FVec F S4x1024x4096 .f32) (main_arg3 : FVec F S4x64 .f32) (main_arg4 : FVec F S4x64 .f32) : IVec S_ 1 :=
  let main_v0 : FVec F S1x1024x1536 .f32 := (extractStridedSlice S1x1024x1536 ![0, 0, 1024] · slices_S4x1024x4096_S1x1024x1536_0_0_1024) main_arg2
  let main_v1 : FVec F S1024x1536 .f32 := shapeCast S1024x1536 main_v0 shapeCasts_S1x1024x1536_S1024x1536
  let main_v2 : FVec F S1x1024 .f32 := (extractStridedSlice S1x1024 ![0, 0] · slices_S4x1024_S1x1024_0_0) main_arg1
  let main_v3 : FVec F S1024 .f32 := shapeCast S1024 main_v2 shapeCasts_S1x1024_S1024
  let main_v4 : FVec F S1024 .f32 := Host.absf main_v3
  let main_cst : FVec F S_ .f32 := constant S_ .f32 0x7F800000#32
  let main_v5 : FVec F S1024 .f32 := broadcastInDim S1024 ![] bcast_S_S1024 main_cst
  let main_v6 : IVec S1024 1 := cmpf .olt main_v4 main_v5
  let main_c : IVec S_ 1 := constantI S_ 1 1#1
  let main_v7 : IVec S_ 1 := (fun x v => Host.reduce IntOp.andi x v reducesTo_S1024_S_d0 h_S_) main_v6 main_c
  let main_v8 : FVec F S1024x1536 .f32 := Host.absf main_v1
  let main_cst_0 : FVec F S_ .f32 := constant S_ .f32 0x7F800000#32
  let main_v9 : FVec F S1024x1536 .f32 := broadcastInDim S1024x1536 ![] bcast_S_S1024x1536 main_cst_0
  let main_v10 : IVec S1024x1536 1 := cmpf .olt main_v8 main_v9
  let main_c_1 : IVec S_ 1 := constantI S_ 1 1#1
  let main_v11 : IVec S_ 1 := (fun x v => Host.reduce IntOp.andi x v reducesTo_S1024x1536_S_d0_1 h_S_) main_v10 main_c_1
  let main_v12 : IVec S_ 1 := andi main_v7 main_v11
  main_v12
-- ==== Pre_finite_qk.lean ====
abbrev S16384x256 : Shape := ⟨2, ![16384, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel

variable [Facts]

def fn {F : FTy → Type} [FloatOps F] (main_arg0 : FVec F S16384x256 .bf16) (main_arg1 : FVec F S16384x256 .bf16) (main_arg2 : FVec F S16384x256 .bf16) (main_arg3 : FVec F S16384x256 .bf16) : IVec S_ 1 :=
  let main_v0 : FVec F S16384x256 .bf16 := Host.absf main_arg0
  let main_cst : FVec F S_ .bf16 := constant S_ .bf16 0x7F80#16
  let main_v1 : FVec F S16384x256 .bf16 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x256 .bf16 := Host.absf main_arg1
  let main_cst_0 : FVec F S_ .bf16 := constant S_ .bf16 0x7F80#16
  let main_v5 : FVec F S16384x256 .bf16 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  main_v8
-- ==== Kernel.lean ====
abbrev S16384x256 : Shape := ⟨2, ![16384, 256]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S1024x256 : Shape := ⟨2, ![1024, 256]⟩
abbrev S16x128x128 : Shape := ⟨3, ![16, 128, 128]⟩
abbrev S16x128x256 : Shape := ⟨3, ![16, 128, 256]⟩
abbrev S128x256 : Shape := ⟨2, ![128, 256]⟩
abbrev S128x128 : Shape := ⟨2, ![128, 128]⟩
abbrev S256x128 : Shape := ⟨2, ![256, 128]⟩
abbrev S128 : Shape := ⟨1, ![128]⟩
abbrev S128x1 : Shape := ⟨2, ![128, 1]⟩
abbrev S1x128x128 : Shape := ⟨3, ![1, 128, 128]⟩
abbrev S1x128x256 : Shape := ⟨3, ![1, 128, 256]⟩
abbrev S1 : Shape := ⟨1, ![1]⟩
abbrev S1x1x1 : Shape := ⟨3, ![1, 1, 1]⟩

abbrev nBuf : Space → Nat
  | .hbm => 21
  | .vmem => 11
  | .smem => 0
  | _ => 0

abbrev bufTy : (tb : Table) → Fin (tcTables nBuf tb) → BufTy
  | .hbm, ⟨0, _⟩ => ⟨S16384x256, .bf16⟩
  | .hbm, ⟨1, _⟩ => ⟨S16384x256, .bf16⟩
  | .hbm, ⟨2, _⟩ => ⟨S16384x256, .bf16⟩
  | .hbm, ⟨3, _⟩ => ⟨S16384x256, .bf16⟩
  | .hbm, ⟨4, _⟩ => ⟨S256, .i32⟩
  | .hbm, ⟨5, _⟩ => ⟨S_, .i32⟩
  | .hbm, ⟨6, _⟩ => ⟨S256, .i32⟩
  | .hbm, ⟨7, _⟩ => ⟨S256, .i32⟩
  | .hbm, ⟨8, _⟩ => ⟨S256x1, .i32⟩
  | .hbm, ⟨9, _⟩ => ⟨S1x256, .i32⟩
  | .hbm, ⟨10, _⟩ => ⟨S256x256, .i32⟩
  | .hbm, ⟨11, _⟩ => ⟨S256x256, .i32⟩
  | .hbm, ⟨12, _⟩ => ⟨S256x256, .i1⟩
  | .hbm, ⟨13, _⟩ => ⟨S256x1, .i32⟩
  | .hbm, ⟨14, _⟩ => ⟨S1x256, .i32⟩
  | .hbm, ⟨15, _⟩ => ⟨S256x256, .i32⟩
  | .hbm, ⟨16, _⟩ => ⟨S256x256, .i32⟩
  | .hbm, ⟨17, _⟩ => ⟨S256x256, .i1⟩
  | .hbm, ⟨18, _⟩ => ⟨S256x256, .i1⟩
  | .hbm, ⟨19, _⟩ => ⟨S256x256, .bf16⟩
  | .hbm, ⟨20, _⟩ => ⟨S16384x256, .bf16⟩
  | .local _ .vmem, ⟨0, _⟩ => ⟨S1024x256, .bf16⟩
  | .local _ .vmem, ⟨1, _⟩ => ⟨S1024x256, .bf16⟩
  | .local _ .vmem, ⟨2, _⟩ => ⟨S16384x256, .bf16⟩
  | .local _ .vmem, ⟨3, _⟩ => ⟨S16384x256, .bf16⟩
  | .local _ .vmem, ⟨4, _⟩ => ⟨S1024x256, .bf16⟩
  | .local _ .vmem, ⟨5, _⟩ => ⟨S1024x256, .bf16⟩
  | .local _ .vmem, ⟨6, _⟩ => ⟨S256x256, .bf16⟩
  | .local _ .vmem, ⟨7, _⟩ => ⟨S1024x256, .bf16⟩
  | .local _ .vmem, ⟨8, _⟩ => ⟨S1024x256, .bf16⟩
  | .local _ .vmem, ⟨9, _⟩ => ⟨S16x128x128, .f32⟩
  | .local _ .vmem, ⟨10, _⟩ => ⟨S16x128x256, .f32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c8_i32 : BitVec 32 := 8#32
  let v21 : BitVec 32 := Scalar.muli arg0 c8_i32
  let c0_i32_4 : BitVec 32 := 0#32
  let v22 : BitVec 32 := Scalar.addi v21 c0_i32_4
  let c128_i32_5 : BitVec 32 := 128#32
  let v23 : BitVec 32 := Scalar.muli v22 c128_i32_5
  v23
def k0_mult2 (i : grid0.Coords) : BitVec 32 :=
  let arg0 : BitVec 32 := BitVec.ofNat 32 (i 0).val
  let c8_i32 : BitVec 32 := 8#32
  let v21 : BitVec 32 := Scalar.muli arg0 c8_i32
  let c0_i32_4 : BitVec 32 := 0#32
  let v22 : BitVec 32 := Scalar.addi v21 c0_i32_4
  let c1_i32_6 : BitVec 32 := 1#32
  let v25 : BitVec 32 := Scalar.subi v22 c1_i32_6
  let c0_i32_7 : BitVec 32 := 0#32
  let v26 : BitVec 32 := Scalar.maxsi v25 c0_i32_7
  let c128_i32_8 : BitVec 32 := 128#32
  let v27 : BitVec 32 := Scalar.muli v26 c128_i32_8
  v27
def k0_off1 (i : grid0.Coords) (c0_i32_4 : BitVec 32) : Fin 2 → Nat :=
  let arg0 : BitVec 32 := BitVec.ofNat 32 (i 0).val
  let c8_i32 : BitVec 32 := 8#32
  let v21 : BitVec 32 := Scalar.muli arg0 c8_i32
  let v22 : BitVec 32 := Scalar.addi v21 c0_i32_4
  let c128_i32_5 : BitVec 32 := 128#32
  let v23 : BitVec 32 := Scalar.muli v22 c128_i32_5
  let v24 : BitVec 32 := v23
  let v32 : Index := Scalar.indexCast v24
  let c0_13 : Index := 0#32
  ![v32.toNat, 0]
def k0_off2 (i : grid0.Coords) (c0_i32_4 : BitVec 32) : Fin 2 → Nat :=
  let arg0 : BitVec 32 := BitVec.ofNat 32 (i 0).val
  let c8_i32 : BitVec 32 := 8#32
  let v21 : BitVec 32 := Scalar.muli arg0 c8_i32
  let v22 : BitVec 32 := Scalar.addi v21 c0_i32_4
  let c1_i32_6 : BitVec 32 := 1#32
  let v25 : BitVec 32 := Scalar.subi v22 c1_i32_6
  let c0_i32_7 : BitVec 32 := 0#32
  let v26 : BitVec 32 := Scalar.maxsi v25 c0_i32_7
  let c128_i32_8 : BitVec 32 := 128#32
  let v27 : BitVec 32 := Scalar.muli v26 c128_i32_8
  let v28 : BitVec 32 := v27
  let v95 : Index := Scalar.indexCast v28
  let c0_33 : Index := 0#32
  ![v95.toNat, 0]
def k0_off3 (i : grid0.Coords) (c0_i32_4 : BitVec 32) : Fin 2 → Nat :=
  let arg0 : BitVec 32 := BitVec.ofNat 32 (i 0).val
  let c8_i32 : BitVec 32 := 8#32
  let v21 : BitVec 32 := Scalar.muli arg0 c8_i32
  let v22 : BitVec 32 := Scalar.addi v21 c0_i32_4
  let c128_i32_5 : BitVec 32 := 128#32
  let v23 : BitVec 32 := Scalar.muli v22 c128_i32_5
  let v24 : BitVec 32 := v23
  let v175 : Index := Scalar.indexCast v24
  let c128_58 : Index := 128#32
  ![v175.toNat, 128]
def k0_off4 (i : grid0.Coords) (c0_i32_4 : BitVec 32) : Fin 2 → Nat :=
  let arg0 : BitVec 32 := BitVec.ofNat 32 (i 0).val
  let c8_i32 : BitVec 32 := 8#32
  let v21 : BitVec 32 := Scalar.muli arg0 c8_i32
  let v22 : BitVec 32 := Scalar.addi v21 c0_i32_4
  let c1_i32_6 : BitVec 32 := 1#32
  let v25 : BitVec 32 := Scalar.subi v22 c1_i32_6
  let c0_i32_7 : BitVec 32 := 0#32
  let v26 : BitVec 32 := Scalar.maxsi v25 c0_i32_7
  let c128_i32_8 : BitVec 32 := 128#32
  let v27 : BitVec 32 := Scalar.muli v26 c128_i32_8
  let v28 : BitVec 32 := v27
  let v238 : Index := Scalar.indexCast v28
  let c128_79 : Index := 128#32
  ![v238.toNat, 128]
def k0_mult3 (i : grid0.Coords) : BitVec 32 :=
  let arg0 : BitVec 32 := BitVec.ofNat 32 (i 0).val
  let c8_i32_104 : BitVec 32 := 8#32
  let v323 : BitVec 32 := Scalar.muli arg0 c8_i32_104
  let c1_i32_105 : BitVec 32 := 1#32
  let v324 : BitVec 32 := Scalar.addi v323 c1_i32_105
  let c128_i32_106 : BitVec 32 := 128#32
  let v325 : BitVec 32 := Scalar.muli v324 c128_i32_106
  v325
def k0_mult4 (i : grid0.Coords) : BitVec 32 :=
  let arg0 : BitVec 32 := BitVec.ofNat 32 (i 0).val
  let c8_i32_104 : BitVec 32 := 8#32
  let v323 : BitVec 32 := Scalar.muli arg0 c8_i32_104
  let c1_i32_105 : BitVec 32 := 1#32
  let v324 : BitVec 32 := Scalar.addi v323 c1_i32_105
  let c1_i32_107 : BitVec 32 := 1#32
  let v327 : BitVec 32 := Scalar.subi v324 c1_i32_107
  let c0_i32_108 : BitVec 32 := 0#32
  let v328 : BitVec 32 := Scalar.maxsi v327 c0_i32_108
  let c128_i32_109 : BitVec 32 := 128#32
  let v329 : BitVec 32 := Scalar.muli v328 c128_i32_109
  v329
def k0_mult5 (i : grid0.Coords) : BitVec 32 :=
  let arg0 : BitVec 32 := BitVec.ofNat 32 (i 0).val
  let c8_i32_207 : BitVec 32 := 8#32
  let v625 : BitVec 32 := Scalar.muli arg0 c8_i32_207
  let c2_i32 : BitVec 32 := 2#32
  let v626 : BitVec 32 := Scalar.addi v625 c2_i32
  let c128_i32_208 : BitVec 32 := 128#32
  let v627 : BitVec 32 := Scalar.muli v626 c128_i32_208
  v627
def k0_mult6 (i : grid0.Coords) : BitVec 32 :=
  let arg0 : BitVec 32 := BitVec.ofNat 32 (i 0).val
  let c8_i32_207 : BitVec 32 := 8#32
  let v625 : BitVec 32 := Scalar.muli arg0 c8_i32_207
  let c2_i32 : BitVec 32 := 2#32
  let v626 : BitVec 32 := Scalar.addi v625 c2_i32
  let c1_i32_209 : BitVec 32 := 1#32
  let v629 : BitVec 32 := Scalar.subi v626 c1_i32_209
  let c0_i32_210 : BitVec 32 := 0#32
  let v630 : BitVec 32 := Scalar.maxsi v629 c0_i32_210
  let c128_i32_211 : BitVec 32 := 128#32
  let v631 : BitVec 32 := Scalar.muli v630 c128_i32_211
  v631
def k0_mult7 (i : grid0.Coords) : BitVec 32 :=
  let arg0 : BitVec 32 := BitVec.ofNat 32 (i 0).val
  let c8_i32_308 : BitVec 32 := 8#32
  let v927 : BitVec 32 := Scalar.muli arg0 c8_i32_308
  let c3_i32 : BitVec 32 := 3#32
  let v928 : BitVec 32 := Scalar.addi v927 c3_i32
  let c128_i32_309 : BitVec 32 := 128#32
  let v929 : BitVec 32 := Scalar.muli v928 c128_i32_309
  v929
def k0_mult8 (i : grid0.Coords) : BitVec 32 :=
  let arg0 : BitVec 32 := BitVec.ofNat 32 (i 0).val
  let c8_i32_308 : BitVec 32 := 8#32
  let v927 : BitVec 32 := Scalar.muli arg0 c8_i32_308
  let c3_i32 : BitVec 32 := 3#32
  let v928 : BitVec 32 := Scalar.addi v927 c3_i32
  let c1_i32_310 : BitVec 32 := 1#32
  let v931 : BitVec 32 := Scalar.subi v928 c1_i32_310
  let c0_i32_311 : BitVec 32 := 0#32
  let v932 : BitVec 32 := Scalar.maxsi v931 c0_i32_311
  let c128_i32_312 : BitVec 32 := 128#32
  let v933 : BitVec 32 := Scalar.muli v932 c128_i32_312
  v933
def k0_mult9 (i : grid0.Coords) : BitVec 32 :=
  let arg0 : BitVec 32 := BitVec.ofNat 32 (i 0).val
  let c8_i32_409 : BitVec 32 := 8#32
  let v1229 : BitVec 32 := Scalar.muli arg0 c8_i32_409
  let c4_i32 : BitVec 32 := 4#32
  let v1230 : BitVec 32 := Scalar.addi v1229 c4_i32
  let c128_i32_410 : BitVec 32 := 128#32
  let v1231 : BitVec 32 := Scalar.muli v1230 c128_i32_410
  v1231
def k0_mult10 (i : grid0.Coords) : BitVec 32 :=
  let arg0 : BitVec 32 := BitVec.ofNat 32 (i 0).val
  let c8_i32_409 : BitVec 32 := 8#32
  let v1229 : BitVec 32 := Scalar.muli arg0 c8_i32_409
  let c4_i32 : BitVec 32 := 4#32
  let v1230 : BitVec 32 := Scalar.addi v1229 c4_i32
  let c1_i32_411 : BitVec 32 := 1#32
  let v1233 : BitVec 32 := Scalar.subi v1230 c1_i32_411
  let c0_i32_412 : BitVec 32 := 0#32
  let v1234 : BitVec 32 := Scalar.maxsi v1233 c0_i32_412
  let c128_i32_413 : BitVec 32 := 128#32
  let v1235 : BitVec 32 := Scalar.muli v1234 c128_i32_413
  v1235
def k0_mult11 (i : grid0.Coords) : BitVec 32 :=
  let arg0 : BitVec 32 := BitVec.ofNat 32 (i 0).val
  let c8_i32_510 : BitVec 32 := 8#32
  let v1531 : BitVec 32 := Scalar.muli arg0 c8_i32_510
  let c5_i32 : BitVec 32 := 5#32
  let v1532 : BitVec 32 := Scalar.addi v1531 c5_i32
  let c128_i32_511 : BitVec 32 := 128#32
  let v1533 : BitVec 32 := Scalar.muli v1532 c128_i32_511
  v1533
def k0_mult12 (i : grid0.Coords) : BitVec 32 :=
  let arg0 : BitVec 32 := BitVec.ofNat 32 (i 0).val
  let c8_i32_510 : BitVec 32 := 8#32
  let v1531 : BitVec 32 := Scalar.muli arg0 c8_i32_510
  let c5_i32 : BitVec 32 := 5#32
  let v1532 : BitVec 32 := Scalar.addi v1531 c5_i32
  let c1_i32_512 : BitVec 32 := 1#32
  let v1535 : BitVec 32 := Scalar.subi v1532 c1_i32_512
  let c0_i32_513 : BitVec 32 := 0#32
  let v1536 : BitVec 32 := Scalar.maxsi v1535 c0_i32_513
  let c128_i32_514 : BitVec 32 := 128#32
  let v1537 : BitVec 32 := Scalar.muli v1536 c128_i32_514
  v1537
def k0_mult13 (i : grid0.Coords) : BitVec 32 :=
  let arg0 : BitVec 32 := BitVec.ofNat 32 (i 0).val
  let c8_i32_611 : BitVec 32 := 8#32
  let v1833 : BitVec 32 := Scalar.muli arg0 c8_i32_611
  let c6_i32 : BitVec 32 := 6#32
  let v1834 : BitVec 32 := Scalar.addi v1833 c6_i32
  let c128_i32_612 : BitVec 32 := 128#32
  let v1835 : BitVec 32 := Scalar.muli v1834 c128_i32_612
  v1835
def k0_mult14 (i : grid0.Coords) : BitVec 32 :=
  let arg0 : BitVec 32 := BitVec.ofNat 32 (i 0).val
  let c8_i32_611 : BitVec 32 := 8#32
  let v1833 : BitVec 32 := Scalar.muli arg0 c8_i32_611
  let c6_i32 : BitVec 32 := 6#32
  let v1834 : BitVec 32 := Scalar.addi v1833 c6_i32
  let c1_i32_613 : BitVec 32 := 1#32
  let v1837 : BitVec 32 := Scalar.subi v1834 c1_i32_613
  let c0_i32_614 : BitVec 32 := 0#32
  let v1838 : BitVec 32 := Scalar.maxsi v1837 c0_i32_614
  let c128_i32_615 : BitVec 32 := 128#32
  let v1839 : BitVec 32 := Scalar.muli v1838 c128_i32_615
  v1839
def k0_mult15 (i : grid0.Coords) : BitVec 32 :=
  let arg0 : BitVec 32 := BitVec.ofNat 32 (i 0).val
  let c8_i32_712 : BitVec 32 := 8#32
  let v2135 : BitVec 32 := Scalar.muli arg0 c8_i32_712
  let c7_i32 : BitVec 32 := 7#32
  let v2136 : BitVec 32 := Scalar.addi v2135 c7_i32
  let c128_i32_713 : BitVec 32 := 128#32
  let v2137 : BitVec 32 := Scalar.muli v2136 c128_i32_713
  v2137
def k0_mult16 (i : grid0.Coords) : BitVec 32 :=
  let arg0 : BitVec 32 := BitVec.ofNat 32 (i 0).val
  let c8_i32_712 : BitVec 32 := 8#32
  let v2135 : BitVec 32 := Scalar.muli arg0 c8_i32_712
  let c7_i32 : BitVec 32 := 7#32
  let v2136 : BitVec 32 := Scalar.addi v2135 c7_i32
  let c1_i32_714 : BitVec 32 := 1#32
  let v2139 : BitVec 32 := Scalar.subi v2136 c1_i32_714
  let c0_i32_715 : BitVec 32 := 0#32
  let v2140 : BitVec 32 := Scalar.maxsi v2139 c0_i32_715
  let c128_i32_716 : BitVec 32 := 128#32
  let v2141 : BitVec 32 := Scalar.muli v2140 c128_i32_716
  v2141
def k0_mult17 (arg9 : BitVec 32) : BitVec 32 :=
  let c128_i32_949 : BitVec 32 := 128#32
  let v2581 : BitVec 32 := Scalar.muli arg9 c128_i32_949
  v2581

def k0_off5 (arg9 : BitVec 32) : Fin 2 → Nat :=
  let c128_i32_949 : BitVec 32 := 128#32
  let v2581 : BitVec 32 := Scalar.muli arg9 c128_i32_949
  let v2582 : BitVec 32 := v2581
  let v2585 : Index := Scalar.indexCast v2582
  let c0_953 : Index := 0#32
  ![v2585.toNat, 0]
def k0_off6 (arg9 : BitVec 32) : Fin 2 → Nat :=
  let c128_i32_949 : BitVec 32 := 128#32
  let v2581 : BitVec 32 := Scalar.muli arg9 c128_i32_949
  let v2582 : BitVec 32 := v2581
  let v2660 : Index := Scalar.indexCast v2582
  let c128_983 : Index := 128#32
  ![v2660.toNat, 128]

def k0_chk1 (arg9 : BitVec 32) : Prop :=
  (128 ∣ (k0_mult17 arg9).toNat) ∧
  (∀ a, (k0_off5 arg9) a + S128x128.size a ≤ S16384x256.size a) ∧
  (∀ a, (k0_off6 arg9) a + S128x128.size a ≤ S16384x256.size a)
theorem k0_mult17_dvd : ∀ (arg9 : BitVec 32) (k0_hw1 : k0_chk1 arg9), 128 ∣ (k0_mult17 arg9).toNat := fun arg9 k0_hw1 => k0_hw1.1
theorem k0_off5_inb : ∀ (arg9 : BitVec 32) (k0_hw1 : k0_chk1 arg9), ∀ a, (k0_off5 arg9) a + S128x128.size a ≤ S16384x256.size a := fun arg9 k0_hw1 => k0_hw1.2.1
theorem k0_off6_inb : ∀ (arg9 : BitVec 32) (k0_hw1 : k0_chk1 arg9), ∀ a, (k0_off6 arg9) a + S128x128.size a ≤ S16384x256.size a := fun arg9 k0_hw1 => k0_hw1.2.2

def k0_mult18 (arg9 : BitVec 32) : BitVec 32 :=
  let c128_i32_949 : BitVec 32 := 128#32
  let v2581 : BitVec 32 := Scalar.muli arg9 c128_i32_949
  v2581

def k0_off7 (arg9 : BitVec 32) : Fin 2 → Nat :=
  let c128_i32_949 : BitVec 32 := 128#32
  let v2581 : BitVec 32 := Scalar.muli arg9 c128_i32_949
  let v2582 : BitVec 32 := v2581
  let v2585 : Index := Scalar.indexCast v2582
  let c0_953 : Index := 0#32
  ![v2585.toNat, 0]
def k0_off8 (arg9 : BitVec 32) : Fin 2 → Nat :=
  let c128_i32_949 : BitVec 32 := 128#32
  let v2581 : BitVec 32 := Scalar.muli arg9 c128_i32_949
  let v2582 : BitVec 32 := v2581
  let v2660 : Index := Scalar.indexCast v2582
  let c128_983 : Index := 128#32
  ![v2660.toNat, 128]

def k0_chk2 (arg9 : BitVec 32) : Prop :=
  (128 ∣ (k0_mult18 arg9).toNat) ∧
  (∀ a, (k0_off7 arg9) a + S128x128.size a ≤ S16384x256.size a) ∧
  (∀ a, (k0_off8 arg9) a + S128x128.size a ≤ S16384x256.size a)
theorem k0_mult18_dvd : ∀ (arg9 : BitVec 32) (k0_hw2 : k0_chk2 arg9), 128 ∣ (k0_mult18 arg9).toNat := fun arg9 k0_hw2 => k0_hw2.1
theorem k0_off7_inb : ∀ (arg9 : BitVec 32) (k0_hw2 : k0_chk2 arg9), ∀ a, (k0_off7 arg9) a + S128x128.size a ≤ S16384x256.size a := fun arg9 k0_hw2 => k0_hw2.2.1
theorem k0_off8_inb : ∀ (arg9 : BitVec 32) (k0_hw2 : k0_chk2 arg9), ∀ a, (k0_off8 arg9) a + S128x128.size a ≤ S16384x256.size a := fun arg9 k0_hw2 => k0_hw2.2.2

def k0_mult19 (arg9 : BitVec 32) : BitVec 32 :=
  let c128_i32_949 : BitVec 32 := 128#32
  let v2581 : BitVec 32 := Scalar.muli arg9 c128_i32_949
  v2581

def k0_off9 (arg9 : BitVec 32) : Fin 2 → Nat :=
  let c128_i32_949 : BitVec 32 := 128#32
  let v2581 : BitVec 32 := Scalar.muli arg9 c128_i32_949
  let v2582 : BitVec 32 := v2581
  let v2585 : Index := Scalar.indexCast v2582
  let c0_953 : Index := 0#32
  ![v2585.toNat, 0]
def k0_off10 (arg9 : BitVec 32) : Fin 2 → Nat :=
  let c128_i32_949 : BitVec 32 := 128#32
  let v2581 : BitVec 32 := Scalar.muli arg9 c128_i32_949
  let v2582 : BitVec 32 := v2581
  let v2660 : Index := Scalar.indexCast v2582
  let c128_983 : Index := 128#32
  ![v2660.toNat, 128]

def k0_chk3 (arg9 : BitVec 32) : Prop :=
  (128 ∣ (k0_mult19 arg9).toNat) ∧
  (∀ a, (k0_off9 arg9) a + S128x128.size a ≤ S16384x256.size a) ∧
  (∀ a, (k0_off10 arg9) a + S128x128.size a ≤ S16384x256.size a)
theorem k0_mult19_dvd : ∀ (arg9 : BitVec 32) (k0_hw3 : k0_chk3 arg9), 128 ∣ (k0_mult19 arg9).toNat := fun arg9 k0_hw3 => k0_hw3.1
theorem k0_off9_inb : ∀ (arg9 : BitVec 32) (k0_hw3 : k0_chk3 arg9), ∀ a, (k0_off9 arg9) a + S128x128.size a ≤ S16384x256.size a := fun arg9 k0_hw3 => k0_hw3.2.1
theorem k0_off10_inb : ∀ (arg9 : BitVec 32) (k0_hw3 : k0_chk3 arg9), ∀ a, (k0_off10 arg9) a + S128x128.size a ≤ S16384x256.size a := fun arg9 k0_hw3 => k0_hw3.2.2

def k0_mult20 (arg9 : BitVec 32) : BitVec 32 :=
  let c128_i32_949 : BitVec 32 := 128#32
  let v2581 : BitVec 32 := Scalar.muli arg9 c128_i32_949
  v2581

def k0_off11 (arg9 : BitVec 32) : Fin 2 → Nat :=
  let c128_i32_949 : BitVec 32 := 128#32
  let v2581 : BitVec 32 := Scalar.muli arg9 c128_i32_949
  let v2582 : BitVec 32 := v2581
  let v2585 : Index := Scalar.indexCast v2582
  let c0_953 : Index := 0#32
  ![v2585.toNat, 0]
def k0_off12 (arg9 : BitVec 32) : Fin 2 → Nat :=
  let c128_i32_949 : BitVec 32 := 128#32
  let v2581 : BitVec 32 := Scalar.muli arg9 c128_i32_949
  let v2582 : BitVec 32 := v2581
  let v2660 : Index := Scalar.indexCast v2582
  let c128_983 : Index := 128#32
  ![v2660.toNat, 128]

def k0_chk4 (arg9 : BitVec 32) : Prop :=
  (128 ∣ (k0_mult20 arg9).toNat) ∧
  (∀ a, (k0_off11 arg9) a + S128x128.size a ≤ S16384x256.size a) ∧
  (∀ a, (k0_off12 arg9) a + S128x128.size a ≤ S16384x256.size a)
theorem k0_mult20_dvd : ∀ (arg9 : BitVec 32) (k0_hw4 : k0_chk4 arg9), 128 ∣ (k0_mult20 arg9).toNat := fun arg9 k0_hw4 => k0_hw4.1
theorem k0_off11_inb : ∀ (arg9 : BitVec 32) (k0_hw4 : k0_chk4 arg9), ∀ a, (k0_off11 arg9) a + S128x128.size a ≤ S16384x256.size a := fun arg9 k0_hw4 => k0_hw4.2.1
theorem k0_off12_inb : ∀ (arg9 : BitVec 32) (k0_hw4 : k0_chk4 arg9), ∀ a, (k0_off12 arg9) a + S128x128.size a ≤ S16384x256.size a := fun arg9 k0_hw4 => k0_hw4.2.2

def k0_mult21 (arg9 : BitVec 32) : BitVec 32 :=
  let c128_i32_949 : BitVec 32 := 128#32
  let v2581 : BitVec 32 := Scalar.muli arg9 c128_i32_949
  v2581

def k0_off13 (arg9 : BitVec 32) : Fin 2 → Nat :=
  let c128_i32_949 : BitVec 32 := 128#32
  let v2581 : BitVec 32 := Scalar.muli arg9 c128_i32_949
  let v2582 : BitVec 32 := v2581
  let v2585 : Index := Scalar.indexCast v2582
  let c0_953 : Index := 0#32
  ![v2585.toNat, 0]
def k0_off14 (arg9 : BitVec 32) : Fin 2 → Nat :=
  let c128_i32_949 : BitVec 32 := 128#32
  let v2581 : BitVec 32 := Scalar.muli arg9 c128_i32_949
  let v2582 : BitVec 32 := v2581
  let v2660 : Index := Scalar.indexCast v2582
  let c128_983 : Index := 128#32
  ![v2660.toNat, 128]

def k0_chk5 (arg9 : BitVec 32) : Prop :=
  (128 ∣ (k0_mult21 arg9).toNat) ∧
  (∀ a, (k0_off13 arg9) a + S128x128.size a ≤ S16384x256.size a) ∧
  (∀ a, (k0_off14 arg9) a + S128x128.size a ≤ S16384x256.size a)
theorem k0_mult21_dvd : ∀ (arg9 : BitVec 32) (k0_hw5 : k0_chk5 arg9), 128 ∣ (k0_mult21 arg9).toNat := fun arg9 k0_hw5 => k0_hw5.1
theorem k0_off13_inb : ∀ (arg9 : BitVec 32) (k0_hw5 : k0_chk5 arg9), ∀ a, (k0_off13 arg9) a + S128x128.size a ≤ S16384x256.size a := fun arg9 k0_hw5 => k0_hw5.2.1
theorem k0_off14_inb : ∀ (arg9 : BitVec 32) (k0_hw5 : k0_chk5 arg9), ∀ a, (k0_off14 arg9) a + S128x128.size a ≤ S16384x256.size a := fun arg9 k0_hw5 => k0_hw5.2.2

def k0_mult22 (arg9 : BitVec 32) : BitVec 32 :=
  let c128_i32_949 : BitVec 32 := 128#32
  let v2581 : BitVec 32 := Scalar.muli arg9 c128_i32_949
  v2581

def k0_off15 (arg9 : BitVec 32) : Fin 2 → Nat :=
  let c128_i32_949 : BitVec 32 := 128#32
  let v2581 : BitVec 32 := Scalar.muli arg9 c128_i32_949
  let v2582 : BitVec 32 := v2581
  let v2585 : Index := Scalar.indexCast v2582
  let c0_953 : Index := 0#32
  ![v2585.toNat, 0]
def k0_off16 (arg9 : BitVec 32) : Fin 2 → Nat :=
  let c128_i32_949 : BitVec 32 := 128#32
  let v2581 : BitVec 32 := Scalar.muli arg9 c128_i32_949
  let v2582 : BitVec 32 := v2581
  let v2660 : Index := Scalar.indexCast v2582
  let c128_983 : Index := 128#32
  ![v2660.toNat, 128]

def k0_chk6 (arg9 : BitVec 32) : Prop :=
  (128 ∣ (k0_mult22 arg9).toNat) ∧
  (∀ a, (k0_off15 arg9) a + S128x128.size a ≤ S16384x256.size a) ∧
  (∀ a, (k0_off16 arg9) a + S128x128.size a ≤ S16384x256.size a)
theorem k0_mult22_dvd : ∀ (arg9 : BitVec 32) (k0_hw6 : k0_chk6 arg9), 128 ∣ (k0_mult22 arg9).toNat := fun arg9 k0_hw6 => k0_hw6.1
theorem k0_off15_inb : ∀ (arg9 : BitVec 32) (k0_hw6 : k0_chk6 arg9), ∀ a, (k0_off15 arg9) a + S128x128.size a ≤ S16384x256.size a := fun arg9 k0_hw6 => k0_hw6.2.1
theorem k0_off16_inb : ∀ (arg9 : BitVec 32) (k0_hw6 : k0_chk6 arg9), ∀ a, (k0_off16 arg9) a + S128x128.size a ≤ S16384x256.size a := fun arg9 k0_hw6 => k0_hw6.2.2

def k0_mult23 (arg9 : BitVec 32) : BitVec 32 :=
  let c128_i32_949 : BitVec 32 := 128#32
  let v2581 : BitVec 32 := Scalar.muli arg9 c128_i32_949
  v2581

def k0_off17 (arg9 : BitVec 32) : Fin 2 → Nat :=
  let c128_i32_949 : BitVec 32 := 128#32
  let v2581 : BitVec 32 := Scalar.muli arg9 c128_i32_949
  let v2582 : BitVec 32 := v2581
  let v2585 : Index := Scalar.indexCast v2582
  let c0_953 : Index := 0#32
  ![v2585.toNat, 0]
def k0_off18 (arg9 : BitVec 32) : Fin 2 → Nat :=
  let c128_i32_949 : BitVec 32 := 128#32
  let v2581 : BitVec 32 := Scalar.muli arg9 c128_i32_949
  let v2582 : BitVec 32 := v2581
  let v2660 : Index := Scalar.indexCast v2582
  let c128_983 : Index := 128#32
  ![v2660.toNat, 128]

def k0_chk7 (arg9 : BitVec 32) : Prop :=
  (128 ∣ (k0_mult23 arg9).toNat) ∧
  (∀ a, (k0_off17 arg9) a + S128x128.size a ≤ S16384x256.size a) ∧
  (∀ a, (k0_off18 arg9) a + S128x128.size a ≤ S16384x256.size a)
theorem k0_mult23_dvd : ∀ (arg9 : BitVec 32) (k0_hw7 : k0_chk7 arg9), 128 ∣ (k0_mult23 arg9).toNat := fun arg9 k0_hw7 => k0_hw7.1
theorem k0_off17_inb : ∀ (arg9 : BitVec 32) (k0_hw7 : k0_chk7 arg9), ∀ a, (k0_off17 arg9) a + S128x128.size a ≤ S16384x256.size a := fun arg9 k0_hw7 => k0_hw7.2.1
theorem k0_off18_inb : ∀ (arg9 : BitVec 32) (k0_hw7 : k0_chk7 arg9), ∀ a, (k0_off18 arg9) a + S128x128.size a ≤ S16384x256.size a := fun arg9 k0_hw7 => k0_hw7.2.2

def k0_mult24 (arg9 : BitVec 32) : BitVec 32 :=
  let c128_i32_949 : BitVec 32 := 128#32
  let v2581 : BitVec 32 := Scalar.muli arg9 c128_i32_949
  v2581

def k0_off19 (arg9 : BitVec 32) : Fin 2 → Nat :=
  let c128_i32_949 : BitVec 32 := 128#32
  let v2581 : BitVec 32 := Scalar.muli arg9 c128_i32_949
  let v2582 : BitVec 32 := v2581
  let v2585 : Index := Scalar.indexCast v2582
  let c0_953 : Index := 0#32
  ![v2585.toNat, 0]
def k0_off20 (arg9 : BitVec 32) : Fin 2 → Nat :=
  let c128_i32_949 : BitVec 32 := 128#32
  let v2581 : BitVec 32 := Scalar.muli arg9 c128_i32_949
  let v2582 : BitVec 32 := v2581
  let v2660 : Index := Scalar.indexCast v2582
  let c128_983 : Index := 128#32
  ![v2660.toNat, 128]

def k0_chk8 (arg9 : BitVec 32) : Prop :=
  (128 ∣ (k0_mult24 arg9).toNat) ∧
  (∀ a, (k0_off19 arg9) a + S128x128.size a ≤ S16384x256.size a) ∧
  (∀ a, (k0_off20 arg9) a + S128x128.size a ≤ S16384x256.size a)
theorem k0_mult24_dvd : ∀ (arg9 : BitVec 32) (k0_hw8 : k0_chk8 arg9), 128 ∣ (k0_mult24 arg9).toNat := fun arg9 k0_hw8 => k0_hw8.1
theorem k0_off19_inb : ∀ (arg9 : BitVec 32) (k0_hw8 : k0_chk8 arg9), ∀ a, (k0_off19 arg9) a + S128x128.size a ≤ S16384x256.size a := fun arg9 k0_hw8 => k0_hw8.2.1
theorem k0_off20_inb : ∀ (arg9 : BitVec 32) (k0_hw8 : k0_chk8 arg9), ∀ a, (k0_off20 arg9) a + S128x128.size a ≤ S16384x256.size a := fun arg9 k0_hw8 => k0_hw8.2.2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16384x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "floor" => some ⊥
  | "log2e" => some (((Real.log 2)⁻¹ : ℝ) : EReal)
  | "no_key" => some ⊥
  | _ => none
-- ==== ReferenceIdeal.lean ====
abbrev S16384x256 : Shape := ⟨2, ![16384, 256]⟩
abbrev S16384x4x64 : Shape := ⟨3, ![16384, 4, 64]⟩
abbrev S4x16384x64 : Shape := ⟨3, ![4, 16384, 64]⟩
abbrev S4x16384x16384 : Shape := ⟨3, ![4, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩

abbrev nBuf : Space → Nat
  | .hbm => 67
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S16384x256, .bf16⟩
  | .hbm, ⟨2, _⟩ => ⟨S16384x256, .bf16⟩
  | .hbm, ⟨3, _⟩ => ⟨S16384x256, .bf16⟩
  | .hbm, ⟨4, _⟩ => ⟨S16384x256, .f32⟩
  | .hbm, ⟨5, _⟩ => ⟨S16384x4x64, .f32⟩
  | .hbm, ⟨6, _⟩ => ⟨S4x16384x64, .f32⟩
  | .hbm, ⟨7, _⟩ => ⟨S16384x256, .f32⟩
  | .hbm, ⟨8, _⟩ => ⟨S16384x4x64, .f32⟩
  | .hbm, ⟨9, _⟩ => ⟨S4x16384x64, .f32⟩
  | .hbm, ⟨10, _⟩ => ⟨S16384x256, .f32⟩
  | .hbm, ⟨11, _⟩ => ⟨S16384x4x64, .f32⟩
  | .hbm, ⟨12, _⟩ => ⟨S4x16384x64, .f32⟩
  | .hbm, ⟨13, _⟩ => ⟨S4x16384x16384, .f32⟩
  | .hbm, ⟨14, _⟩ => ⟨S_, .f32⟩
  | .hbm, ⟨15, _⟩ => ⟨S_, .f32⟩
  | .hbm, ⟨16, _⟩ => ⟨S4x16384x16384, .f32⟩
  | .hbm, ⟨17, _⟩ => ⟨S4x16384x16384, .f32⟩
  | .hbm, ⟨18, _⟩ => ⟨S16384, .i32⟩
  | .hbm, ⟨19, _⟩ => ⟨S1x16384, .i32⟩
  | .hbm, ⟨20, _⟩ => ⟨S16384x1, .i32⟩
  | .hbm, ⟨21, _⟩ => ⟨S16384x16384, .i32⟩
  | .hbm, ⟨22, _⟩ => ⟨S16384x16384, .i32⟩
  | .hbm, ⟨23, _⟩ => ⟨S16384x16384, .i1⟩
  | .hbm, ⟨24, _⟩ => ⟨S1x16384x16384, .i1⟩
  | .hbm, ⟨25, _⟩ => ⟨S4x16384x16384, .f32⟩
  | .hbm, ⟨26, _⟩ => ⟨S_, .f32⟩
  | .hbm, ⟨27, _⟩ => ⟨S4x16384x16384, .f32⟩
  | .hbm, ⟨28, _⟩ => ⟨S4x16384x16384, .f32⟩
  | .hbm, ⟨29, _⟩ => ⟨S4x16384x16384, .f32⟩
  | .hbm, ⟨30, _⟩ => ⟨S4x16384x16384, .f32⟩
  | .hbm, ⟨31, _⟩ => ⟨S4x16384x16384, .i1⟩
  | .hbm, ⟨32, _⟩ => ⟨S4x16384x16384, .f32⟩
  | .hbm, ⟨33, _⟩ => ⟨S4x16384x16384, .f32⟩
  | .hbm, ⟨34, _⟩ => ⟨S4x16384x16384, .f32⟩
  | .hbm, ⟨35, _⟩ => ⟨S4x16384x16384, .f32⟩
  | .hbm, ⟨36, _⟩ => ⟨S4x16384x16384, .f32⟩
  | .hbm, ⟨37, _⟩ => ⟨S4x16384x16384, .f32⟩
  | .hbm, ⟨38, _⟩ => ⟨S4x16384x16384, .f32⟩
  | .hbm, ⟨39, _⟩ => ⟨S4x16384x16384, .f32⟩
  | .hbm, ⟨40, _⟩ => ⟨S4x16384x16384, .f32⟩
  | .hbm, ⟨41, _⟩ => ⟨S4x16384x16384, .f32⟩
  | .hbm, ⟨42, _⟩ => ⟨S_, .f32⟩
  | .hbm, ⟨43, _⟩ => ⟨S_, .f32⟩
  | .hbm, ⟨44, _⟩ => ⟨S4x16384x16384, .i1⟩
  | .hbm, ⟨45, _⟩ => ⟨S4x16384x16384, .f32⟩
  | .hbm, ⟨46, _⟩ => ⟨S4x16384x16384, .f32⟩
  | .hbm, ⟨47, _⟩ => ⟨S16384x1, .i32⟩
  | .hbm, ⟨48, _⟩ => ⟨S1x16384, .i32⟩
  | .hbm, ⟨49, _⟩ => ⟨S16384x16384, .i32⟩
  | .hbm, ⟨50, _⟩ => ⟨S16384x16384, .i32⟩
  | .hbm, ⟨51, _⟩ => ⟨S16384x16384, .i1⟩
  | .hbm, ⟨52, _⟩ => ⟨S16384x16384, .f32⟩
  | .hbm, ⟨53, _⟩ => ⟨S4x16384x16384, .f32⟩
  | .hbm, ⟨54, _⟩ => ⟨S4x16384x16384, .f32⟩
  | .hbm, ⟨55, _⟩ => ⟨S4x16384x16384, .f32⟩
  | .hbm, ⟨56, _⟩ => ⟨S_, .f32⟩
  | .hbm, ⟨57, _⟩ => ⟨S_, .f32⟩
  | .hbm, ⟨58, _⟩ => ⟨S4x16384x16384, .i1⟩
  | .hbm, ⟨59, _⟩ => ⟨S4x16384x16384, .f32⟩
  | .hbm, ⟨60, _⟩ => ⟨S4x16384x16384, .f32⟩
  | .hbm, ⟨61, _⟩ => ⟨S4x16384x64, .f32⟩
  | .hbm, ⟨62, _⟩ => ⟨S16384x4x64, .f32⟩
  | .hbm, ⟨63, _⟩ => ⟨S16384x256, .f32⟩
  | .hbm, ⟨64, _⟩ => ⟨S16384x256, .f32⟩
  | .hbm, ⟨65, _⟩ => ⟨S16384x256, .f32⟩
  | .hbm, ⟨66, _⟩ => ⟨S16384x256, .bf16⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v20 : Ref sig .tc := ⟨.hbm, 40, rfl⟩
abbrev main_v21 : Ref sig .tc := ⟨.hbm, 41, rfl⟩
abbrev main_cst_0 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_1 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩

abbrev nD : Nat := 1
abbrev τ : Topo := Topo.v7x

variable {F : FTy → Type} [FloatOps F]
-- ==== Kernel2.lean ====
abbrev S16384x1024 : Shape := ⟨2, ![16384, 1024]⟩
abbrev S4x1024 : Shape := ⟨2, ![4, 1024]⟩
abbrev S4x1024x4096 : Shape := ⟨3, ![4, 1024, 4096]⟩
abbrev S4x64 : Shape := ⟨2, ![4, 64]⟩
abbrev S128 : Shape := ⟨1, ![128]⟩
abbrev S1x128 : Shape := ⟨2, ![1, 128]⟩
abbrev S8 : Shape := ⟨1, ![8]⟩
abbrev S_ : Shape := ⟨0, ![]⟩
abbrev S16384 : Shape := ⟨1, ![16384]⟩
abbrev S16384x1 : Shape := ⟨2, ![16384, 1]⟩
abbrev S128x1 : Shape := ⟨2, ![128, 1]⟩
abbrev S16384x128 : Shape := ⟨2, ![16384, 128]⟩
abbrev S4x1x1024 : Shape := ⟨3, ![4, 1, 1024]⟩
abbrev S4x1x64 : Shape := ⟨3, ![4, 1, 64]⟩
abbrev S1x4x1x1x1x64 : Shape := ⟨6, ![1, 4, 1, 1, 1, 64]⟩
abbrev S1x4x1x1x2x64 : Shape := ⟨6, ![1, 4, 1, 1, 2, 64]⟩
abbrev S4x1x128 : Shape := ⟨3, ![4, 1, 128]⟩
abbrev S16384x256 : Shape := ⟨2, ![16384, 256]⟩
abbrev S6x16384x128 : Shape := ⟨3, ![6, 16384, 128]⟩
abbrev S6x8x4x512x128 : Shape := ⟨5, ![6, 8, 4, 512, 128]⟩
abbrev S6x8x16x128x128 : Shape := ⟨5, ![6, 8, 16, 128, 128]⟩
abbrev S512x1024 : Shape := ⟨2, ![512, 1024]⟩
abbrev S1x1x1024 : Shape := ⟨3, ![1, 1, 1024]⟩
abbrev S1x1024x4096 : Shape := ⟨3, ![1, 1024, 4096]⟩
abbrev S1x1x128 : Shape := ⟨3, ![1, 1, 128]⟩
abbrev S512x128 : Shape := ⟨2, ![512, 128]⟩
abbrev S512x256 : Shape := ⟨2, ![512, 256]⟩
abbrev S6x512x128 : Shape := ⟨3, ![6, 512, 128]⟩
abbrev S6x1x4x128x128 : Shape := ⟨5, ![6, 1, 4, 128, 128]⟩
abbrev S6x1x16x32x128 : Shape := ⟨5, ![6, 1, 16, 32, 128]⟩
abbrev S512 : Shape := ⟨1, ![512]⟩
abbrev S512x1 : Shape := ⟨2, ![512, 1]⟩
abbrev S1x1024 : Shape := ⟨2, ![1, 1024]⟩
abbrev S256x128 : Shape := ⟨2, ![256, 128]⟩
abbrev S1x1024x768 : Shape := ⟨3, ![1, 1024, 768]⟩
abbrev S1024x768 : Shape := ⟨2, ![1024, 768]⟩
abbrev S512x768 : Shape := ⟨2, ![512, 768]⟩
abbrev S1x512x128 : Shape := ⟨3, ![1, 512, 128]⟩
abbrev S1x128x128 : Shape := ⟨3, ![1, 128, 128]⟩
abbrev S128x128 : Shape := ⟨2, ![128, 128]⟩
abbrev S1x1x1x128x128 : Shape := ⟨5, ![1, 1, 1, 128, 128]⟩
abbrev S1x32x128 : Shape := ⟨3, ![1, 32, 128]⟩
abbrev S32x128 : Shape := ⟨2, ![32, 128]⟩
abbrev S1x1x1x32x128 : Shape := ⟨5, ![1, 1, 1, 32, 128]⟩
abbrev S1x1024x1024 : Shape := ⟨3, ![1, 1024, 1024]⟩
abbrev S1024x1024 : Shape := ⟨2, ![1024, 1024]⟩

abbrev nBuf : Space → Nat
  | .hbm => 80
  | .vmem => 42
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S4x1024x4096, .f32⟩
  | .hbm, ⟨3, _⟩ => ⟨S4x64, .f32⟩
  | .hbm, ⟨4, _⟩ => ⟨S4x64, .f32⟩
  | .hbm, ⟨5, _⟩ => ⟨S128, .i32⟩
  | .hbm, ⟨6, _⟩ => ⟨S128, .i1⟩
  | .hbm, ⟨7, _⟩ => ⟨S1x128, .i1⟩
  | .hbm, ⟨8, _⟩ => ⟨S128, .i1⟩
  | .hbm, ⟨9, _⟩ => ⟨S1x128, .i1⟩
  | .hbm, ⟨10, _⟩ => ⟨S128, .i1⟩
  | .hbm, ⟨11, _⟩ => ⟨S1x128, .i1⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S16384, .i32⟩
  | .hbm, ⟨26, _⟩ => ⟨S16384, .f32⟩
  | .hbm, ⟨27, _⟩ => ⟨S16384x1, .f32⟩
  | .hbm, ⟨28, _⟩ => ⟨S_, .i32⟩
  | .hbm, ⟨29, _⟩ => ⟨S128, .i32⟩
  | .hbm, ⟨30, _⟩ => ⟨S128, .i32⟩
  | .hbm, ⟨31, _⟩ => ⟨S128, .i32⟩
  | .hbm, ⟨32, _⟩ => ⟨S128x1, .i32⟩
  | .hbm, ⟨33, _⟩ => ⟨S128, .f32⟩
  | .hbm, ⟨34, _⟩ => ⟨S1x128, .f32⟩
  | .hbm, ⟨35, _⟩ => ⟨S16384x128, .f32⟩
  | .hbm, ⟨36, _⟩ => ⟨S16384x128, .f32⟩
  | .hbm, ⟨37, _⟩ => ⟨S16384x128, .f32⟩
  | .hbm, ⟨38, _⟩ => ⟨S16384x128, .f32⟩
  | .hbm, ⟨39, _⟩ => ⟨S16384x128, .f32⟩
  | .hbm, ⟨40, _⟩ => ⟨S_, .f32⟩
  | .hbm, ⟨41, _⟩ => ⟨S_, .f32⟩
  | .hbm, ⟨42, _⟩ => ⟨S16384x128, .i1⟩
  | .hbm, ⟨43, _⟩ => ⟨S16384x128, .f32⟩
  | .hbm, ⟨44, _⟩ => ⟨S16384x128, .f32⟩
  | .hbm, ⟨45, _⟩ => ⟨S16384x128, .f32⟩
  | .hbm, ⟨46, _⟩ => ⟨S_, .f32⟩
  | .hbm, ⟨47, _⟩ => ⟨S_, .f32⟩
  | .hbm, ⟨48, _⟩ => ⟨S16384x128, .i1⟩
  | .hbm, ⟨49, _⟩ => ⟨S16384x128, .f32⟩
  | .hbm, ⟨50, _⟩ => ⟨S16384x128, .f32⟩
  | .hbm, ⟨51, _⟩ => ⟨S_, .f32⟩
  | .hbm, ⟨52, _⟩ => ⟨S_, .f32⟩
  | .hbm, ⟨53, _⟩ => ⟨S16384x128, .i1⟩
  | .hbm, ⟨54, _⟩ => ⟨S16384x128, .f32⟩
  | .hbm, ⟨55, _⟩ => ⟨S16384x128, .f32⟩
  | .hbm, ⟨56, _⟩ => ⟨S4x1024x4096, .bf16⟩
  | .hbm, ⟨57, _⟩ => ⟨S4x1x1024, .f32⟩
  | .hbm, ⟨58, _⟩ => ⟨S4x1x64, .f32⟩
  | .hbm, ⟨59, _⟩ => ⟨S1x4x1x1x1x64, .f32⟩
  | .hbm, ⟨60, _⟩ => ⟨S1x4x1x1x2x64, .f32⟩
  | .hbm, ⟨61, _⟩ => ⟨S4x1x128, .f32⟩
  | .hbm, ⟨62, _⟩ => ⟨S4x1x64, .f32⟩
  | .hbm, ⟨63, _⟩ => ⟨S1x4x1x1x1x64, .f32⟩
  | .hbm, ⟨64, _⟩ => ⟨S1x4x1x1x2x64, .f32⟩
  | .hbm, ⟨65, _⟩ => ⟨S4x1x128, .f32⟩
  | .hbm, ⟨66, _⟩ => ⟨S16384x256, .bf16⟩
  | .hbm, ⟨67, _⟩ => ⟨S16384x256, .bf16⟩
  | .hbm, ⟨68, _⟩ => ⟨S16384x256, .bf16⟩
  | .hbm, ⟨69, _⟩ => ⟨S16384x256, .bf16⟩
  | .hbm, ⟨70, _⟩ => ⟨S6x16384x128, .bf16⟩
  | .hbm, ⟨71, _⟩ => ⟨S6x16384x128, .bf16⟩
  | .hbm, ⟨72, _⟩ => ⟨S6x16384x128, .bf16⟩
  | .hbm, ⟨73, _⟩ => ⟨S6x16384x128, .bf16⟩
  | .hbm, ⟨74, _⟩ => ⟨S6x8x4x512x128, .bf16⟩
  | .hbm, ⟨75, _⟩ => ⟨S6x8x4x512x128, .bf16⟩
  | .hbm, ⟨76, _⟩ => ⟨S6x8x4x512x128, .bf16⟩
  | .hbm, ⟨77, _⟩ => ⟨S6x8x16x128x128, .bf16⟩
  | .hbm, ⟨78, _⟩ => ⟨S6x8x16x128x128, .bf16⟩
  | .hbm, ⟨79, _⟩ => ⟨S6x8x16x128x128, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x4096, .bf16⟩
  | .local _ .vmem, ⟨4, _⟩ => ⟨S1x1x128, .f32⟩
  | .local _ .vmem, ⟨5, _⟩ => ⟨S1x1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S6x512x128, .bf16⟩
  | .local _ .vmem, ⟨21, _⟩ => ⟨S6x512x128, .bf16⟩
  | .local _ .vmem, ⟨22, _⟩ => ⟨S6x512x128, .bf16⟩
  | .local _ .vmem, ⟨23, _⟩ => ⟨S6x512x128, .bf16⟩
  | .local _ .vmem, ⟨24, _⟩ => ⟨S6x512x128, .bf16⟩
  | .local _ .vmem, ⟨25, _⟩ => ⟨S6x512x128, .bf16⟩
  | .local _ .vmem, ⟨26, _⟩ => ⟨S6x512x128, .bf16⟩
  | .local _ .vmem, ⟨27, _⟩ => ⟨S6x512x128, .bf16⟩
  | .local _ .vmem, ⟨28, _⟩ => ⟨S6x1x4x128x128, .bf16⟩
  | .local _ .vmem, ⟨29, _⟩ => ⟨S6x1x4x128x128, .bf16⟩
  | .local _ .vmem, ⟨30, _⟩ => ⟨S6x1x4x128x128, .bf16⟩
  | .local _ .vmem, ⟨31, _⟩ => ⟨S6x1x4x128x128, .bf16⟩
  | .local _ .vmem, ⟨32, _⟩ => ⟨S6x1x4x128x128, .bf16⟩
  | .local _ .vmem, ⟨33, _⟩ => ⟨S6x1x4x128x128, .bf16⟩
  | .local _ .vmem, ⟨34, _⟩ => ⟨S6x1x16x32x128, .bf16⟩
  | .local _ .vmem, ⟨35, _⟩ => ⟨S6x1x16x32x128, .bf16⟩
  | .local _ .vmem, ⟨36, _⟩ => ⟨S6x1x16x32x128, .bf16⟩
  | .local _ .vmem, ⟨37, _⟩ => ⟨S6x1x16x32x128, .bf16⟩
  | .local _ .vmem, ⟨38, _⟩ => ⟨S6x1x16x32x128, .bf16⟩
  | .local _ .vmem, ⟨39, _⟩ => ⟨S6x1x16x32x128, .bf16⟩
  | .local _ .vmem, ⟨40, _⟩ => ⟨S6x512x128, .f32⟩
  | .local _ .vmem, ⟨41, _⟩ => ⟨S6x512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_v0 : Ref sig .tc := ⟨.hbm, 9, rfl⟩
abbrev main_c_3 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_4 : Ref sig .tc := ⟨.hbm, 16, rfl⟩
abbrev main_v5 : Ref sig .tc := ⟨.hbm, 17, rfl⟩
abbrev main_v6 : Ref sig .tc := ⟨.hbm, 18, rfl⟩
abbrev main_cst_5 : Ref sig .tc := ⟨.hbm, 19, rfl⟩
abbrev main_v7 : Ref sig .tc := ⟨.hbm, 20, rfl⟩
abbrev main_v8 : Ref sig .tc := ⟨.hbm, 21, rfl⟩
abbrev main_cst_6 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_7 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_8 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v25 : Ref sig .tc := ⟨.hbm, 44, rfl⟩
abbrev main_v26 : Ref sig .tc := ⟨.hbm, 45, rfl⟩
abbrev main_cst_9 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v27 : Ref sig .tc := ⟨.hbm, 50, rfl⟩
abbrev main_cst_10 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39_0 : Ref sig .tc := ⟨.hbm, 66, rfl⟩
abbrev main_v39_1 : Ref sig .tc := ⟨.hbm, 67, rfl⟩
abbrev main_v39_2 : Ref sig .tc := ⟨.hbm, 68, rfl⟩
abbrev main_v39_3 : Ref sig .tc := ⟨.hbm, 69, rfl⟩
abbrev main_v39_4 : Ref sig .tc := ⟨.hbm, 70, rfl⟩
abbrev main_v39_5 : Ref sig .tc := ⟨.hbm, 71, rfl⟩
abbrev main_v39_6 : Ref sig .tc := ⟨.hbm, 72, rfl⟩
abbrev main_v39_7 : Ref sig .tc := ⟨.hbm, 73, rfl⟩
abbrev main_v39_8 : Ref sig .tc := ⟨.hbm, 74, rfl⟩
abbrev main_v39_9 : Ref sig .tc := ⟨.hbm, 75, rfl⟩
abbrev main_v39_10 : Ref sig .tc := ⟨.hbm, 76, rfl⟩
abbrev main_v39_11 : Ref sig .tc := ⟨.hbm, 77, rfl⟩
abbrev main_v39_12 : Ref sig .tc := ⟨.hbm, 78, rfl⟩
abbrev main_v39_13 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_scratch0 : Ref sig .tc := ⟨.vmem, 40, rfl⟩
abbrev cc0_scratch1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![c0_i32_10.toNat, v16.toNat, c0_i32_11.toNat, v26.toNat, c0_i32_12.toNat]

def cc0_transform_17 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![c0_i32_10.toNat, v16.toNat, c0_i32_11.toNat, v26.toNat, c0_i32_12.toNat]

def cc0_transform_18 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![c0_i32_10.toNat, v16.toNat, c0_i32_11.toNat, v26.toNat, c0_i32_12.toNat]

def cc0_transform_19 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![c0_i32_10.toNat, v16.toNat, c0_i32_11.toNat, v26.toNat, c0_i32_12.toNat]

def cc0_transform_20 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![c0_i32_10.toNat, v16.toNat, c0_i32_11.toNat, v26.toNat, c0_i32_12.toNat]

def cc0_transform_21 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![c0_i32_10.toNat, v16.toNat, c0_i32_11.toNat, v26.toNat, c0_i32_12.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S6x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S6x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S6x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S6x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S6x1x4x128x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S6x1x4x128x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S6x1x4x128x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S6x1x16x32x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S6x1x16x32x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S6x1x16x32x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Kernel2Ideal.lean ====
variable {F : FTy → Type} [FloatOps F] [Named F]
def κ : String → Option EReal := fun
  | "q_scale" => some (((8 * (Real.log 2))⁻¹ : ℝ) : EReal)
  | _ => none
-- ==== Reference2Ideal.lean ====
abbrev S16384x1024 : Shape := ⟨2, ![16384, 1024]⟩
abbrev S4x1024 : Shape := ⟨2, ![4, 1024]⟩
abbrev S4x1024x4096 : Shape := ⟨3, ![4, 1024, 4096]⟩
abbrev S4x64 : Shape := ⟨2, ![4, 64]⟩
abbrev S16384 : Shape := ⟨1, ![16384]⟩
abbrev S1x1024 : Shape := ⟨2, ![1, 1024]⟩
abbrev S1024 : Shape := ⟨1, ![1024]⟩
abbrev S_ : Shape := ⟨0, ![]⟩
abbrev S16384x1 : Shape := ⟨2, ![16384, 1]⟩
abbrev S1x1024x4096 : Shape := ⟨3, ![1, 1024, 4096]⟩
abbrev S1024x4096 : Shape := ⟨2, ![1024, 4096]⟩
abbrev S16384x4096 : Shape := ⟨2, ![16384, 4096]⟩
abbrev S16384x256 : Shape := ⟨2, ![16384, 256]⟩
abbrev S16384x768 : Shape := ⟨2, ![16384, 768]⟩
abbrev S16384x12x64 : Shape := ⟨3, ![16384, 12, 64]⟩
abbrev S1x64 : Shape := ⟨2, ![1, 64]⟩
abbrev S64 : Shape := ⟨1, ![64]⟩
abbrev S16384x12 : Shape := ⟨2, ![16384, 12]⟩
abbrev S16384x12x1 : Shape := ⟨3, ![16384, 12, 1]⟩
abbrev S1x1x64 : Shape := ⟨3, ![1, 1, 64]⟩
abbrev S8 : Shape := ⟨1, ![8]⟩
abbrev S1x8 : Shape := ⟨2, ![1, 8]⟩
abbrev S16384x8 : Shape := ⟨2, ![16384, 8]⟩
abbrev S16384x1x8 : Shape := ⟨3, ![16384, 1, 8]⟩
abbrev S16384x12x8 : Shape := ⟨3, ![16384, 12, 8]⟩
abbrev S16384x12x48 : Shape := ⟨3, ![16384, 12, 48]⟩
abbrev S16384x6x128 : Shape := ⟨3, ![16384, 6, 128]⟩
abbrev S6x16384x128 : Shape := ⟨3, ![6, 16384, 128]⟩

abbrev nBuf : Space → Nat
  | .hbm => 195
  | .vmem => 0
  | .smem => 0
  | _ => 0

abbrev hbmTy0_0 (i : Nat) : BufTy := match i % 128 with
  | 0 => ⟨S16384x1024, .f32⟩
  | 1 => ⟨S4x1024, .f32⟩
  | 2 => ⟨S4x1024x4096, .f32⟩
  | 3 => ⟨S4x64, .f32⟩
  | 4 => ⟨S4x64, .f32⟩
  | 5 => ⟨S16384, .i32⟩
  | 6 => ⟨S1x1024, .f32⟩
  | 7 => ⟨S1024, .f32⟩
  | 8 => ⟨S16384x1024, .f32⟩
  | 9 => ⟨S_, .f32⟩
  | 10 => ⟨S16384, .f32⟩
  | 11 => ⟨S16384x1, .f32⟩
  | 12 => ⟨S_, .f32⟩
  | 13 => ⟨S16384x1, .f32⟩
  | 14 => ⟨S16384x1, .f32⟩
  | 15 => ⟨S_, .f32⟩
  | 16 => ⟨S16384x1, .f32⟩
  | 17 => ⟨S16384x1, .f32⟩
  | 18 => ⟨S16384x1, .f32⟩
  | 19 => ⟨S16384x1024, .f32⟩
  | 20 => ⟨S16384x1024, .f32⟩
  | 21 => ⟨S1x1024, .f32⟩
  | 22 => ⟨S16384x1024, .f32⟩
  | 23 => ⟨S16384x1024, .f32⟩
  | 24 => ⟨S1x1024x4096, .f32⟩
  | 25 => ⟨S1024x4096, .f32⟩
  | 26 => ⟨S16384x4096, .f32⟩
  | 27 => ⟨S16384x256, .f32⟩
  | 28 => ⟨S16384x256, .f32⟩
  | 29 => ⟨S16384x256, .f32⟩
  | 30 => ⟨S16384x256, .f32⟩
  | 31 => ⟨S16384x768, .f32⟩
  | 32 => ⟨S16384x768, .f32⟩
  | 33 => ⟨S16384x768, .f32⟩
  | 34 => ⟨S16384x768, .f32⟩
  | 35 => ⟨S16384x12x64, .f32⟩
  | 36 => ⟨S1x64, .f32⟩
  | 37 => ⟨S64, .f32⟩
  | 38 => ⟨S16384x12x64, .f32⟩
  | 39 => ⟨S_, .f32⟩
  | 40 => ⟨S16384x12, .f32⟩
  | 41 => ⟨S16384x12x1, .f32⟩
  | 42 => ⟨S_, .f32⟩
  | 43 => ⟨S16384x12x1, .f32⟩
  | 44 => ⟨S16384x12x1, .f32⟩
  | 45 => ⟨S_, .f32⟩
  | 46 => ⟨S16384x12x1, .f32⟩
  | 47 => ⟨S16384x12x1, .f32⟩
  | 48 => ⟨S16384x12x1, .f32⟩
  | 49 => ⟨S16384x12x64, .f32⟩
  | 50 => ⟨S16384x12x64, .f32⟩
  | 51 => ⟨S1x1x64, .f32⟩
  | 52 => ⟨S16384x12x64, .f32⟩
  | 53 => ⟨S16384x12x64, .f32⟩
  | 54 => ⟨S8, .f32⟩
  | 55 => ⟨S_, .f32⟩
  | 56 => ⟨S8, .f32⟩
  | 57 => ⟨S8, .f32⟩
  | 58 => ⟨S_, .f32⟩
  | 59 => ⟨S8, .f32⟩
  | 60 => ⟨S8, .f32⟩
  | 61 => ⟨S_, .f32⟩
  | 62 => ⟨S8, .f32⟩
  | 63 => ⟨S8, .f32⟩
  | 64 => ⟨S_, .f32⟩
  | 65 => ⟨S8, .f32⟩
  | 66 => ⟨S8, .f32⟩
  | 67 => ⟨S16384, .f32⟩
  | 68 => ⟨S16384x1, .f32⟩
  | 69 => ⟨S1x8, .f32⟩
  | 70 => ⟨S16384x8, .f32⟩
  | 71 => ⟨S16384x8, .f32⟩
  | 72 => ⟨S16384x8, .f32⟩
  | 73 => ⟨S16384x8, .f32⟩
  | 74 => ⟨S16384x1x8, .f32⟩
  | 75 => ⟨S16384x8, .f32⟩
  | 76 => ⟨S16384x1x8, .f32⟩
  | 77 => ⟨S16384x12x8, .f32⟩
  | 78 => ⟨S16384x12x8, .f32⟩
  | 79 => ⟨S16384x12x8, .f32⟩
  | 80 => ⟨S16384x12x8, .f32⟩
  | 81 => ⟨S16384x12x8, .f32⟩
  | 82 => ⟨S16384x12x8, .f32⟩
  | 83 => ⟨S16384x12x8, .f32⟩
  | 84 => ⟨S16384x12x8, .f32⟩
  | 85 => ⟨S16384x12x8, .f32⟩
  | 86 => ⟨S16384x12x8, .f32⟩
  | 87 => ⟨S16384x12x8, .f32⟩
  | 88 => ⟨S16384x12x8, .f32⟩
  | 89 => ⟨S16384x12x48, .f32⟩
  | 90 => ⟨S16384x12x64, .f32⟩
  | 91 => ⟨S_, .f32⟩
  | 92 => ⟨S16384x12x64, .f32⟩
  | 93 => ⟨S16384x12x64, .f32⟩
  | 94 => ⟨S_, .f32⟩
  | 95 => ⟨S_, .f32⟩
  | 96 => ⟨S16384x12x64, .f32⟩
  | 97 => ⟨S16384x12x64, .f32⟩
  | 98 => ⟨S16384x12x64, .f32⟩
  | 99 => ⟨S1x64, .f32⟩
  | 100 => ⟨S64, .f32⟩
  | 101 => ⟨S16384x12x64, .f32⟩
  | 102 => ⟨S_, .f32⟩
  | 103 => ⟨S16384x12, .f32⟩
  | 104 => ⟨S16384x12x1, .f32⟩
  | 105 => ⟨S_, .f32⟩
  | 106 => ⟨S16384x12x1, .f32⟩
  | 107 => ⟨S16384x12x1, .f32⟩
  | 108 => ⟨S_, .f32⟩
  | 109 => ⟨S16384x12x1, .f32⟩
  | 110 => ⟨S16384x12x1, .f32⟩
  | 111 => ⟨S16384x12x1, .f32⟩
  | 112 => ⟨S16384x12x64, .f32⟩
  | 113 => ⟨S16384x12x64, .f32⟩
  | 114 => ⟨S1x1x64, .f32⟩
  | 115 => ⟨S16384x12x64, .f32⟩
  | 116 => ⟨S16384x12x64, .f32⟩
  | 117 => ⟨S8, .f32⟩
  | 118 => ⟨S_, .f32⟩
  | 119 => ⟨S8, .f32⟩
  | 120 => ⟨S8, .f32⟩
  | 121 => ⟨S_, .f32⟩
  | 122 => ⟨S8, .f32⟩
  | 123 => ⟨S8, .f32⟩
  | 124 => ⟨S_, .f32⟩
  | 125 => ⟨S8, .f32⟩
  | 126 => ⟨S8, .f32⟩
  | 127 => ⟨S_, .f32⟩
  | _ => ⟨S16384x1024, .f32⟩

abbrev hbmTy0_1 (i : Nat) : BufTy := match i % 128 with
  | 0 => ⟨S8, .f32⟩
  | 1 => ⟨S8, .f32⟩
  | 2 => ⟨S16384, .f32⟩
  | 3 => ⟨S16384x1, .f32⟩
  | 4 => ⟨S1x8, .f32⟩
  | 5 => ⟨S16384x8, .f32⟩
  | 6 => ⟨S16384x8, .f32⟩
  | 7 => ⟨S16384x8, .f32⟩
  | 8 => ⟨S16384x8, .f32⟩
  | 9 => ⟨S16384x1x8, .f32⟩
  | 10 => ⟨S16384x8, .f32⟩
  | 11 => ⟨S16384x1x8, .f32⟩
  | 12 => ⟨S16384x12x8, .f32⟩
  | 13 => ⟨S16384x12x8, .f32⟩
  | 14 => ⟨S16384x12x8, .f32⟩
  | 15 => ⟨S16384x12x8, .f32⟩
  | 16 => ⟨S16384x12x8, .f32⟩
  | 17 => ⟨S16384x12x8, .f32⟩
  | 18 => ⟨S16384x12x8, .f32⟩
  | 19 => ⟨S16384x12x8, .f32⟩
  | 20 => ⟨S16384x12x8, .f32⟩
  | 21 => ⟨S16384x12x8, .f32⟩
  | 22 => ⟨S16384x12x8, .f32⟩
  | 23 => ⟨S16384x12x8, .f32⟩
  | 24 => ⟨S16384x12x48, .f32⟩
  | 25 => ⟨S16384x12x64, .f32⟩
  | 26 => ⟨S_, .f32⟩
  | 27 => ⟨S16384x256, .f32⟩
  | 28 => ⟨S16384x256, .f32⟩
  | 29 => ⟨S_, .f32⟩
  | 30 => ⟨S_, .f32⟩
  | 31 => ⟨S16384x256, .f32⟩
  | 32 => ⟨S16384x256, .f32⟩
  | 33 => ⟨S16384x256, .f32⟩
  | 34 => ⟨S16384x256, .f32⟩
  | 35 => ⟨S_, .f32⟩
  | 36 => ⟨S16384x256, .f32⟩
  | 37 => ⟨S16384x256, .f32⟩
  | 38 => ⟨S_, .f32⟩
  | 39 => ⟨S16384x256, .f32⟩
  | 40 => ⟨S16384x256, .f32⟩
  | 41 => ⟨S16384x256, .f32⟩
  | 42 => ⟨S16384x768, .f32⟩
  | 43 => ⟨S16384x768, .f32⟩
  | 44 => ⟨S_, .f32⟩
  | 45 => ⟨S16384x768, .f32⟩
  | 46 => ⟨S16384x768, .f32⟩
  | 47 => ⟨S_, .f32⟩
  | 48 => ⟨S16384x768, .f32⟩
  | 49 => ⟨S16384x768, .f32⟩
  | 50 => ⟨S16384x768, .f32⟩
  | 51 => ⟨S16384x6x128, .f32⟩
  | 52 => ⟨S6x16384x128, .f32⟩
  | 53 => ⟨S16384x6x128, .f32⟩
  | 54 => ⟨S6x16384x128, .f32⟩
  | 55 => ⟨S16384x6x128, .f32⟩
  | 56 => ⟨S6x16384x128, .f32⟩
  | 57 => ⟨S16384x6x128, .f32⟩
  | 58 => ⟨S6x16384x128, .f32⟩
  | 59 => ⟨S16384x256, .bf16⟩
  | 60 => ⟨S16384x256, .bf16⟩
  | 61 => ⟨S16384x256, .bf16⟩
  | 62 => ⟨S16384x256, .bf16⟩
  | 63 => ⟨S6x16384x128, .bf16⟩
  | 64 => ⟨S6x16384x128, .bf16⟩
  | 65 => ⟨S6x16384x128, .bf16⟩
  | 66 => ⟨S6x16384x128, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_v47 : Ref sig .tc := ⟨.hbm, 60, rfl⟩
abbrev main_cst_7 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_cst_9 : Ref sig .tc := ⟨.hbm, 91, rfl⟩
abbrev main_v76 : Ref sig .tc := ⟨.hbm, 92, rfl⟩
abbrev main_v77 : Ref sig .tc := ⟨.hbm, 93, rfl⟩
abbrev main_cst_10 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_cst_11 : Ref sig .tc := ⟨.hbm, 102, rfl⟩
abbrev main_v85 : Ref sig .tc := ⟨.hbm, 103, rfl⟩
abbrev main_v86 : Ref sig .tc := ⟨.hbm, 104, rfl⟩
abbrev main_cst_12 : Ref sig .tc := ⟨.hbm, 105, rfl⟩
abbrev main_v87 : Ref sig .tc := ⟨.hbm, 106, rfl⟩
abbrev main_v88 : Ref sig .tc := ⟨.hbm, 107, rfl⟩
abbrev main_cst_13 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_cst_14 : Ref sig .tc := ⟨.hbm, 118, rfl⟩
abbrev main_v98 : Ref sig .tc := ⟨.hbm, 119, rfl⟩
abbrev main_v99 : Ref sig .tc := ⟨.hbm, 120, rfl⟩
abbrev main_cst_15 : Ref sig .tc := ⟨.hbm, 121, rfl⟩
abbrev main_v100 : Ref sig .tc := ⟨.hbm, 122, rfl⟩
abbrev main_v101 : Ref sig .tc := ⟨.hbm, 123, rfl⟩
abbrev main_cst_16 : Ref sig .tc := ⟨.hbm, 124, rfl⟩
abbrev main_v102 : Ref sig .tc := ⟨.hbm, 125, rfl⟩
abbrev main_v103 : Ref sig .tc := ⟨.hbm, 126, rfl⟩
abbrev main_cst_17 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_cst_18 : Ref sig .tc := ⟨.hbm, 154, rfl⟩
abbrev main_v130 : Ref sig .tc := ⟨.hbm, 155, rfl⟩
abbrev main_v131 : Ref sig .tc := ⟨.hbm, 156, rfl⟩
abbrev main_cst_19 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_call0_v0 : Ref sig .tc := ⟨.hbm, 161, rfl⟩
abbrev main_call0_v1 : Ref sig .tc := ⟨.hbm, 162, rfl⟩
abbrev main_call0_cst : Ref sig .tc := ⟨.hbm, 163, rfl⟩
abbrev main_call0_v2 : Ref sig .tc := ⟨.hbm, 164, rfl⟩
abbrev main_call0_v3 : Ref sig .tc := ⟨.hbm, 165, rfl⟩
abbrev main_call0_cst_0 : Ref sig .tc := ⟨.hbm, 166, rfl⟩
abbrev main_call0_v4 : Ref sig .tc := ⟨.hbm, 167, rfl⟩
abbrev main_call0_v5 : Ref sig .tc := ⟨.hbm, 168, rfl⟩
abbrev main_v135 : Ref sig .tc := ⟨.hbm, 169, rfl⟩
abbrev main_call1_v0 : Ref sig .tc := ⟨.hbm, 170, rfl⟩
abbrev main_call1_v1 : Ref sig .tc := ⟨.hbm, 171, rfl⟩
abbrev main_call1_cst : Ref sig .tc := ⟨.hbm, 172, rfl⟩
abbrev main_call1_v2 : Ref sig .tc := ⟨.hbm, 173, rfl⟩
abbrev main_call1_v3 : Ref sig .tc := ⟨.hbm, 174, rfl⟩
abbrev main_call1_cst_0 : Ref sig .tc := ⟨.hbm, 175, rfl⟩
abbrev main_call1_v4 : Ref sig .tc := ⟨.hbm, 176, rfl⟩
abbrev main_call1_v5 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩

abbrev nD : Nat := 1
abbrev τ : Topo := Topo.v7x

variable {F : FTy → Type} [FloatOps F]
-- ==== Kernel3.lean ====
abbrev S16384x1024 : Shape := ⟨2, ![16384, 1024]⟩
abbrev S16384x256 : Shape := ⟨2, ![16384, 256]⟩
abbrev S6x16384x128 : Shape := ⟨3, ![6, 16384, 128]⟩
abbrev S4x1024x1024 : Shape := ⟨3, ![4, 1024, 1024]⟩
abbrev S512x1024 : Shape := ⟨2, ![512, 1024]⟩
abbrev S512x256 : Shape := ⟨2, ![512, 256]⟩
abbrev S6x512x128 : Shape := ⟨3, ![6, 512, 128]⟩
abbrev S1x1024x1024 : Shape := ⟨3, ![1, 1024, 1024]⟩
abbrev S1x512x128 : Shape := ⟨3, ![1, 512, 128]⟩
abbrev S512x128 : Shape := ⟨2, ![512, 128]⟩
abbrev S512x768 : Shape := ⟨2, ![512, 768]⟩
abbrev S1x256x1024 : Shape := ⟨3, ![1, 256, 1024]⟩
abbrev S256x1024 : Shape := ⟨2, ![256, 1024]⟩
abbrev S1x768x1024 : Shape := ⟨3, ![1, 768, 1024]⟩
abbrev S768x1024 : Shape := ⟨2, ![768, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x256, .bf16⟩
  | .hbm, ⟨2, _⟩ => ⟨S6x16384x128, .bf16⟩
  | .hbm, ⟨3, _⟩ => ⟨S4x1024x1024, .f32⟩
  | .hbm, ⟨4, _⟩ => ⟨S4x1024x1024, .bf16⟩
  | .hbm, ⟨5, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S6x512x128, .bf16⟩
  | .local _ .vmem, ⟨5, _⟩ => ⟨S6x512x128, .bf16⟩
  | .local _ .vmem, ⟨6, _⟩ => ⟨S1x1024x1024, .bf16⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S16384x1024 : Shape := ⟨2, ![16384, 1024]⟩
abbrev S16384x256 : Shape := ⟨2, ![16384, 256]⟩
abbrev S6x16384x128 : Shape := ⟨3, ![6, 16384, 128]⟩
abbrev S4x1024x1024 : Shape := ⟨3, ![4, 1024, 1024]⟩
abbrev S16384x6x128 : Shape := ⟨3, ![16384, 6, 128]⟩
abbrev S16384x768 : Shape := ⟨2, ![16384, 768]⟩
abbrev S1x1024x1024 : Shape := ⟨3, ![1, 1024, 1024]⟩
abbrev S1024x1024 : Shape := ⟨2, ![1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .bf16⟩
  | .hbm, ⟨2, _⟩ => ⟨S6x16384x128, .bf16⟩
  | .hbm, ⟨3, _⟩ => ⟨S4x1024x1024, .f32⟩
  | .hbm, ⟨4, _⟩ => ⟨S6x16384x128, .f32⟩
  | .hbm, ⟨5, _⟩ => ⟨S16384x6x128, .f32⟩
  | .hbm, ⟨6, _⟩ => ⟨S16384x768, .f32⟩
  | .hbm, ⟨7, _⟩ => ⟨S16384x256, .f32⟩
  | .hbm, ⟨8, _⟩ => ⟨S16384x1024, .f32⟩
  | .hbm, ⟨9, _⟩ => ⟨S1x1024x1024, .f32⟩
  | .hbm, ⟨10, _⟩ => ⟨S1024x1024, .f32⟩
  | .hbm, ⟨11, _⟩ => ⟨S16384x1024, .f32⟩
  | .hbm, ⟨12, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.K.Body.lean ====
/-
  One grid point of the stick-breaking call: what its body leaves in the output block.
-/
module

public import proofs.«01_k».proof.Proof.K.While1
public import proofs.«01_k».proof.Proof.K.While2
public import proofs.«01_k».proof.Proof.K.While3
public import proofs.«01_k».proof.Proof.K.While4
public import proofs.«01_k».proof.Proof.K.While5
public import proofs.«01_k».proof.Proof.K.While6
public import proofs.«01_k».proof.Proof.K.While7
public import proofs.«01_k».proof.Proof.K.While8

@[expose] public section

set_option maxRecDepth 16384

noncomputable section
namespace Cert.Kernel.Pf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
def bodyRun (c : Dev nD) (i : grid0.Coords) (arg1 : Memref sig .tc .vmem S1024x256 .bf16) (harg1 : arg1.IsWhole) (arg2 : Memref sig .tc .vmem S16384x256 .bf16) (harg2 : arg2.IsWhole) (arg3 : Memref sig .tc .vmem S16384x256 .bf16) (harg3 : arg3.IsWhole) (arg4 : Memref sig .tc .vmem S1024x256 .bf16) (harg4 : arg4.IsWhole) (arg5 : Memref sig .tc .vmem S256x256 .bf16) (harg5 : arg5.IsWhole) (arg6 : Memref sig .tc .vmem S1024x256 .bf16) (harg6 : arg6.IsWhole) (arg7 : Memref sig .tc .vmem S16x128x128 .f32) (harg7 : arg7.IsWhole) (arg8 : Memref sig .tc .vmem S16x128x256 .f32) (harg8 : arg8.IsWhole)
    (x0 : Vec F S1024x256 .bf16) (x1 : Vec F S16384x256 .bf16) (x2 : Vec F S16384x256 .bf16) (x3 : Vec F S1024x256 .bf16) (x4 : Vec F S256x256 .bf16) :
    { OUT : Vec F S1024x256 .bf16 // ∀ (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare OUT ∗ (∃ d, owns (c : Thread nD τ) arg7 fullShare d) ∗ (∃ d, owns (c : Thread nD τ) arg8 fullShare d)) -∗ K ⟨⟩))
          ⊢ wp frame (wpE (defs₀ (F := F)) 𝒱₀ (c : Thread nD τ) none) Set.univ (cc0_sb_attn i arg1 harg1 arg2 harg2 arg3 harg3 arg4 harg4 arg5 harg5 arg6 harg6 arg7 harg7 arg8 harg8) K } := by
  refine ⟨?_, fun K => ?run⟩
  case run =>
    simp only [cc0_sb_attn_eq_skeleton]; unfold cc0_sb_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec!
    iapply (wp_call1 c i arg8 harg8 arg2 harg2 arg3 harg3 _ _ arg7 harg7 _ x1 x2 (cnt_start i 0 (by decide))) $$ H1 H2 HS0 HS1
    unfold held
    iintro %r ⟨H1, H2, HS0, HS1⟩
    sl_exec
    iapply (wp_call2 c i arg8 harg8 arg2 harg2 arg3 harg3 _ _ arg7 harg7 _ x1 x2 (cnt_start i 1 (by decide))) $$ H1 H2 HS0 HS1
    unfold held
    iintro %r ⟨H1, H2, HS0, HS1⟩
    sl_exec
    iapply (wp_call3 c i arg8 harg8 arg2 harg2 arg3 harg3 _ _ arg7 harg7 _ x1 x2 (cnt_start i 2 (by decide))) $$ H1 H2 HS0 HS1
    unfold held
    iintro %r ⟨H1, H2, HS0, HS1⟩
    sl_exec
    iapply (wp_call4 c i arg8 harg8 arg2 harg2 arg3 harg3 _ _ arg7 harg7 _ x1 x2 (cnt_start i 3 (by decide))) $$ H1 H2 HS0 HS1
    unfold held
    iintro %r ⟨H1, H2, HS0, HS1⟩
    sl_exec
    iapply (wp_call5 c i arg8 harg8 arg2 harg2 arg3 harg3 _ _ arg7 harg7 _ x1 x2 (cnt_start i 4 (by decide))) $$ H1 H2 HS0 HS1
    unfold held
    iintro %r ⟨H1, H2, HS0, HS1⟩
    sl_exec
    iapply (wp_call6 c i arg8 harg8 arg2 harg2 arg3 harg3 _ _ arg7 harg7 _ x1 x2 (cnt_start i 5 (by decide))) $$ H1 H2 HS0 HS1
    unfold held
    iintro %r ⟨H1, H2, HS0, HS1⟩
    sl_exec
    iapply (wp_call7 c i arg8 harg8 arg2 harg2 arg3 harg3 _ _ arg7 harg7 _ x1 x2 (cnt_start i 6 (by decide))) $$ H1 H2 HS0 HS1
    unfold held
    iintro %r ⟨H1, H2, HS0, HS1⟩
    sl_exec
    iapply (wp_call8 c i arg8 harg8 arg2 harg2 arg3 harg3 _ _ arg7 harg7 _ x1 x2 (cnt_start i 7 (by decide))) $$ H1 H2 HS0 HS1
    unfold held
    iintro %r ⟨H1, H2, HS0, HS1⟩
    sl_exec!
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro; rfl
    isplitl [HS0]
    · iexists _, _; isplitr; swap; · iexact HS0
      ipureintro; rfl
    iexists _, _; isplitr; swap; · iexact HS1
    ipureintro; rfl

end Cert.Kernel.Pf

end
-- ==== Proof.KI.Kit.lean ====
/-
  The launch side of the stick-breaking call's certificate: the buffers as the region finds them, each window's block at a
  grid point, the pipeline's bookkeeping for the input windows and the invariant that carries the two scratch buffers.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the region finds in each TensorCore buffer: the launch memory after the host operations that make the triangle. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write none of the four arguments. -/
theorem V_arg {b : Ref sig .tc} (hb : b = main_arg0 ∨ b = main_arg1 ∨ b = main_arg2 ∨ b = main_arg3) (c : Dev nD) :
    V m c b = m ((c : Thread nD τ).loc b) := by
  refine StableHlo.after_of_forall_not_mem (b := Proc.devRef .tc b) _ _ (List.forall_iff_forall_mem.mp ?_)
  simp only [hostOps0, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  rcases hb with rfl | rfl | rfl | rfl <;>
  · repeat' apply And.intro
    all_goals exact StableHlo.devRef_ne_of_ne (by decide)

/-- Window `w`'s block at point `t`, off its array as the region finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

section Before
variable {c : Dev nD} (dat : Dat τ (Elt F) Unit ℕ (UR sig nD τ) ℕ (cfg0 (F := F)) c)

theorem before_q (hA : dat.A 0 = V m c (Pipeline.arrRef spec0 0)) (ha : ∀ t, dat.after 0 t = iblk m c 0 t) (t : Fin (cfg0 (F := F)).N) (d) :
    dat.before 0 t d = iblk m c 0 t :=
  (dat.before_in_eq_fetched 0 rfl (fun _ => rfl) (fun _ _ _ => rfl) (fun t => by rw [ha]; unfold Dat.blockOf iblk; rw [hA]; try rfl) t d).trans
    (by unfold Dat.fetched Dat.blockOf iblk; rw [hA]; try rfl)
theorem before_k (hA : dat.A 1 = V m c (Pipeline.arrRef spec0 1)) (ha : ∀ t, dat.after 1 t = iblk m c 1 t) (t : Fin (cfg0 (F := F)).N) (d) :
    dat.before 1 t d = iblk m c 1 t :=
  (dat.before_in_eq_fetched 1 rfl (fun _ => rfl) (fun _ _ _ => rfl) (fun t => by rw [ha]; unfold Dat.blockOf iblk; rw [hA]; try rfl) t d).trans
    (by unfold Dat.fetched Dat.blockOf iblk; rw [hA]; try rfl)
theorem before_v (hA : dat.A 2 = V m c (Pipeline.arrRef spec0 2)) (ha : ∀ t, dat.after 2 t = iblk m c 2 t) (t : Fin (cfg0 (F := F)).N) (d) :
    dat.before 2 t d = iblk m c 2 t :=
  (dat.before_in_eq_fetched 2 rfl (fun _ => rfl) (fun _ _ _ => rfl) (fun t => by rw [ha]; unfold Dat.blockOf iblk; rw [hA]; try rfl) t d).trans
    (by unfold Dat.fetched Dat.blockOf iblk; rw [hA]; try rfl)
theorem before_g (hA : dat.A 3 = V m c (Pipeline.arrRef spec0 3)) (ha : ∀ t, dat.after 3 t = iblk m c 3 t) (t : Fin (cfg0 (F := F)).N) (d) :
    dat.before 3 t d = iblk m c 3 t :=
  (dat.before_in_eq_fetched 3 rfl (fun _ => rfl) (fun _ _ _ => rfl) (fun t => by rw [ha]; unfold Dat.blockOf iblk; rw [hA]; try rfl) t d).trans
    (by unfold Dat.fetched Dat.blockOf iblk; rw [hA]; try rfl)
theorem before_tri (hA : dat.A 4 = V m c (Pipeline.arrRef spec0 4)) (ha : ∀ t, dat.after 4 t = iblk m c 4 t) (t : Fin (cfg0 (F := F)).N) (d) :
    dat.before 4 t d = iblk m c 4 t :=
  (dat.before_in_eq_fetched 4 rfl (fun _ => rfl) (fun _ _ _ => rfl) (fun t => by rw [ha]; unfold Dat.blockOf iblk; rw [hA]; try rfl) t d).trans
    (by unfold Dat.fetched Dat.blockOf iblk; rw [hA]; try rfl)
end Before

/-- Each window's current staging buffer at point `t`. -/
abbrev bq (t : Fin (cfg0 (F := F)).N) : Memref sig .tc .vmem S1024x256 .bf16 := win0_0.stage ((cfg0 (F := F)).slots t 0)
abbrev bk (t : Fin (cfg0 (F := F)).N) : Memref sig .tc .vmem S16384x256 .bf16 := win0_1.stage ((cfg0 (F := F)).slots t 1)
abbrev bv (t : Fin (cfg0 (F := F)).N) : Memref sig .tc .vmem S16384x256 .bf16 := win0_2.stage ((cfg0 (F := F)).slots t 2)
abbrev bg (t : Fin (cfg0 (F := F)).N) : Memref sig .tc .vmem S1024x256 .bf16 := win0_3.stage ((cfg0 (F := F)).slots t 3)
abbrev btri (t : Fin (cfg0 (F := F)).N) : Memref sig .tc .vmem S256x256 .bf16 := win0_4.stage ((cfg0 (F := F)).slots t 4)
abbrev bo (t : Fin (cfg0 (F := F)).N) : Memref sig .tc .vmem S1024x256 .bf16 := win0_5.stage ((cfg0 (F := F)).slots t 5)
/-- The two scratch buffers: the accumulators and the running log survivals. -/
abbrev mAcc : Memref sig .tc .vmem S16x128x128 .f32 := Memref.whole cc0_scratch0
abbrev mLat : Memref sig .tc .vmem S16x128x256 .f32 := Memref.whole cc0_scratch1

/-- The invariant between grid points: the two scratch buffers at some contents, and the generator register. -/
theorem inv_eq (c : Dev nD) :
    (Pipeline.ΦA spec0 c : sProp 𝕄)
      = iprop(iprop((∃ d, owns (c : Thread nD τ) mAcc fullShare d) ∗ (∃ d, owns (c : Thread nD τ) mLat fullShare d)) ∗ (∃ r, prngReg c r)) := by
  unfold Pipeline.ΦA; rw [scopedRest0_eq]; simp only [mAcc, mLat, owns_whole]; try rfl

end Cert.KernelIdeal.Pf

end
-- ==== Proof.KI.Pure.lean ====
/-
  The visit of one tile of keys as plain functions of what the label's function loads, the counted-down visits a label makes as
  a recursion on the two scratch buffers, and the word arithmetic of the counter.
-/
module

public import proofs.«01_k».proof.Proof.KI.Kit

@[expose] public section

set_option maxRecDepth 16384

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The accumulator of a pair of heads after one more tile of keys. -/
def accStep (lat : Vec F S1x128x256 .f32) (q : Vec F S128x128 .bf16) (tri : FVec F S256x256 .bf16) (k v : Vec F S128x128 .bf16)
    (acc : Vec F S1x128x128 .f32) : FVec F S1x128x128 .f32 :=
  k0_pay339 (k0_pay335 lat) v (k0_pay338 q tri k) acc

/-- The survival of a pair of heads after one more tile of keys. -/
def latStep (lat : Vec F S1x128x256 .f32) (q k : Vec F S128x128 .bf16) : FVec F S1x128x256 .f32 :=
  k0_pay341 (k0_pay335 lat) (k0_pay337 q k)

/-- Whether any of the two pairs' survivals is still above the floor after one more tile of keys. -/
def flagStep (l0 l1 : Vec F S1x128x256 .f32) (q0 q1 k0 k1 : Vec F S128x128 .bf16) : BitVec 1 :=
  Scalar.cmpf .ogt (k0_pay5 (k0_pay340 (k0_pay335 l0) (k0_pay337 q0 k0)) (k0_pay342 l1) (k0_pay344 q1 k1))
    (Named.named κ "floor" 0xC301D7B2#32 : F .f32)

theorem slot7_inb (s : ℕ) (h : s < 16) : ∀ a, (![s, 0, 0] : Fin 3 → ℕ) a + S1x128x128.size a ≤ S16x128x128.size a := by
  intro a; fin_cases a <;> simp <;> omega
theorem slot8_inb (s : ℕ) (h : s < 16) : ∀ a, (![s, 0, 0] : Fin 3 → ℕ) a + S1x128x256.size a ≤ S16x128x256.size a := by
  intro a; fin_cases a <;> simp <;> omega

/-- The accumulator's slot `s`, and the survival's. -/
abbrev r7 (s : ℕ) (h : s < 16) : Rect S16x128x128 := Rect.unit (s := S16x128x128) ![s, 0, 0] S1x128x128.size (slot7_inb s h)
abbrev r8 (s : ℕ) (h : s < 16) : Rect S16x128x256 := Rect.unit (s := S16x128x256) ![s, 0, 0] S1x128x256.size (slot8_inb s h)

section Loop
variable (arg7 : Memref sig .tc .vmem S16x128x128 .f32) (arg8 : Memref sig .tc .vmem S16x128x256 .f32)
  (s0 s1 : ℕ) (h0 : s0 < 16) (h1 : s1 < 16) (q0 q1 : Vec F S128x128 .bf16) (tri : FVec F S256x256 .bf16)
  (K0 K1 V0 V1 : ℕ → Vec F S128x128 .bf16)

abbrev C7 (F : FTy → Type) (arg7 : Memref sig .tc .vmem S16x128x128 .f32) := arg7.view.ty.Contents (Elt F)
abbrev C8 (F : FTy → Type) (arg8 : Memref sig .tc .vmem S16x128x256 .f32) := arg8.view.ty.Contents (Elt F)

/-- What slot `s` of the accumulator's buffer holds, and of the survival's. -/
abbrev rd7 (s : ℕ) (h : s < 16) (f7 : C7 F arg7) : Vec F S1x128x128 .f32 := arg7.view.readAt (Elt F) (r7 s h).toLoadRect f7
abbrev rd8 (s : ℕ) (h : s < 16) (f8 : C8 F arg8) : Vec F S1x128x256 .f32 := arg8.view.readAt (Elt F) (r8 s h).toLoadRect f8

/-- The accumulator's buffer after the visit of tile `b`. -/
def trip7 (b : ℕ) (f7 : C7 F arg7) (f8 : C8 F arg8) : C7 F arg7 :=
  arg7.view.writes (Elt F) f7
    [⟨r7 s1 h1, accStep (rd8 arg8 s1 h1 f8) q1 tri (K1 b) (V1 b) (rd7 arg7 s1 h1 f7)⟩,
     ⟨r7 s0 h0, accStep (rd8 arg8 s0 h0 f8) q0 tri (K0 b) (V0 b) (rd7 arg7 s0 h0 f7)⟩]

/-- The survival's buffer after the visit of tile `b`. -/
def trip8 (b : ℕ) (f8 : C8 F arg8) : C8 F arg8 :=
  arg8.view.writes (Elt F) f8
    [⟨r8 s1 h1, latStep (rd8 arg8 s1 h1 f8) q1 (K1 b)⟩, ⟨r8 s0 h0, latStep (rd8 arg8 s0 h0 f8) q0 (K0 b)⟩]

/-- Whether another tile is visited after tile `b`. -/
def tripFlag (b : ℕ) (f8 : C8 F arg8) : BitVec 1 :=
  flagStep (rd8 arg8 s0 h0 f8) (rd8 arg8 s1 h1 f8) q0 q1 (K0 b) (K1 b)

/-- The two buffers after the visits of tiles `n - 1` down to `0`, as long as the flag is set. -/
def loop : ℕ → BitVec 1 → C7 F arg7 → C8 F arg8 → C7 F arg7 × C8 F arg8
  | 0, _, f7, f8 => (f7, f8)
  | n + 1, g, f7, f8 =>
    if g = 1#1 then
      loop n (tripFlag arg8 s0 s1 h0 h1 q0 q1 K0 K1 n f8) (trip7 arg7 arg8 s0 s1 h0 h1 q0 q1 tri K0 K1 V0 V1 n f7 f8)
        (trip8 arg8 s0 s1 h0 h1 q0 q1 K0 K1 n f8)
    else (f7, f8)

end Loop

/-! ### The counter -/

/-- The counter `j` has `n` tiles left: none, and it is negative; or it names tile `n - 1`. -/
def Cnt (j : BitVec 32) (n : ℕ) : Prop :=
  (n = 0 ∧ Scalar.cmpi .sge j 0#32 = 0#1) ∨ (1 ≤ n ∧ n ≤ 128 ∧ j = BitVec.ofNat 32 (n - 1))

theorem sge_ofNat (b : ℕ) (h : b < 128) : Scalar.cmpi .sge (BitVec.ofNat 32 b) 0#32 = 1#1 := by
  have : ∀ b : Fin 128, Scalar.cmpi .sge (BitVec.ofNat 32 b.val) 0#32 = 1#1 := by decide
  exact this ⟨b, h⟩

theorem Cnt.pred {n : ℕ} (h : n < 128) : Cnt (Scalar.subi (BitVec.ofNat 32 n) 1#32) n := by
  have : ∀ b : Fin 128, (b.val = 0 ∧ Scalar.cmpi .sge (Scalar.subi (BitVec.ofNat 32 b.val) 1#32) 0#32 = 0#1) ∨
      (1 ≤ b.val ∧ b.val ≤ 128 ∧ Scalar.subi (BitVec.ofNat 32 b.val) 1#32 = BitVec.ofNat 32 (b.val - 1)) := by decide
  exact this ⟨n, h⟩

theorem mul128_toNat (b : ℕ) (h : b < 128) : (Scalar.muli (BitVec.ofNat 32 b) 128#32).toNat = 128 * b := by
  have : ∀ b : Fin 128, (Scalar.muli (BitVec.ofNat 32 b.val) 128#32).toNat = 128 * b.val := by decide
  exact this ⟨b, h⟩

/-- Tile `b` of the pair of heads in lanes `128 p …` of the keys or the values. -/
def tileOf (p : ℕ) (hp : p < 2) (X : Vec F S16384x256 .bf16) (b : ℕ) : Vec F S128x128 .bf16 :=
  if h : b < 128 then
    View.ld X (Rect.unit (s := S16384x256) ![128 * b, 128 * p] S128x128.size
      (by intro a; fin_cases a <;> simp <;> omega))
  else fun _ => Scalar.ofBits .bf16 0#16

theorem tile_read (m : Memref sig .tc .vmem S16384x256 .bf16) (hm : m.IsWhole) (X : Vec F S16384x256 .bf16) (p : ℕ) (hp : p < 2)
    (b : ℕ) (hb : b < 128) (off : Fin 2 → ℕ) (ho : off = ![128 * b, 128 * p])
    (hin : ∀ a, off a + S128x128.size a ≤ S16384x256.size a) :
    m.view.readAt (Elt F) (Rect.unit (s := S16384x256) off S128x128.size hin).toLoadRect (hm.unread X) = tileOf p hp X b := by
  subst ho
  rw [View.readAt_eq_ld, hm.read_unread]
  unfold tileOf
  rw [dif_pos hb]

end Cert.KernelIdeal.Pf

end
-- ==== Proof.KI.Spec.lean ====
/-
  The buffers a loop's label holds and the specification of the eight labels.
-/
module

public import proofs.«01_k».proof.Proof.KI.Pure

@[expose] public section

set_option maxRecDepth 16384

noncomputable section
namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev 𝒱₀ : Variants := Variants.nat

section Label

variable (c : Dev nD) (i : grid0.Coords) (arg8 : Memref sig .tc .vmem S16x128x256 .f32) (harg8 : arg8.IsWhole)
  (arg2 : Memref sig .tc .vmem S16384x256 .bf16) (harg2 : arg2.IsWhole) (arg3 : Memref sig .tc .vmem S16384x256 .bf16) (harg3 : arg3.IsWhole)
  (q0 : Vec F S128x128 .bf16) (tri : FVec F S256x256 .bf16) (arg7 : Memref sig .tc .vmem S16x128x128 .f32) (harg7 : arg7.IsWhole)
  (q1 : Vec F S128x128 .bf16) (X2 X3 : Vec F S16384x256 .bf16)

/-- The four buffers the label's function reads and writes, held whole. -/
def held (f7 : C7 F arg7) (f8 : C8 F arg8) : sProp 𝕄 :=
  iprop((arg2.view.loc (c : Thread nD τ) ↦[arg2.view.set]{fullShare} (harg2.unread X2 : Buf (Elt F) (arg2.view.loc (c : Thread nD τ))))
    ∗ (arg3.view.loc (c : Thread nD τ) ↦[arg3.view.set]{fullShare} (harg3.unread X3 : Buf (Elt F) (arg3.view.loc (c : Thread nD τ))))
    ∗ (arg7.view.loc (c : Thread nD τ) ↦[arg7.view.set]{fullShare} (f7 : Buf (Elt F) (arg7.view.loc (c : Thread nD τ))))
    ∗ (arg8.view.loc (c : Thread nD τ) ↦[arg8.view.set]{fullShare} (f8 : Buf (Elt F) (arg8.view.loc (c : Thread nD τ)))))

/-- The loop over slots `s0` and `s1` with `n` tiles left and the flag at `g`. -/
abbrev loopAt (s0 s1 : ℕ) (h0 : s0 < 16) (h1 : s1 < 16) (n : ℕ) (g : BitVec 1) (f7 : C7 F arg7) (f8 : C8 F arg8) : C7 F arg7 × C8 F arg8 :=
  loop arg7 arg8 s0 s1 h0 h1 q0 q1 tri (tileOf 0 (by decide) X2) (tileOf 1 (by decide) X2) (tileOf 0 (by decide) X3) (tileOf 1 (by decide) X3) n g f7 f8

/-- The same on the pair of buffers. -/
def loopP (s0 s1 : ℕ) (h0 : s0 < 16) (h1 : s1 < 16) (n : ℕ) (g : BitVec 1) (p : C7 F arg7 × C8 F arg8) : C7 F arg7 × C8 F arg8 :=
  loopAt arg8 q0 tri arg7 q1 X2 X3 s0 s1 h0 h1 n g p.1 p.2

/-- The specification of a loop's label: it returns some counter and flag, the two scratch buffers after its visits. -/
def spec (s0 s1 : ℕ) (h0 : s0 < 16) (h1 : s1 < 16) (n : ℕ) (g : BitVec 1) (f7 : C7 F arg7) (f8 : C8 F arg8) : sWPT 𝕄 (BitVec 32 × BitVec 1) := do
  sWPT.consume (held c arg8 arg2 harg2 arg3 harg3 arg7 X2 X3 f7 f8)
  let r ← sWPT.arbitrary
  sWPT.produce (held c arg8 arg2 harg2 arg3 harg3 arg7 X2 X3
    (loopAt arg8 q0 tri arg7 q1 X2 X3 s0 s1 h0 h1 n g f7 f8).1 (loopAt arg8 q0 tri arg7 q1 X2 X3 s0 s1 h0 h1 n g f7 f8).2)
  pure r

theorem spec_apply (s0 s1 : ℕ) (h0 : s0 < 16) (h1 : s1 < 16) (n : ℕ) (g : BitVec 1) (f7 : C7 F arg7) (f8 : C8 F arg8) (K : BitVec 32 × BitVec 1 → sProp 𝕄) :
    spec c arg8 arg2 harg2 arg3 harg3 q0 tri arg7 q1 X2 X3 s0 s1 h0 h1 n g f7 f8 K
      = iprop(held c arg8 arg2 harg2 arg3 harg3 arg7 X2 X3 f7 f8 ∗ ∀ r : BitVec 32 × BitVec 1,
        (held c arg8 arg2 harg2 arg3 harg3 arg7 X2 X3
          (loopAt arg8 q0 tri arg7 q1 X2 X3 s0 s1 h0 h1 n g f7 f8).1 (loopAt arg8 q0 tri arg7 q1 X2 X3 s0 s1 h0 h1 n g f7 f8).2 -∗ K r)) := rfl

/-- A counted-down label's start: the point's first query tile, the sub-block, two back. -/
theorem cnt_start (i : grid0.Coords) (s : ℕ) (hs : s < 8) :
    Cnt (Scalar.subi (Scalar.addi (Scalar.muli (BitVec.ofNat 32 (i 0).val) 8#32) (BitVec.ofNat 32 s)) 2#32) (8 * (i 0).val + s - 1) := by
  have key : ∀ (a : Fin 16) (s : Fin 8),
      (8 * a.val + s.val - 1 = 0 ∧ Scalar.cmpi .sge (Scalar.subi (Scalar.addi (Scalar.muli (BitVec.ofNat 32 a.val) 8#32) (BitVec.ofNat 32 s.val)) 2#32) 0#32 = 0#1) ∨
      (1 ≤ 8 * a.val + s.val - 1 ∧ 8 * a.val + s.val - 1 ≤ 128 ∧
        Scalar.subi (Scalar.addi (Scalar.muli (BitVec.ofNat 32 a.val) 8#32) (BitVec.ofNat 32 s.val)) 2#32 = BitVec.ofNat 32 (8 * a.val + s.val - 1 - 1)) := by
    decide
  exact key (i 0) ⟨s, hs⟩

end Label

end Cert.KernelIdeal.Pf

end
-- ==== Proof.KI.While1.lean ====
/-
  The first of the eight loops: the specification of its label, met by its body.
-/
module

public import proofs.«01_k».proof.Proof.KI.Spec

@[expose] public section

set_option maxRecDepth 16384

noncomputable section
namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem k0_off5_eq (b : ℕ) (hb : b < 128) : k0_off5 (BitVec.ofNat 32 b) = ![128 * b, 128 * 0] := by
  have := mul128_toNat b hb
  unfold k0_off5; simp only [Scalar.indexCast]; rw [this]
theorem k0_off6_eq (b : ℕ) (hb : b < 128) : k0_off6 (BitVec.ofNat 32 b) = ![128 * b, 128 * 1] := by
  have := mul128_toNat b hb
  unfold k0_off6; simp only [Scalar.indexCast]; rw [this]

theorem k0_chk1_of (b : ℕ) (hb : b < 128) : k0_chk1 (BitVec.ofNat 32 b) := by
  refine ⟨?_, ?_, ?_⟩
  · unfold k0_mult17; exact ⟨b, mul128_toNat b hb⟩
  · rw [k0_off5_eq b hb]; intro a; fin_cases a <;> simp <;> omega
  · rw [k0_off6_eq b hb]; intro a; fin_cases a <;> simp <;> omega

section Label

variable (c : Dev nD) (i : grid0.Coords) (arg8 : Memref sig .tc .vmem S16x128x256 .f32) (harg8 : arg8.IsWhole)
  (arg2 : Memref sig .tc .vmem S16384x256 .bf16) (harg2 : arg2.IsWhole) (arg3 : Memref sig .tc .vmem S16384x256 .bf16) (harg3 : arg3.IsWhole)
  (q0 : Vec F S128x128 .bf16) (tri : FVec F S256x256 .bf16) (arg7 : Memref sig .tc .vmem S16x128x128 .f32) (harg7 : arg7.IsWhole)
  (q1 : Vec F S128x128 .bf16) (X2 X3 : Vec F S16384x256 .bf16)

set_option maxHeartbeats 1000000 in
theorem spec_le1 (E : Set ℕ) : ∀ n j g, Cnt j n → ∀ f7 f8 K,
    spec c arg8 arg2 harg2 arg3 harg3 q0 tri arg7 q1 X2 X3 0 1 (by decide) (by decide) n g f7 f8 K
      ⊢ wp frame (wpE (defs₀ (F := F)) 𝒱₀ (c : Thread nD τ) (some n)) E
          (defs₀ (F := F) .tc 1 ⟨i, arg8, harg8, arg2, harg2, arg3, harg3, q0, tri, arg7, harg7, q1, j, g⟩) K := by
  intro n
  induction n with
  | zero =>
    intro j g hj f7 f8 K
    rw [spec_apply]
    show _ ⊢ wp frame (wpE (defs₀ (F := F)) 𝒱₀ (c : Thread nD τ) (some 0)) E
      (cc0_while1 i arg8 harg8 arg2 harg2 arg3 harg3 q0 tri arg7 harg7 q1 j g) K
    simp only [cc0_while1_eq_skeleton]; unfold cc0_while1_skel
    have htest : ¬Scalar.andi (Scalar.cmpi .sge j 0#32) g = 1#1 := by
      rcases hj with ⟨-, h⟩ | ⟨h, -⟩
      · rw [h]; revert g; decide
      · omega
    simp only [htest, ↓reduceIte, Prog.pure_eq_ret]
    iintro ⟨H, Hk⟩
    rw [wp_ret]; imodintro
    iapply Hk
    simp only [loopAt, loop]; iexact H
  | succ n ih =>
    intro j g hj f7 f8 K
    obtain ⟨hn, rfl⟩ : n < 128 ∧ j = BitVec.ofNat 32 n := by
      rcases hj with ⟨h, -⟩ | ⟨-, h, h'⟩
      · omega
      · exact ⟨by omega, h'⟩
    rw [spec_apply]
    show _ ⊢ wp frame (wpE (defs₀ (F := F)) 𝒱₀ (c : Thread nD τ) (some (n + 1))) E
      (cc0_while1 i arg8 harg8 arg2 harg2 arg3 harg3 q0 tri arg7 harg7 q1 (BitVec.ofNat 32 n) g) K
    simp only [cc0_while1_eq_skeleton]; unfold cc0_while1_skel
    by_cases hg : g = 1#1
    swap
    · have htest : ¬Scalar.andi (Scalar.cmpi .sge (BitVec.ofNat 32 n) 0#32) g = 1#1 := by
        rw [sge_ofNat n hn]; revert g; decide
      simp only [htest, ↓reduceIte, Prog.pure_eq_ret]
      iintro ⟨H, Hk⟩
      rw [wp_ret]; imodintro
      iapply Hk
      simp only [loopAt, loop, if_neg hg]; iexact H
    have htest : Scalar.andi (Scalar.cmpi .sge (BitVec.ofNat 32 n) 0#32) g = 1#1 := by
      rw [sge_ofNat n hn, hg]; decide
    simp only [htest, ↓reduceIte]
    simp only [k0_part62_eq_skeleton, k0_part63_eq_skeleton, k0_part64_eq_skeleton]
    have hchk := k0_chk1_of n hn
    unfold held
    iintro ⟨⟨H2, H3, H7, H8⟩, Hk⟩
    sl_exec
    -- the tiles as loaded
    have e20 := tile_read arg2 harg2 X2 0 (by decide) n hn _ (k0_off5_eq n hn) (k0_off5_inb _ hchk)
    have e21 := tile_read arg2 harg2 X2 1 (by decide) n hn _ (k0_off6_eq n hn) (k0_off6_inb _ hchk)
    have e30 := tile_read arg3 harg3 X3 0 (by decide) n hn _ (k0_off5_eq n hn) (k0_off5_inb _ hchk)
    have e31 := tile_read arg3 harg3 X3 1 (by decide) n hn _ (k0_off6_eq n hn) (k0_off6_inb _ hchk)
    iapply (wp_call_spec 𝒱₀ (c : Thread nD τ) (some (n + 1)) E
      (spec c arg8 arg2 harg2 arg3 harg3 q0 tri arg7 q1 X2 X3 0 1 (by decide) (by decide) n
        (tripFlag arg8 0 1 (by decide) (by decide) q0 q1 (tileOf 0 (by decide) X2) (tileOf 1 (by decide) X2) n f8)
        (trip7 arg7 arg8 0 1 (by decide) (by decide) q0 q1 tri (tileOf 0 (by decide) X2) (tileOf 1 (by decide) X2)
          (tileOf 0 (by decide) X3) (tileOf 1 (by decide) X3) n f7 f8)
        (trip8 arg8 0 1 (by decide) (by decide) q0 q1 (tileOf 0 (by decide) X2) (tileOf 1 (by decide) X2) n f8)) n
      (fun u hu => by cases hu; exact Nat.lt_succ_self n)
      (by
        have := ih (Scalar.subi (BitVec.ofNat 32 n) 1#32) (tripFlag arg8 0 1 (by decide) (by decide) q0 q1 (tileOf 0 (by decide) X2) (tileOf 1 (by decide) X2) n f8) (Cnt.pred hn)
          (trip7 arg7 arg8 0 1 (by decide) (by decide) q0 q1 tri (tileOf 0 (by decide) X2) (tileOf 1 (by decide) X2)
            (tileOf 0 (by decide) X3) (tileOf 1 (by decide) X3) n f7 f8)
          (trip8 arg8 0 1 (by decide) (by decide) q0 q1 (tileOf 0 (by decide) X2) (tileOf 1 (by decide) X2) n f8)
        simp only [tripFlag, ← e20, ← e21] at this ⊢
        exact this))
    rw [spec_apply]; unfold held
    isplitl [H2 H3 H7 H8]
    · isplitl [H2]; · iexact H2
      isplitl [H3]; · iexact H3
      isplitl [H7]
      · rw [show trip7 arg7 arg8 0 1 (by decide) (by decide) q0 q1 tri (tileOf 0 (by decide) X2) (tileOf 1 (by decide) X2)
          (tileOf 0 (by decide) X3) (tileOf 1 (by decide) X3) n f7 f8 = trip7 arg7 arg8 0 1 (by decide) (by decide) q0 q1 tri
            (fun _ => _) (fun _ => _) (fun _ => _) (fun _ => _) n f7 f8 from by
            unfold trip7; rw [← e20, ← e21, ← e30, ← e31]]
        iexact H7
      · rw [show trip8 arg8 0 1 (by decide) (by decide) q0 q1 (tileOf 0 (by decide) X2) (tileOf 1 (by decide) X2) n f8
          = trip8 arg8 0 1 (by decide) (by decide) q0 q1 (fun _ => _) (fun _ => _) n f8 from by
            unfold trip8; rw [← e20, ← e21]]
        iexact H8
    iintro %r H
    rw [wp_ret]; imodintro
    iapply Hk
    simp only [loopAt, loop, if_pos hg]
    iexact H

theorem wp_call1 {α : Type} {k : BitVec 32 × BitVec 1 → Prog (TpuEff nD τ sig (Elt F) (Λ₀ F) .tc) α} {Q : α → sProp 𝕄} {j : BitVec 32} {g : BitVec 1}
    {n : ℕ} (h : Cnt j n) {f7 : C7 F arg7} {f8 : C8 F arg8} :
    (arg2.view.loc (c : Thread nD τ) ↦[arg2.view.set]{fullShare} (harg2.unread X2 : Buf (Elt F) (arg2.view.loc (c : Thread nD τ))))
      ⊢ iprop((arg3.view.loc (c : Thread nD τ) ↦[arg3.view.set]{fullShare} (harg3.unread X3 : Buf (Elt F) (arg3.view.loc (c : Thread nD τ))))
        -∗ (arg7.view.loc (c : Thread nD τ) ↦[arg7.view.set]{fullShare} (f7 : Buf (Elt F) (arg7.view.loc (c : Thread nD τ))))
        -∗ (arg8.view.loc (c : Thread nD τ) ↦[arg8.view.set]{fullShare} (f8 : Buf (Elt F) (arg8.view.loc (c : Thread nD τ))))
        -∗ (∀ r : BitVec 32 × BitVec 1, held c arg8 arg2 harg2 arg3 harg3 arg7 X2 X3
              (loopP arg8 q0 tri arg7 q1 X2 X3 0 1 (by decide) (by decide) n g (f7, f8)).1
              (loopP arg8 q0 tri arg7 q1 X2 X3 0 1 (by decide) (by decide) n g (f7, f8)).2
            -∗ wp frame (wpE (defs₀ (F := F)) 𝒱₀ (c : Thread nD τ) none) Set.univ (k r) Q)
        -∗ wp frame (wpE (defs₀ (F := F)) 𝒱₀ (c : Thread nD τ) none) Set.univ
          (.op (.call (1 : (Λ₀ F).Label) ⟨i, arg8, harg8, arg2, harg2, arg3, harg3, q0, tri, arg7, harg7, q1, j, g⟩) k) Q) := by
  iintro H2 H3 H7 H8 Hk
  iapply (wp_call_spec 𝒱₀ (c : Thread nD τ) none Set.univ
    (spec c arg8 arg2 harg2 arg3 harg3 q0 tri arg7 q1 X2 X3 0 1 (by decide) (by decide) n g f7 f8) n (fun u hu => nomatch hu)
    (spec_le1 c i arg8 harg8 arg2 harg2 arg3 harg3 q0 tri arg7 harg7 q1 X2 X3 Set.univ n j g h f7 f8))
  rw [spec_apply]
  isplitl [H2 H3 H7 H8]
  · unfold held
    isplitl [H2]; · iexact H2
    isplitl [H3]; · iexact H3
    isplitl [H7]; · iexact H7
    iexact H8
  iexact Hk

end Label

end Cert.KernelIdeal.Pf

end
-- ==== Proof.KI.While2.lean ====
/-
  The second of the eight loops: the specification of its label, met by its body.
-/
module

public import proofs.«01_k».proof.Proof.KI.Spec

@[expose] public section

set_option maxRecDepth 16384

noncomputable section
namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem k0_off7_eq (b : ℕ) (hb : b < 128) : k0_off7 (BitVec.ofNat 32 b) = ![128 * b, 128 * 0] := by
  have := mul128_toNat b hb
  unfold k0_off7; simp only [Scalar.indexCast]; rw [this]
theorem k0_off8_eq (b : ℕ) (hb : b < 128) : k0_off8 (BitVec.ofNat 32 b) = ![128 * b, 128 * 1] := by
  have := mul128_toNat b hb
  unfold k0_off8; simp only [Scalar.indexCast]; rw [this]

theorem k0_chk2_of (b : ℕ) (hb : b < 128) : k0_chk2 (BitVec.ofNat 32 b) := by
  refine ⟨?_, ?_, ?_⟩
  · unfold k0_mult18; exact ⟨b, mul128_toNat b hb⟩
  · rw [k0_off7_eq b hb]; intro a; fin_cases a <;> simp <;> omega
  · rw [k0_off8_eq b hb]; intro a; fin_cases a <;> simp <;> omega

section Label

variable (c : Dev nD) (i : grid0.Coords) (arg8 : Memref sig .tc .vmem S16x128x256 .f32) (harg8 : arg8.IsWhole)
  (arg2 : Memref sig .tc .vmem S16384x256 .bf16) (harg2 : arg2.IsWhole) (arg3 : Memref sig .tc .vmem S16384x256 .bf16) (harg3 : arg3.IsWhole)
  (q0 : Vec F S128x128 .bf16) (tri : FVec F S256x256 .bf16) (arg7 : Memref sig .tc .vmem S16x128x128 .f32) (harg7 : arg7.IsWhole)
  (q1 : Vec F S128x128 .bf16) (X2 X3 : Vec F S16384x256 .bf16)

set_option maxHeartbeats 1000000 in
theorem spec_le2 (E : Set ℕ) : ∀ n j g, Cnt j n → ∀ f7 f8 K,
    spec c arg8 arg2 harg2 arg3 harg3 q0 tri arg7 q1 X2 X3 2 3 (by decide) (by decide) n g f7 f8 K
      ⊢ wp frame (wpE (defs₀ (F := F)) 𝒱₀ (c : Thread nD τ) (some n)) E
          (defs₀ (F := F) .tc 2 ⟨i, arg8, harg8, arg2, harg2, arg3, harg3, q0, tri, arg7, harg7, q1, j, g⟩) K := by
  intro n
  induction n with
  | zero =>
    intro j g hj f7 f8 K
    rw [spec_apply]
    show _ ⊢ wp frame (wpE (defs₀ (F := F)) 𝒱₀ (c : Thread nD τ) (some 0)) E
      (cc0_while2 i arg8 harg8 arg2 harg2 arg3 harg3 q0 tri arg7 harg7 q1 j g) K
    simp only [cc0_while2_eq_skeleton]; unfold cc0_while2_skel
    have htest : ¬Scalar.andi (Scalar.cmpi .sge j 0#32) g = 1#1 := by
      rcases hj with ⟨-, h⟩ | ⟨h, -⟩
      · rw [h]; revert g; decide
      · omega
    simp only [htest, ↓reduceIte, Prog.pure_eq_ret]
    iintro ⟨H, Hk⟩
    rw [wp_ret]; imodintro
    iapply Hk
    simp only [loopAt, loop]; iexact H
  | succ n ih =>
    intro j g hj f7 f8 K
    obtain ⟨hn, rfl⟩ : n < 128 ∧ j = BitVec.ofNat 32 n := by
      rcases hj with ⟨h, -⟩ | ⟨-, h, h'⟩
      · omega
      · exact ⟨by omega, h'⟩
    rw [spec_apply]
    show _ ⊢ wp frame (wpE (defs₀ (F := F)) 𝒱₀ (c : Thread nD τ) (some (n + 1))) E
      (cc0_while2 i arg8 harg8 arg2 harg2 arg3 harg3 q0 tri arg7 harg7 q1 (BitVec.ofNat 32 n) g) K
    simp only [cc0_while2_eq_skeleton]; unfold cc0_while2_skel
    by_cases hg : g = 1#1
    swap
    · have htest : ¬Scalar.andi (Scalar.cmpi .sge (BitVec.ofNat 32 n) 0#32) g = 1#1 := by
        rw [sge_ofNat n hn]; revert g; decide
      simp only [htest, ↓reduceIte, Prog.pure_eq_ret]
      iintro ⟨H, Hk⟩
      rw [wp_ret]; imodintro
      iapply Hk
      simp only [loopAt, loop, if_neg hg]; iexact H
    have htest : Scalar.andi (Scalar.cmpi .sge (BitVec.ofNat 32 n) 0#32) g = 1#1 := by
      rw [sge_ofNat n hn, hg]; decide
    simp only [htest, ↓reduceIte]
    simp only [k0_part65_eq_skeleton, k0_part66_eq_skeleton, k0_part67_eq_skeleton]
    have hchk := k0_chk2_of n hn
    unfold held
    iintro ⟨⟨H2, H3, H7, H8⟩, Hk⟩
    sl_exec
    -- the tiles as loaded
    have e20 := tile_read arg2 harg2 X2 0 (by decide) n hn _ (k0_off7_eq n hn) (k0_off7_inb _ hchk)
    have e21 := tile_read arg2 harg2 X2 1 (by decide) n hn _ (k0_off8_eq n hn) (k0_off8_inb _ hchk)
    have e30 := tile_read arg3 harg3 X3 0 (by decide) n hn _ (k0_off7_eq n hn) (k0_off7_inb _ hchk)
    have e31 := tile_read arg3 harg3 X3 1 (by decide) n hn _ (k0_off8_eq n hn) (k0_off8_inb _ hchk)
    iapply (wp_call_spec 𝒱₀ (c : Thread nD τ) (some (n + 1)) E
      (spec c arg8 arg2 harg2 arg3 harg3 q0 tri arg7 q1 X2 X3 2 3 (by decide) (by decide) n
        (tripFlag arg8 2 3 (by decide) (by decide) q0 q1 (tileOf 0 (by decide) X2) (tileOf 1 (by decide) X2) n f8)
        (trip7 arg7 arg8 2 3 (by decide) (by decide) q0 q1 tri (tileOf 0 (by decide) X2) (tileOf 1 (by decide) X2)
          (tileOf 0 (by decide) X3) (tileOf 1 (by decide) X3) n f7 f8)
        (trip8 arg8 2 3 (by decide) (by decide) q0 q1 (tileOf 0 (by decide) X2) (tileOf 1 (by decide) X2) n f8)) n
      (fun u hu => by cases hu; exact Nat.lt_succ_self n)
      (by
        have := ih (Scalar.subi (BitVec.ofNat 32 n) 1#32) (tripFlag arg8 2 3 (by decide) (by decide) q0 q1 (tileOf 0 (by decide) X2) (tileOf 1 (by decide) X2) n f8) (Cnt.pred hn)
          (trip7 arg7 arg8 2 3 (by decide) (by decide) q0 q1 tri (tileOf 0 (by decide) X2) (tileOf 1 (by decide) X2)
            (tileOf 0 (by decide) X3) (tileOf 1 (by decide) X3) n f7 f8)
          (trip8 arg8 2 3 (by decide) (by decide) q0 q1 (tileOf 0 (by decide) X2) (tileOf 1 (by decide) X2) n f8)
        simp only [tripFlag, ← e20, ← e21] at this ⊢
        exact this))
    rw [spec_apply]; unfold held
    isplitl [H2 H3 H7 H8]
    · isplitl [H2]; · iexact H2
      isplitl [H3]; · iexact H3
      isplitl [H7]
      · rw [show trip7 arg7 arg8 2 3 (by decide) (by decide) q0 q1 tri (tileOf 0 (by decide) X2) (tileOf 1 (by decide) X2)
          (tileOf 0 (by decide) X3) (tileOf 1 (by decide) X3) n f7 f8 = trip7 arg7 arg8 2 3 (by decide) (by decide) q0 q1 tri
            (fun _ => _) (fun _ => _) (fun _ => _) (fun _ => _) n f7 f8 from by
            unfold trip7; rw [← e20, ← e21, ← e30, ← e31]]
        iexact H7
      · rw [show trip8 arg8 2 3 (by decide) (by decide) q0 q1 (tileOf 0 (by decide) X2) (tileOf 1 (by decide) X2) n f8
          = trip8 arg8 2 3 (by decide) (by decide) q0 q1 (fun _ => _) (fun _ => _) n f8 from by
            unfold trip8; rw [← e20, ← e21]]
        iexact H8
    iintro %r H
    rw [wp_ret]; imodintro
    iapply Hk
    simp only [loopAt, loop, if_pos hg]
    iexact H

theorem wp_call2 {α : Type} {k : BitVec 32 × BitVec 1 → Prog (TpuEff nD τ sig (Elt F) (Λ₀ F) .tc) α} {Q : α → sProp 𝕄} {j : BitVec 32} {g : BitVec 1}
    {n : ℕ} (h : Cnt j n) {p : C7 F arg7 × C8 F arg8} :
    (arg2.view.loc (c : Thread nD τ) ↦[arg2.view.set]{fullShare} (harg2.unread X2 : Buf (Elt F) (arg2.view.loc (c : Thread nD τ))))
      ⊢ iprop((arg3.view.loc (c : Thread nD τ) ↦[arg3.view.set]{fullShare} (harg3.unread X3 : Buf (Elt F) (arg3.view.loc (c : Thread nD τ))))
        -∗ (arg7.view.loc (c : Thread nD τ) ↦[arg7.view.set]{fullShare} (p.1 : Buf (Elt F) (arg7.view.loc (c : Thread nD τ))))
        -∗ (arg8.view.loc (c : Thread nD τ) ↦[arg8.view.set]{fullShare} (p.2 : Buf (Elt F) (arg8.view.loc (c : Thread nD τ))))
        -∗ (∀ r : BitVec 32 × BitVec 1, held c arg8 arg2 harg2 arg3 harg3 arg7 X2 X3
              (loopP arg8 q0 tri arg7 q1 X2 X3 2 3 (by decide) (by decide) n g p).1
              (loopP arg8 q0 tri arg7 q1 X2 X3 2 3 (by decide) (by decide) n g p).2
            -∗ wp frame (wpE (defs₀ (F := F)) 𝒱₀ (c : Thread nD τ) none) Set.univ (k r) Q)
        -∗ wp frame (wpE (defs₀ (F := F)) 𝒱₀ (c : Thread nD τ) none) Set.univ
          (.op (.call (2 : (Λ₀ F).Label) ⟨i, arg8, harg8, arg2, harg2, arg3, harg3, q0, tri, arg7, harg7, q1, j, g⟩) k) Q) := by
  iintro H2 H3 H7 H8 Hk
  iapply (wp_call_spec 𝒱₀ (c : Thread nD τ) none Set.univ
    (spec c arg8 arg2 harg2 arg3 harg3 q0 tri arg7 q1 X2 X3 2 3 (by decide) (by decide) n g p.1 p.2) n (fun u hu => nomatch hu)
    (spec_le2 c i arg8 harg8 arg2 harg2 arg3 harg3 q0 tri arg7 harg7 q1 X2 X3 Set.univ n j g h p.1 p.2))
  rw [spec_apply]
  isplitl [H2 H3 H7 H8]
  · unfold held
    isplitl [H2]; · iexact H2
    isplitl [H3]; · iexact H3
    isplitl [H7]; · iexact H7
    iexact H8
  iexact Hk

end Label

end Cert.KernelIdeal.Pf

end
-- ==== Proof.KI.While3.lean ====
/-
  The third of the eight loops: the specification of its label, met by its body.
-/
module

public import proofs.«01_k».proof.Proof.KI.Spec

@[expose] public section

set_option maxRecDepth 16384

noncomputable section
namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem k0_off9_eq (b : ℕ) (hb : b < 128) : k0_off9 (BitVec.ofNat 32 b) = ![128 * b, 128 * 0] := by
  have := mul128_toNat b hb
  unfold k0_off9; simp only [Scalar.indexCast]; rw [this]
theorem k0_off10_eq (b : ℕ) (hb : b < 128) : k0_off10 (BitVec.ofNat 32 b) = ![128 * b, 128 * 1] := by
  have := mul128_toNat b hb
  unfold k0_off10; simp only [Scalar.indexCast]; rw [this]

theorem k0_chk3_of (b : ℕ) (hb : b < 128) : k0_chk3 (BitVec.ofNat 32 b) := by
  refine ⟨?_, ?_, ?_⟩
  · unfold k0_mult19; exact ⟨b, mul128_toNat b hb⟩
  · rw [k0_off9_eq b hb]; intro a; fin_cases a <;> simp <;> omega
  · rw [k0_off10_eq b hb]; intro a; fin_cases a <;> simp <;> omega

section Label

variable (c : Dev nD) (i : grid0.Coords) (arg8 : Memref sig .tc .vmem S16x128x256 .f32) (harg8 : arg8.IsWhole)
  (arg2 : Memref sig .tc .vmem S16384x256 .bf16) (harg2 : arg2.IsWhole) (arg3 : Memref sig .tc .vmem S16384x256 .bf16) (harg3 : arg3.IsWhole)
  (q0 : Vec F S128x128 .bf16) (tri : FVec F S256x256 .bf16) (arg7 : Memref sig .tc .vmem S16x128x128 .f32) (harg7 : arg7.IsWhole)
  (q1 : Vec F S128x128 .bf16) (X2 X3 : Vec F S16384x256 .bf16)

set_option maxHeartbeats 1000000 in
theorem spec_le3 (E : Set ℕ) : ∀ n j g, Cnt j n → ∀ f7 f8 K,
    spec c arg8 arg2 harg2 arg3 harg3 q0 tri arg7 q1 X2 X3 4 5 (by decide) (by decide) n g f7 f8 K
      ⊢ wp frame (wpE (defs₀ (F := F)) 𝒱₀ (c : Thread nD τ) (some n)) E
          (defs₀ (F := F) .tc 3 ⟨i, arg8, harg8, arg2, harg2, arg3, harg3, q0, tri, arg7, harg7, q1, j, g⟩) K := by
  intro n
  induction n with
  | zero =>
    intro j g hj f7 f8 K
    rw [spec_apply]
    show _ ⊢ wp frame (wpE (defs₀ (F := F)) 𝒱₀ (c : Thread nD τ) (some 0)) E
      (cc0_while3 i arg8 harg8 arg2 harg2 arg3 harg3 q0 tri arg7 harg7 q1 j g) K
    simp only [cc0_while3_eq_skeleton]; unfold cc0_while3_skel
    have htest : ¬Scalar.andi (Scalar.cmpi .sge j 0#32) g = 1#1 := by
      rcases hj with ⟨-, h⟩ | ⟨h, -⟩
      · rw [h]; revert g; decide
      · omega
    simp only [htest, ↓reduceIte, Prog.pure_eq_ret]
    iintro ⟨H, Hk⟩
    rw [wp_ret]; imodintro
    iapply Hk
    simp only [loopAt, loop]; iexact H
  | succ n ih =>
    intro j g hj f7 f8 K
    obtain ⟨hn, rfl⟩ : n < 128 ∧ j = BitVec.ofNat 32 n := by
      rcases hj with ⟨h, -⟩ | ⟨-, h, h'⟩
      · omega
      · exact ⟨by omega, h'⟩
    rw [spec_apply]
    show _ ⊢ wp frame (wpE (defs₀ (F := F)) 𝒱₀ (c : Thread nD τ) (some (n + 1))) E
      (cc0_while3 i arg8 harg8 arg2 harg2 arg3 harg3 q0 tri arg7 harg7 q1 (BitVec.ofNat 32 n) g) K
    simp only [cc0_while3_eq_skeleton]; unfold cc0_while3_skel
    by_cases hg : g = 1#1
    swap
    · have htest : ¬Scalar.andi (Scalar.cmpi .sge (BitVec.ofNat 32 n) 0#32) g = 1#1 := by
        rw [sge_ofNat n hn]; revert g; decide
      simp only [htest, ↓reduceIte, Prog.pure_eq_ret]
      iintro ⟨H, Hk⟩
      rw [wp_ret]; imodintro
      iapply Hk
      simp only [loopAt, loop, if_neg hg]; iexact H
    have htest : Scalar.andi (Scalar.cmpi .sge (BitVec.ofNat 32 n) 0#32) g = 1#1 := by
      rw [sge_ofNat n hn, hg]; decide
    simp only [htest, ↓reduceIte]
    simp only [k0_part68_eq_skeleton, k0_part69_eq_skeleton, k0_part70_eq_skeleton]
    have hchk := k0_chk3_of n hn
    unfold held
    iintro ⟨⟨H2, H3, H7, H8⟩, Hk⟩
    sl_exec
    -- the tiles as loaded
    have e20 := tile_read arg2 harg2 X2 0 (by decide) n hn _ (k0_off9_eq n hn) (k0_off9_inb _ hchk)
    have e21 := tile_read arg2 harg2 X2 1 (by decide) n hn _ (k0_off10_eq n hn) (k0_off10_inb _ hchk)
    have e30 := tile_read arg3 harg3 X3 0 (by decide) n hn _ (k0_off9_eq n hn) (k0_off9_inb _ hchk)
    have e31 := tile_read arg3 harg3 X3 1 (by decide) n hn _ (k0_off10_eq n hn) (k0_off10_inb _ hchk)
    iapply (wp_call_spec 𝒱₀ (c : Thread nD τ) (some (n + 1)) E
      (spec c arg8 arg2 harg2 arg3 harg3 q0 tri arg7 q1 X2 X3 4 5 (by decide) (by decide) n
        (tripFlag arg8 4 5 (by decide) (by decide) q0 q1 (tileOf 0 (by decide) X2) (tileOf 1 (by decide) X2) n f8)
        (trip7 arg7 arg8 4 5 (by decide) (by decide) q0 q1 tri (tileOf 0 (by decide) X2) (tileOf 1 (by decide) X2)
          (tileOf 0 (by decide) X3) (tileOf 1 (by decide) X3) n f7 f8)
        (trip8 arg8 4 5 (by decide) (by decide) q0 q1 (tileOf 0 (by decide) X2) (tileOf 1 (by decide) X2) n f8)) n
      (fun u hu => by cases hu; exact Nat.lt_succ_self n)
      (by
        have := ih (Scalar.subi (BitVec.ofNat 32 n) 1#32) (tripFlag arg8 4 5 (by decide) (by decide) q0 q1 (tileOf 0 (by decide) X2) (tileOf 1 (by decide) X2) n f8) (Cnt.pred hn)
          (trip7 arg7 arg8 4 5 (by decide) (by decide) q0 q1 tri (tileOf 0 (by decide) X2) (tileOf 1 (by decide) X2)
            (tileOf 0 (by decide) X3) (tileOf 1 (by decide) X3) n f7 f8)
          (trip8 arg8 4 5 (by decide) (by decide) q0 q1 (tileOf 0 (by decide) X2) (tileOf 1 (by decide) X2) n f8)
        simp only [tripFlag, ← e20, ← e21] at this ⊢
        exact this))
    rw [spec_apply]; unfold held
    isplitl [H2 H3 H7 H8]
    · isplitl [H2]; · iexact H2
      isplitl [H3]; · iexact H3
      isplitl [H7]
      · rw [show trip7 arg7 arg8 4 5 (by decide) (by decide) q0 q1 tri (tileOf 0 (by decide) X2) (tileOf 1 (by decide) X2)
          (tileOf 0 (by decide) X3) (tileOf 1 (by decide) X3) n f7 f8 = trip7 arg7 arg8 4 5 (by decide) (by decide) q0 q1 tri
            (fun _ => _) (fun _ => _) (fun _ => _) (fun _ => _) n f7 f8 from by
            unfold trip7; rw [← e20, ← e21, ← e30, ← e31]]
        iexact H7
      · rw [show trip8 arg8 4 5 (by decide) (by decide) q0 q1 (tileOf 0 (by decide) X2) (tileOf 1 (by decide) X2) n f8
          = trip8 arg8 4 5 (by decide) (by decide) q0 q1 (fun _ => _) (fun _ => _) n f8 from by
            unfold trip8; rw [← e20, ← e21]]
        iexact H8
    iintro %r H
    rw [wp_ret]; imodintro
    iapply Hk
    simp only [loopAt, loop, if_pos hg]
    iexact H

theorem wp_call3 {α : Type} {k : BitVec 32 × BitVec 1 → Prog (TpuEff nD τ sig (Elt F) (Λ₀ F) .tc) α} {Q : α → sProp 𝕄} {j : BitVec 32} {g : BitVec 1}
    {n : ℕ} (h : Cnt j n) {p : C7 F arg7 × C8 F arg8} :
    (arg2.view.loc (c : Thread nD τ) ↦[arg2.view.set]{fullShare} (harg2.unread X2 : Buf (Elt F) (arg2.view.loc (c : Thread nD τ))))
      ⊢ iprop((arg3.view.loc (c : Thread nD τ) ↦[arg3.view.set]{fullShare} (harg3.unread X3 : Buf (Elt F) (arg3.view.loc (c : Thread nD τ))))
        -∗ (arg7.view.loc (c : Thread nD τ) ↦[arg7.view.set]{fullShare} (p.1 : Buf (Elt F) (arg7.view.loc (c : Thread nD τ))))
        -∗ (arg8.view.loc (c : Thread nD τ) ↦[arg8.view.set]{fullShare} (p.2 : Buf (Elt F) (arg8.view.loc (c : Thread nD τ))))
        -∗ (∀ r : BitVec 32 × BitVec 1, held c arg8 arg2 harg2 arg3 harg3 arg7 X2 X3
              (loopP arg8 q0 tri arg7 q1 X2 X3 4 5 (by decide) (by decide) n g p).1
              (loopP arg8 q0 tri arg7 q1 X2 X3 4 5 (by decide) (by decide) n g p).2
            -∗ wp frame (wpE (defs₀ (F := F)) 𝒱₀ (c : Thread nD τ) none) Set.univ (k r) Q)
        -∗ wp frame (wpE (defs₀ (F := F)) 𝒱₀ (c : Thread nD τ) none) Set.univ
          (.op (.call (3 : (Λ₀ F).Label) ⟨i, arg8, harg8, arg2, harg2, arg3, harg3, q0, tri, arg7, harg7, q1, j, g⟩) k) Q) := by
  iintro H2 H3 H7 H8 Hk
  iapply (wp_call_spec 𝒱₀ (c : Thread nD τ) none Set.univ
    (spec c arg8 arg2 harg2 arg3 harg3 q0 tri arg7 q1 X2 X3 4 5 (by decide) (by decide) n g p.1 p.2) n (fun u hu => nomatch hu)
    (spec_le3 c i arg8 harg8 arg2 harg2 arg3 harg3 q0 tri arg7 harg7 q1 X2 X3 Set.univ n j g h p.1 p.2))
  rw [spec_apply]
  isplitl [H2 H3 H7 H8]
  · unfold held
    isplitl [H2]; · iexact H2
    isplitl [H3]; · iexact H3
    isplitl [H7]; · iexact H7
    iexact H8
  iexact Hk

end Label

end Cert.KernelIdeal.Pf

end
-- ==== Proof.KI.While4.lean ====
/-
  The fourth of the eight loops: the specification of its label, met by its body.
-/
module

public import proofs.«01_k».proof.Proof.KI.Spec

@[expose] public section

set_option maxRecDepth 16384

noncomputable section
namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem k0_off11_eq (b : ℕ) (hb : b < 128) : k0_off11 (BitVec.ofNat 32 b) = ![128 * b, 128 * 0] := by
  have := mul128_toNat b hb
  unfold k0_off11; simp only [Scalar.indexCast]; rw [this]
theorem k0_off12_eq (b : ℕ) (hb : b < 128) : k0_off12 (BitVec.ofNat 32 b) = ![128 * b, 128 * 1] := by
  have := mul128_toNat b hb
  unfold k0_off12; simp only [Scalar.indexCast]; rw [this]

theorem k0_chk4_of (b : ℕ) (hb : b < 128) : k0_chk4 (BitVec.ofNat 32 b) := by
  refine ⟨?_, ?_, ?_⟩
  · unfold k0_mult20; exact ⟨b, mul128_toNat b hb⟩
  · rw [k0_off11_eq b hb]; intro a; fin_cases a <;> simp <;> omega
  · rw [k0_off12_eq b hb]; intro a; fin_cases a <;> simp <;> omega

section Label

variable (c : Dev nD) (i : grid0.Coords) (arg8 : Memref sig .tc .vmem S16x128x256 .f32) (harg8 : arg8.IsWhole)
  (arg2 : Memref sig .tc .vmem S16384x256 .bf16) (harg2 : arg2.IsWhole) (arg3 : Memref sig .tc .vmem S16384x256 .bf16) (harg3 : arg3.IsWhole)
  (q0 : Vec F S128x128 .bf16) (tri : FVec F S256x256 .bf16) (arg7 : Memref sig .tc .vmem S16x128x128 .f32) (harg7 : arg7.IsWhole)
  (q1 : Vec F S128x128 .bf16) (X2 X3 : Vec F S16384x256 .bf16)

set_option maxHeartbeats 1000000 in
theorem spec_le4 (E : Set ℕ) : ∀ n j g, Cnt j n → ∀ f7 f8 K,
    spec c arg8 arg2 harg2 arg3 harg3 q0 tri arg7 q1 X2 X3 6 7 (by decide) (by decide) n g f7 f8 K
      ⊢ wp frame (wpE (defs₀ (F := F)) 𝒱₀ (c : Thread nD τ) (some n)) E
          (defs₀ (F := F) .tc 4 ⟨i, arg8, harg8, arg2, harg2, arg3, harg3, q0, tri, arg7, harg7, q1, j, g⟩) K := by
  intro n
  induction n with
  | zero =>
    intro j g hj f7 f8 K
    rw [spec_apply]
    show _ ⊢ wp frame (wpE (defs₀ (F := F)) 𝒱₀ (c : Thread nD τ) (some 0)) E
      (cc0_while4 i arg8 harg8 arg2 harg2 arg3 harg3 q0 tri arg7 harg7 q1 j g) K
    simp only [cc0_while4_eq_skeleton]; unfold cc0_while4_skel
    have htest : ¬Scalar.andi (Scalar.cmpi .sge j 0#32) g = 1#1 := by
      rcases hj with ⟨-, h⟩ | ⟨h, -⟩
      · rw [h]; revert g; decide
      · omega
    simp only [htest, ↓reduceIte, Prog.pure_eq_ret]
    iintro ⟨H, Hk⟩
    rw [wp_ret]; imodintro
    iapply Hk
    simp only [loopAt, loop]; iexact H
  | succ n ih =>
    intro j g hj f7 f8 K
    obtain ⟨hn, rfl⟩ : n < 128 ∧ j = BitVec.ofNat 32 n := by
      rcases hj with ⟨h, -⟩ | ⟨-, h, h'⟩
      · omega
      · exact ⟨by omega, h'⟩
    rw [spec_apply]
    show _ ⊢ wp frame (wpE (defs₀ (F := F)) 𝒱₀ (c : Thread nD τ) (some (n + 1))) E
      (cc0_while4 i arg8 harg8 arg2 harg2 arg3 harg3 q0 tri arg7 harg7 q1 (BitVec.ofNat 32 n) g) K
    simp only [cc0_while4_eq_skeleton]; unfold cc0_while4_skel
    by_cases hg : g = 1#1
    swap
    · have htest : ¬Scalar.andi (Scalar.cmpi .sge (BitVec.ofNat 32 n) 0#32) g = 1#1 := by
        rw [sge_ofNat n hn]; revert g; decide
      simp only [htest, ↓reduceIte, Prog.pure_eq_ret]
      iintro ⟨H, Hk⟩
      rw [wp_ret]; imodintro
      iapply Hk
      simp only [loopAt, loop, if_neg hg]; iexact H
    have htest : Scalar.andi (Scalar.cmpi .sge (BitVec.ofNat 32 n) 0#32) g = 1#1 := by
      rw [sge_ofNat n hn, hg]; decide
    simp only [htest, ↓reduceIte]
    simp only [k0_part71_eq_skeleton, k0_part72_eq_skeleton, k0_part73_eq_skeleton]
    have hchk := k0_chk4_of n hn
    unfold held
    iintro ⟨⟨H2, H3, H7, H8⟩, Hk⟩
    sl_exec
    -- the tiles as loaded
    have e20 := tile_read arg2 harg2 X2 0 (by decide) n hn _ (k0_off11_eq n hn) (k0_off11_inb _ hchk)
    have e21 := tile_read arg2 harg2 X2 1 (by decide) n hn _ (k0_off12_eq n hn) (k0_off12_inb _ hchk)
    have e30 := tile_read arg3 harg3 X3 0 (by decide) n hn _ (k0_off11_eq n hn) (k0_off11_inb _ hchk)
    have e31 := tile_read arg3 harg3 X3 1 (by decide) n hn _ (k0_off12_eq n hn) (k0_off12_inb _ hchk)
    iapply (wp_call_spec 𝒱₀ (c : Thread nD τ) (some (n + 1)) E
      (spec c arg8 arg2 harg2 arg3 harg3 q0 tri arg7 q1 X2 X3 6 7 (by decide) (by decide) n
        (tripFlag arg8 6 7 (by decide) (by decide) q0 q1 (tileOf 0 (by decide) X2) (tileOf 1 (by decide) X2) n f8)
        (trip7 arg7 arg8 6 7 (by decide) (by decide) q0 q1 tri (tileOf 0 (by decide) X2) (tileOf 1 (by decide) X2)
          (tileOf 0 (by decide) X3) (tileOf 1 (by decide) X3) n f7 f8)
        (trip8 arg8 6 7 (by decide) (by decide) q0 q1 (tileOf 0 (by decide) X2) (tileOf 1 (by decide) X2) n f8)) n
      (fun u hu => by cases hu; exact Nat.lt_succ_self n)
      (by
        have := ih (Scalar.subi (BitVec.ofNat 32 n) 1#32) (tripFlag arg8 6 7 (by decide) (by decide) q0 q1 (tileOf 0 (by decide) X2) (tileOf 1 (by decide) X2) n f8) (Cnt.pred hn)
          (trip7 arg7 arg8 6 7 (by decide) (by decide) q0 q1 tri (tileOf 0 (by decide) X2) (tileOf 1 (by decide) X2)
            (tileOf 0 (by decide) X3) (tileOf 1 (by decide) X3) n f7 f8)
          (trip8 arg8 6 7 (by decide) (by decide) q0 q1 (tileOf 0 (by decide) X2) (tileOf 1 (by decide) X2) n f8)
        simp only [tripFlag, ← e20, ← e21] at this ⊢
        exact this))
    rw [spec_apply]; unfold held
    isplitl [H2 H3 H7 H8]
    · isplitl [H2]; · iexact H2
      isplitl [H3]; · iexact H3
      isplitl [H7]
      · rw [show trip7 arg7 arg8 6 7 (by decide) (by decide) q0 q1 tri (tileOf 0 (by decide) X2) (tileOf 1 (by decide) X2)
          (tileOf 0 (by decide) X3) (tileOf 1 (by decide) X3) n f7 f8 = trip7 arg7 arg8 6 7 (by decide) (by decide) q0 q1 tri
            (fun _ => _) (fun _ => _) (fun _ => _) (fun _ => _) n f7 f8 from by
            unfold trip7; rw [← e20, ← e21, ← e30, ← e31]]
        iexact H7
      · rw [show trip8 arg8 6 7 (by decide) (by decide) q0 q1 (tileOf 0 (by decide) X2) (tileOf 1 (by decide) X2) n f8
          = trip8 arg8 6 7 (by decide) (by decide) q0 q1 (fun _ => _) (fun _ => _) n f8 from by
            unfold trip8; rw [← e20, ← e21]]
        iexact H8
    iintro %r H
    rw [wp_ret]; imodintro
    iapply Hk
    simp only [loopAt, loop, if_pos hg]
    iexact H

theorem wp_call4 {α : Type} {k : BitVec 32 × BitVec 1 → Prog (TpuEff nD τ sig (Elt F) (Λ₀ F) .tc) α} {Q : α → sProp 𝕄} {j : BitVec 32} {g : BitVec 1}
    {n : ℕ} (h : Cnt j n) {p : C7 F arg7 × C8 F arg8} :
    (arg2.view.loc (c : Thread nD τ) ↦[arg2.view.set]{fullShare} (harg2.unread X2 : Buf (Elt F) (arg2.view.loc (c : Thread nD τ))))
      ⊢ iprop((arg3.view.loc (c : Thread nD τ) ↦[arg3.view.set]{fullShare} (harg3.unread X3 : Buf (Elt F) (arg3.view.loc (c : Thread nD τ))))
        -∗ (arg7.view.loc (c : Thread nD τ) ↦[arg7.view.set]{fullShare} (p.1 : Buf (Elt F) (arg7.view.loc (c : Thread nD τ))))
        -∗ (arg8.view.loc (c : Thread nD τ) ↦[arg8.view.set]{fullShare} (p.2 : Buf (Elt F) (arg8.view.loc (c : Thread nD τ))))
        -∗ (∀ r : BitVec 32 × BitVec 1, held c arg8 arg2 harg2 arg3 harg3 arg7 X2 X3
              (loopP arg8 q0 tri arg7 q1 X2 X3 6 7 (by decide) (by decide) n g p).1
              (loopP arg8 q0 tri arg7 q1 X2 X3 6 7 (by decide) (by decide) n g p).2
            -∗ wp frame (wpE (defs₀ (F := F)) 𝒱₀ (c : Thread nD τ) none) Set.univ (k r) Q)
        -∗ wp frame (wpE (defs₀ (F := F)) 𝒱₀ (c : Thread nD τ) none) Set.univ
          (.op (.call (4 : (Λ₀ F).Label) ⟨i, arg8, harg8, arg2, harg2, arg3, harg3, q0, tri, arg7, harg7, q1, j, g⟩) k) Q) := by
  iintro H2 H3 H7 H8 Hk
  iapply (wp_call_spec 𝒱₀ (c : Thread nD τ) none Set.univ
    (spec c arg8 arg2 harg2 arg3 harg3 q0 tri arg7 q1 X2 X3 6 7 (by decide) (by decide) n g p.1 p.2) n (fun u hu => nomatch hu)
    (spec_le4 c i arg8 harg8 arg2 harg2 arg3 harg3 q0 tri arg7 harg7 q1 X2 X3 Set.univ n j g h p.1 p.2))
  rw [spec_apply]
  isplitl [H2 H3 H7 H8]
  · unfold held
    isplitl [H2]; · iexact H2
    isplitl [H3]; · iexact H3
    isplitl [H7]; · iexact H7
    iexact H8
  iexact Hk

end Label

end Cert.KernelIdeal.Pf

end
-- ==== Proof.KI.While5.lean ====
/-
  The fifth of the eight loops: the specification of its label, met by its body.
-/
module

public import proofs.«01_k».proof.Proof.KI.Spec

@[expose] public section

set_option maxRecDepth 16384

noncomputable section
namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem k0_off13_eq (b : ℕ) (hb : b < 128) : k0_off13 (BitVec.ofNat 32 b) = ![128 * b, 128 * 0] := by
  have := mul128_toNat b hb
  unfold k0_off13; simp only [Scalar.indexCast]; rw [this]
theorem k0_off14_eq (b : ℕ) (hb : b < 128) : k0_off14 (BitVec.ofNat 32 b) = ![128 * b, 128 * 1] := by
  have := mul128_toNat b hb
  unfold k0_off14; simp only [Scalar.indexCast]; rw [this]

theorem k0_chk5_of (b : ℕ) (hb : b < 128) : k0_chk5 (BitVec.ofNat 32 b) := by
  refine ⟨?_, ?_, ?_⟩
  · unfold k0_mult21; exact ⟨b, mul128_toNat b hb⟩
  · rw [k0_off13_eq b hb]; intro a; fin_cases a <;> simp <;> omega
  · rw [k0_off14_eq b hb]; intro a; fin_cases a <;> simp <;> omega

section Label

variable (c : Dev nD) (i : grid0.Coords) (arg8 : Memref sig .tc .vmem S16x128x256 .f32) (harg8 : arg8.IsWhole)
  (arg2 : Memref sig .tc .vmem S16384x256 .bf16) (harg2 : arg2.IsWhole) (arg3 : Memref sig .tc .vmem S16384x256 .bf16) (harg3 : arg3.IsWhole)
  (q0 : Vec F S128x128 .bf16) (tri : FVec F S256x256 .bf16) (arg7 : Memref sig .tc .vmem S16x128x128 .f32) (harg7 : arg7.IsWhole)
  (q1 : Vec F S128x128 .bf16) (X2 X3 : Vec F S16384x256 .bf16)

set_option maxHeartbeats 1000000 in
theorem spec_le5 (E : Set ℕ) : ∀ n j g, Cnt j n → ∀ f7 f8 K,
    spec c arg8 arg2 harg2 arg3 harg3 q0 tri arg7 q1 X2 X3 8 9 (by decide) (by decide) n g f7 f8 K
      ⊢ wp frame (wpE (defs₀ (F := F)) 𝒱₀ (c : Thread nD τ) (some n)) E
          (defs₀ (F := F) .tc 5 ⟨i, arg8, harg8, arg2, harg2, arg3, harg3, q0, tri, arg7, harg7, q1, j, g⟩) K := by
  intro n
  induction n with
  | zero =>
    intro j g hj f7 f8 K
    rw [spec_apply]
    show _ ⊢ wp frame (wpE (defs₀ (F := F)) 𝒱₀ (c : Thread nD τ) (some 0)) E
      (cc0_while5 i arg8 harg8 arg2 harg2 arg3 harg3 q0 tri arg7 harg7 q1 j g) K
    simp only [cc0_while5_eq_skeleton]; unfold cc0_while5_skel
    have htest : ¬Scalar.andi (Scalar.cmpi .sge j 0#32) g = 1#1 := by
      rcases hj with ⟨-, h⟩ | ⟨h, -⟩
      · rw [h]; revert g; decide
      · omega
    simp only [htest, ↓reduceIte, Prog.pure_eq_ret]
    iintro ⟨H, Hk⟩
    rw [wp_ret]; imodintro
    iapply Hk
    simp only [loopAt, loop]; iexact H
  | succ n ih =>
    intro j g hj f7 f8 K
    obtain ⟨hn, rfl⟩ : n < 128 ∧ j = BitVec.ofNat 32 n := by
      rcases hj with ⟨h, -⟩ | ⟨-, h, h'⟩
      · omega
      · exact ⟨by omega, h'⟩
    rw [spec_apply]
    show _ ⊢ wp frame (wpE (defs₀ (F := F)) 𝒱₀ (c : Thread nD τ) (some (n + 1))) E
      (cc0_while5 i arg8 harg8 arg2 harg2 arg3 harg3 q0 tri arg7 harg7 q1 (BitVec.ofNat 32 n) g) K
    simp only [cc0_while5_eq_skeleton]; unfold cc0_while5_skel
    by_cases hg : g = 1#1
    swap
    · have htest : ¬Scalar.andi (Scalar.cmpi .sge (BitVec.ofNat 32 n) 0#32) g = 1#1 := by
        rw [sge_ofNat n hn]; revert g; decide
      simp only [htest, ↓reduceIte, Prog.pure_eq_ret]
      iintro ⟨H, Hk⟩
      rw [wp_ret]; imodintro
      iapply Hk
      simp only [loopAt, loop, if_neg hg]; iexact H
    have htest : Scalar.andi (Scalar.cmpi .sge (BitVec.ofNat 32 n) 0#32) g = 1#1 := by
      rw [sge_ofNat n hn, hg]; decide
    simp only [htest, ↓reduceIte]
    simp only [k0_part74_eq_skeleton, k0_part75_eq_skeleton, k0_part76_eq_skeleton]
    have hchk := k0_chk5_of n hn
    unfold held
    iintro ⟨⟨H2, H3, H7, H8⟩, Hk⟩
    sl_exec
    -- the tiles as loaded
    have e20 := tile_read arg2 harg2 X2 0 (by decide) n hn _ (k0_off13_eq n hn) (k0_off13_inb _ hchk)
    have e21 := tile_read arg2 harg2 X2 1 (by decide) n hn _ (k0_off14_eq n hn) (k0_off14_inb _ hchk)
    have e30 := tile_read arg3 harg3 X3 0 (by decide) n hn _ (k0_off13_eq n hn) (k0_off13_inb _ hchk)
    have e31 := tile_read arg3 harg3 X3 1 (by decide) n hn _ (k0_off14_eq n hn) (k0_off14_inb _ hchk)
    iapply (wp_call_spec 𝒱₀ (c : Thread nD τ) (some (n + 1)) E
      (spec c arg8 arg2 harg2 arg3 harg3 q0 tri arg7 q1 X2 X3 8 9 (by decide) (by decide) n
        (tripFlag arg8 8 9 (by decide) (by decide) q0 q1 (tileOf 0 (by decide) X2) (tileOf 1 (by decide) X2) n f8)
        (trip7 arg7 arg8 8 9 (by decide) (by decide) q0 q1 tri (tileOf 0 (by decide) X2) (tileOf 1 (by decide) X2)
          (tileOf 0 (by decide) X3) (tileOf 1 (by decide) X3) n f7 f8)
        (trip8 arg8 8 9 (by decide) (by decide) q0 q1 (tileOf 0 (by decide) X2) (tileOf 1 (by decide) X2) n f8)) n
      (fun u hu => by cases hu; exact Nat.lt_succ_self n)
      (by
        have := ih (Scalar.subi (BitVec.ofNat 32 n) 1#32) (tripFlag arg8 8 9 (by decide) (by decide) q0 q1 (tileOf 0 (by decide) X2) (tileOf 1 (by decide) X2) n f8) (Cnt.pred hn)
          (trip7 arg7 arg8 8 9 (by decide) (by decide) q0 q1 tri (tileOf 0 (by decide) X2) (tileOf 1 (by decide) X2)
            (tileOf 0 (by decide) X3) (tileOf 1 (by decide) X3) n f7 f8)
          (trip8 arg8 8 9 (by decide) (by decide) q0 q1 (tileOf 0 (by decide) X2) (tileOf 1 (by decide) X2) n f8)
        simp only [tripFlag, ← e20, ← e21] at this ⊢
        exact this))
    rw [spec_apply]; unfold held
    isplitl [H2 H3 H7 H8]
    · isplitl [H2]; · iexact H2
      isplitl [H3]; · iexact H3
      isplitl [H7]
      · rw [show trip7 arg7 arg8 8 9 (by decide) (by decide) q0 q1 tri (tileOf 0 (by decide) X2) (tileOf 1 (by decide) X2)
          (tileOf 0 (by decide) X3) (tileOf 1 (by decide) X3) n f7 f8 = trip7 arg7 arg8 8 9 (by decide) (by decide) q0 q1 tri
            (fun _ => _) (fun _ => _) (fun _ => _) (fun _ => _) n f7 f8 from by
            unfold trip7; rw [← e20, ← e21, ← e30, ← e31]]
        iexact H7
      · rw [show trip8 arg8 8 9 (by decide) (by decide) q0 q1 (tileOf 0 (by decide) X2) (tileOf 1 (by decide) X2) n f8
          = trip8 arg8 8 9 (by decide) (by decide) q0 q1 (fun _ => _) (fun _ => _) n f8 from by
            unfold trip8; rw [← e20, ← e21]]
        iexact H8
    iintro %r H
    rw [wp_ret]; imodintro
    iapply Hk
    simp only [loopAt, loop, if_pos hg]
    iexact H

theorem wp_call5 {α : Type} {k : BitVec 32 × BitVec 1 → Prog (TpuEff nD τ sig (Elt F) (Λ₀ F) .tc) α} {Q : α → sProp 𝕄} {j : BitVec 32} {g : BitVec 1}
    {n : ℕ} (h : Cnt j n) {p : C7 F arg7 × C8 F arg8} :
    (arg2.view.loc (c : Thread nD τ) ↦[arg2.view.set]{fullShare} (harg2.unread X2 : Buf (Elt F) (arg2.view.loc (c : Thread nD τ))))
      ⊢ iprop((arg3.view.loc (c : Thread nD τ) ↦[arg3.view.set]{fullShare} (harg3.unread X3 : Buf (Elt F) (arg3.view.loc (c : Thread nD τ))))
        -∗ (arg7.view.loc (c : Thread nD τ) ↦[arg7.view.set]{fullShare} (p.1 : Buf (Elt F) (arg7.view.loc (c : Thread nD τ))))
        -∗ (arg8.view.loc (c : Thread nD τ) ↦[arg8.view.set]{fullShare} (p.2 : Buf (Elt F) (arg8.view.loc (c : Thread nD τ))))
        -∗ (∀ r : BitVec 32 × BitVec 1, held c arg8 arg2 harg2 arg3 harg3 arg7 X2 X3
              (loopP arg8 q0 tri arg7 q1 X2 X3 8 9 (by decide) (by decide) n g p).1
              (loopP arg8 q0 tri arg7 q1 X2 X3 8 9 (by decide) (by decide) n g p).2
            -∗ wp frame (wpE (defs₀ (F := F)) 𝒱₀ (c : Thread nD τ) none) Set.univ (k r) Q)
        -∗ wp frame (wpE (defs₀ (F := F)) 𝒱₀ (c : Thread nD τ) none) Set.univ
          (.op (.call (5 : (Λ₀ F).Label) ⟨i, arg8, harg8, arg2, harg2, arg3, harg3, q0, tri, arg7, harg7, q1, j, g⟩) k) Q) := by
  iintro H2 H3 H7 H8 Hk
  iapply (wp_call_spec 𝒱₀ (c : Thread nD τ) none Set.univ
    (spec c arg8 arg2 harg2 arg3 harg3 q0 tri arg7 q1 X2 X3 8 9 (by decide) (by decide) n g p.1 p.2) n (fun u hu => nomatch hu)
    (spec_le5 c i arg8 harg8 arg2 harg2 arg3 harg3 q0 tri arg7 harg7 q1 X2 X3 Set.univ n j g h p.1 p.2))
  rw [spec_apply]
  isplitl [H2 H3 H7 H8]
  · unfold held
    isplitl [H2]; · iexact H2
    isplitl [H3]; · iexact H3
    isplitl [H7]; · iexact H7
    iexact H8
  iexact Hk

end Label

end Cert.KernelIdeal.Pf

end
-- ==== Proof.KI.While6.lean ====
/-
  The sixth of the eight loops: the specification of its label, met by its body.
-/
module

public import proofs.«01_k».proof.Proof.KI.Spec

@[expose] public section

set_option maxRecDepth 16384

noncomputable section
namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem k0_off15_eq (b : ℕ) (hb : b < 128) : k0_off15 (BitVec.ofNat 32 b) = ![128 * b, 128 * 0] := by
  have := mul128_toNat b hb
  unfold k0_off15; simp only [Scalar.indexCast]; rw [this]
theorem k0_off16_eq (b : ℕ) (hb : b < 128) : k0_off16 (BitVec.ofNat 32 b) = ![128 * b, 128 * 1] := by
  have := mul128_toNat b hb
  unfold k0_off16; simp only [Scalar.indexCast]; rw [this]

theorem k0_chk6_of (b : ℕ) (hb : b < 128) : k0_chk6 (BitVec.ofNat 32 b) := by
  refine ⟨?_, ?_, ?_⟩
  · unfold k0_mult22; exact ⟨b, mul128_toNat b hb⟩
  · rw [k0_off15_eq b hb]; intro a; fin_cases a <;> simp <;> omega
  · rw [k0_off16_eq b hb]; intro a; fin_cases a <;> simp <;> omega

section Label

variable (c : Dev nD) (i : grid0.Coords) (arg8 : Memref sig .tc .vmem S16x128x256 .f32) (harg8 : arg8.IsWhole)
  (arg2 : Memref sig .tc .vmem S16384x256 .bf16) (harg2 : arg2.IsWhole) (arg3 : Memref sig .tc .vmem S16384x256 .bf16) (harg3 : arg3.IsWhole)
  (q0 : Vec F S128x128 .bf16) (tri : FVec F S256x256 .bf16) (arg7 : Memref sig .tc .vmem S16x128x128 .f32) (harg7 : arg7.IsWhole)
  (q1 : Vec F S128x128 .bf16) (X2 X3 : Vec F S16384x256 .bf16)

set_option maxHeartbeats 1000000 in
theorem spec_le6 (E : Set ℕ) : ∀ n j g, Cnt j n → ∀ f7 f8 K,
    spec c arg8 arg2 harg2 arg3 harg3 q0 tri arg7 q1 X2 X3 10 11 (by decide) (by decide) n g f7 f8 K
      ⊢ wp frame (wpE (defs₀ (F := F)) 𝒱₀ (c : Thread nD τ) (some n)) E
          (defs₀ (F := F) .tc 6 ⟨i, arg8, harg8, arg2, harg2, arg3, harg3, q0, tri, arg7, harg7, q1, j, g⟩) K := by
  intro n
  induction n with
  | zero =>
    intro j g hj f7 f8 K
    rw [spec_apply]
    show _ ⊢ wp frame (wpE (defs₀ (F := F)) 𝒱₀ (c : Thread nD τ) (some 0)) E
      (cc0_while6 i arg8 harg8 arg2 harg2 arg3 harg3 q0 tri arg7 harg7 q1 j g) K
    simp only [cc0_while6_eq_skeleton]; unfold cc0_while6_skel
    have htest : ¬Scalar.andi (Scalar.cmpi .sge j 0#32) g = 1#1 := by
      rcases hj with ⟨-, h⟩ | ⟨h, -⟩
      · rw [h]; revert g; decide
      · omega
    simp only [htest, ↓reduceIte, Prog.pure_eq_ret]
    iintro ⟨H, Hk⟩
    rw [wp_ret]; imodintro
    iapply Hk
    simp only [loopAt, loop]; iexact H
  | succ n ih =>
    intro j g hj f7 f8 K
    obtain ⟨hn, rfl⟩ : n < 128 ∧ j = BitVec.ofNat 32 n := by
      rcases hj with ⟨h, -⟩ | ⟨-, h, h'⟩
      · omega
      · exact ⟨by omega, h'⟩
    rw [spec_apply]
    show _ ⊢ wp frame (wpE (defs₀ (F := F)) 𝒱₀ (c : Thread nD τ) (some (n + 1))) E
      (cc0_while6 i arg8 harg8 arg2 harg2 arg3 harg3 q0 tri arg7 harg7 q1 (BitVec.ofNat 32 n) g) K
    simp only [cc0_while6_eq_skeleton]; unfold cc0_while6_skel
    by_cases hg : g = 1#1
    swap
    · have htest : ¬Scalar.andi (Scalar.cmpi .sge (BitVec.ofNat 32 n) 0#32) g = 1#1 := by
        rw [sge_ofNat n hn]; revert g; decide
      simp only [htest, ↓reduceIte, Prog.pure_eq_ret]
      iintro ⟨H, Hk⟩
      rw [wp_ret]; imodintro
      iapply Hk
      simp only [loopAt, loop, if_neg hg]; iexact H
    have htest : Scalar.andi (Scalar.cmpi .sge (BitVec.ofNat 32 n) 0#32) g = 1#1 := by
      rw [sge_ofNat n hn, hg]; decide
    simp only [htest, ↓reduceIte]
    simp only [k0_part77_eq_skeleton, k0_part78_eq_skeleton, k0_part79_eq_skeleton]
    have hchk := k0_chk6_of n hn
    unfold held
    iintro ⟨⟨H2, H3, H7, H8⟩, Hk⟩
    sl_exec
    -- the tiles as loaded
    have e20 := tile_read arg2 harg2 X2 0 (by decide) n hn _ (k0_off15_eq n hn) (k0_off15_inb _ hchk)
    have e21 := tile_read arg2 harg2 X2 1 (by decide) n hn _ (k0_off16_eq n hn) (k0_off16_inb _ hchk)
    have e30 := tile_read arg3 harg3 X3 0 (by decide) n hn _ (k0_off15_eq n hn) (k0_off15_inb _ hchk)
    have e31 := tile_read arg3 harg3 X3 1 (by decide) n hn _ (k0_off16_eq n hn) (k0_off16_inb _ hchk)
    iapply (wp_call_spec 𝒱₀ (c : Thread nD τ) (some (n + 1)) E
      (spec c arg8 arg2 harg2 arg3 harg3 q0 tri arg7 q1 X2 X3 10 11 (by decide) (by decide) n
        (tripFlag arg8 10 11 (by decide) (by decide) q0 q1 (tileOf 0 (by decide) X2) (tileOf 1 (by decide) X2) n f8)
        (trip7 arg7 arg8 10 11 (by decide) (by decide) q0 q1 tri (tileOf 0 (by decide) X2) (tileOf 1 (by decide) X2)
          (tileOf 0 (by decide) X3) (tileOf 1 (by decide) X3) n f7 f8)
        (trip8 arg8 10 11 (by decide) (by decide) q0 q1 (tileOf 0 (by decide) X2) (tileOf 1 (by decide) X2) n f8)) n
      (fun u hu => by cases hu; exact Nat.lt_succ_self n)
      (by
        have := ih (Scalar.subi (BitVec.ofNat 32 n) 1#32) (tripFlag arg8 10 11 (by decide) (by decide) q0 q1 (tileOf 0 (by decide) X2) (tileOf 1 (by decide) X2) n f8) (Cnt.pred hn)
          (trip7 arg7 arg8 10 11 (by decide) (by decide) q0 q1 tri (tileOf 0 (by decide) X2) (tileOf 1 (by decide) X2)
            (tileOf 0 (by decide) X3) (tileOf 1 (by decide) X3) n f7 f8)
          (trip8 arg8 10 11 (by decide) (by decide) q0 q1 (tileOf 0 (by decide) X2) (tileOf 1 (by decide) X2) n f8)
        simp only [tripFlag, ← e20, ← e21] at this ⊢
        exact this))
    rw [spec_apply]; unfold held
    isplitl [H2 H3 H7 H8]
    · isplitl [H2]; · iexact H2
      isplitl [H3]; · iexact H3
      isplitl [H7]
      · rw [show trip7 arg7 arg8 10 11 (by decide) (by decide) q0 q1 tri (tileOf 0 (by decide) X2) (tileOf 1 (by decide) X2)
          (tileOf 0 (by decide) X3) (tileOf 1 (by decide) X3) n f7 f8 = trip7 arg7 arg8 10 11 (by decide) (by decide) q0 q1 tri
            (fun _ => _) (fun _ => _) (fun _ => _) (fun _ => _) n f7 f8 from by
            unfold trip7; rw [← e20, ← e21, ← e30, ← e31]]
        iexact H7
      · rw [show trip8 arg8 10 11 (by decide) (by decide) q0 q1 (tileOf 0 (by decide) X2) (tileOf 1 (by decide) X2) n f8
          = trip8 arg8 10 11 (by decide) (by decide) q0 q1 (fun _ => _) (fun _ => _) n f8 from by
            unfold trip8; rw [← e20, ← e21]]
        iexact H8
    iintro %r H
    rw [wp_ret]; imodintro
    iapply Hk
    simp only [loopAt, loop, if_pos hg]
    iexact H

theorem wp_call6 {α : Type} {k : BitVec 32 × BitVec 1 → Prog (TpuEff nD τ sig (Elt F) (Λ₀ F) .tc) α} {Q : α → sProp 𝕄} {j : BitVec 32} {g : BitVec 1}
    {n : ℕ} (h : Cnt j n) {p : C7 F arg7 × C8 F arg8} :
    (arg2.view.loc (c : Thread nD τ) ↦[arg2.view.set]{fullShare} (harg2.unread X2 : Buf (Elt F) (arg2.view.loc (c : Thread nD τ))))
      ⊢ iprop((arg3.view.loc (c : Thread nD τ) ↦[arg3.view.set]{fullShare} (harg3.unread X3 : Buf (Elt F) (arg3.view.loc (c : Thread nD τ))))
        -∗ (arg7.view.loc (c : Thread nD τ) ↦[arg7.view.set]{fullShare} (p.1 : Buf (Elt F) (arg7.view.loc (c : Thread nD τ))))
        -∗ (arg8.view.loc (c : Thread nD τ) ↦[arg8.view.set]{fullShare} (p.2 : Buf (Elt F) (arg8.view.loc (c : Thread nD τ))))
        -∗ (∀ r : BitVec 32 × BitVec 1, held c arg8 arg2 harg2 arg3 harg3 arg7 X2 X3
              (loopP arg8 q0 tri arg7 q1 X2 X3 10 11 (by decide) (by decide) n g p).1
              (loopP arg8 q0 tri arg7 q1 X2 X3 10 11 (by decide) (by decide) n g p).2
            -∗ wp frame (wpE (defs₀ (F := F)) 𝒱₀ (c : Thread nD τ) none) Set.univ (k r) Q)
        -∗ wp frame (wpE (defs₀ (F := F)) 𝒱₀ (c : Thread nD τ) none) Set.univ
          (.op (.call (6 : (Λ₀ F).Label) ⟨i, arg8, harg8, arg2, harg2, arg3, harg3, q0, tri, arg7, harg7, q1, j, g⟩) k) Q) := by
  iintro H2 H3 H7 H8 Hk
  iapply (wp_call_spec 𝒱₀ (c : Thread nD τ) none Set.univ
    (spec c arg8 arg2 harg2 arg3 harg3 q0 tri arg7 q1 X2 X3 10 11 (by decide) (by decide) n g p.1 p.2) n (fun u hu => nomatch hu)
    (spec_le6 c i arg8 harg8 arg2 harg2 arg3 harg3 q0 tri arg7 harg7 q1 X2 X3 Set.univ n j g h p.1 p.2))
  rw [spec_apply]
  isplitl [H2 H3 H7 H8]
  · unfold held
    isplitl [H2]; · iexact H2
    isplitl [H3]; · iexact H3
    isplitl [H7]; · iexact H7
    iexact H8
  iexact Hk

end Label

end Cert.KernelIdeal.Pf

end
-- ==== Proof.KI.While7.lean ====
/-
  The seventh of the eight loops: the specification of its label, met by its body.
-/
module

public import proofs.«01_k».proof.Proof.KI.Spec

@[expose] public section

set_option maxRecDepth 16384

noncomputable section
namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem k0_off17_eq (b : ℕ) (hb : b < 128) : k0_off17 (BitVec.ofNat 32 b) = ![128 * b, 128 * 0] := by
  have := mul128_toNat b hb
  unfold k0_off17; simp only [Scalar.indexCast]; rw [this]
theorem k0_off18_eq (b : ℕ) (hb : b < 128) : k0_off18 (BitVec.ofNat 32 b) = ![128 * b, 128 * 1] := by
  have := mul128_toNat b hb
  unfold k0_off18; simp only [Scalar.indexCast]; rw [this]

theorem k0_chk7_of (b : ℕ) (hb : b < 128) : k0_chk7 (BitVec.ofNat 32 b) := by
  refine ⟨?_, ?_, ?_⟩
  · unfold k0_mult23; exact ⟨b, mul128_toNat b hb⟩
  · rw [k0_off17_eq b hb]; intro a; fin_cases a <;> simp <;> omega
  · rw [k0_off18_eq b hb]; intro a; fin_cases a <;> simp <;> omega

section Label

variable (c : Dev nD) (i : grid0.Coords) (arg8 : Memref sig .tc .vmem S16x128x256 .f32) (harg8 : arg8.IsWhole)
  (arg2 : Memref sig .tc .vmem S16384x256 .bf16) (harg2 : arg2.IsWhole) (arg3 : Memref sig .tc .vmem S16384x256 .bf16) (harg3 : arg3.IsWhole)
  (q0 : Vec F S128x128 .bf16) (tri : FVec F S256x256 .bf16) (arg7 : Memref sig .tc .vmem S16x128x128 .f32) (harg7 : arg7.IsWhole)
  (q1 : Vec F S128x128 .bf16) (X2 X3 : Vec F S16384x256 .bf16)

set_option maxHeartbeats 1000000 in
theorem spec_le7 (E : Set ℕ) : ∀ n j g, Cnt j n → ∀ f7 f8 K,
    spec c arg8 arg2 harg2 arg3 harg3 q0 tri arg7 q1 X2 X3 12 13 (by decide) (by decide) n g f7 f8 K
      ⊢ wp frame (wpE (defs₀ (F := F)) 𝒱₀ (c : Thread nD τ) (some n)) E
          (defs₀ (F := F) .tc 7 ⟨i, arg8, harg8, arg2, harg2, arg3, harg3, q0, tri, arg7, harg7, q1, j, g⟩) K := by
  intro n
  induction n with
  | zero =>
    intro j g hj f7 f8 K
    rw [spec_apply]
    show _ ⊢ wp frame (wpE (defs₀ (F := F)) 𝒱₀ (c : Thread nD τ) (some 0)) E
      (cc0_while7 i arg8 harg8 arg2 harg2 arg3 harg3 q0 tri arg7 harg7 q1 j g) K
    simp only [cc0_while7_eq_skeleton]; unfold cc0_while7_skel
    have htest : ¬Scalar.andi (Scalar.cmpi .sge j 0#32) g = 1#1 := by
      rcases hj with ⟨-, h⟩ | ⟨h, -⟩
      · rw [h]; revert g; decide
      · omega
    simp only [htest, ↓reduceIte, Prog.pure_eq_ret]
    iintro ⟨H, Hk⟩
    rw [wp_ret]; imodintro
    iapply Hk
    simp only [loopAt, loop]; iexact H
  | succ n ih =>
    intro j g hj f7 f8 K
    obtain ⟨hn, rfl⟩ : n < 128 ∧ j = BitVec.ofNat 32 n := by
      rcases hj with ⟨h, -⟩ | ⟨-, h, h'⟩
      · omega
      · exact ⟨by omega, h'⟩
    rw [spec_apply]
    show _ ⊢ wp frame (wpE (defs₀ (F := F)) 𝒱₀ (c : Thread nD τ) (some (n + 1))) E
      (cc0_while7 i arg8 harg8 arg2 harg2 arg3 harg3 q0 tri arg7 harg7 q1 (BitVec.ofNat 32 n) g) K
    simp only [cc0_while7_eq_skeleton]; unfold cc0_while7_skel
    by_cases hg : g = 1#1
    swap
    · have htest : ¬Scalar.andi (Scalar.cmpi .sge (BitVec.ofNat 32 n) 0#32) g = 1#1 := by
        rw [sge_ofNat n hn]; revert g; decide
      simp only [htest, ↓reduceIte, Prog.pure_eq_ret]
      iintro ⟨H, Hk⟩
      rw [wp_ret]; imodintro
      iapply Hk
      simp only [loopAt, loop, if_neg hg]; iexact H
    have htest : Scalar.andi (Scalar.cmpi .sge (BitVec.ofNat 32 n) 0#32) g = 1#1 := by
      rw [sge_ofNat n hn, hg]; decide
    simp only [htest, ↓reduceIte]
    simp only [k0_part80_eq_skeleton, k0_part81_eq_skeleton, k0_part82_eq_skeleton]
    have hchk := k0_chk7_of n hn
    unfold held
    iintro ⟨⟨H2, H3, H7, H8⟩, Hk⟩
    sl_exec
    -- the tiles as loaded
    have e20 := tile_read arg2 harg2 X2 0 (by decide) n hn _ (k0_off17_eq n hn) (k0_off17_inb _ hchk)
    have e21 := tile_read arg2 harg2 X2 1 (by decide) n hn _ (k0_off18_eq n hn) (k0_off18_inb _ hchk)
    have e30 := tile_read arg3 harg3 X3 0 (by decide) n hn _ (k0_off17_eq n hn) (k0_off17_inb _ hchk)
    have e31 := tile_read arg3 harg3 X3 1 (by decide) n hn _ (k0_off18_eq n hn) (k0_off18_inb _ hchk)
    iapply (wp_call_spec 𝒱₀ (c : Thread nD τ) (some (n + 1)) E
      (spec c arg8 arg2 harg2 arg3 harg3 q0 tri arg7 q1 X2 X3 12 13 (by decide) (by decide) n
        (tripFlag arg8 12 13 (by decide) (by decide) q0 q1 (tileOf 0 (by decide) X2) (tileOf 1 (by decide) X2) n f8)
        (trip7 arg7 arg8 12 13 (by decide) (by decide) q0 q1 tri (tileOf 0 (by decide) X2) (tileOf 1 (by decide) X2)
          (tileOf 0 (by decide) X3) (tileOf 1 (by decide) X3) n f7 f8)
        (trip8 arg8 12 13 (by decide) (by decide) q0 q1 (tileOf 0 (by decide) X2) (tileOf 1 (by decide) X2) n f8)) n
      (fun u hu => by cases hu; exact Nat.lt_succ_self n)
      (by
        have := ih (Scalar.subi (BitVec.ofNat 32 n) 1#32) (tripFlag arg8 12 13 (by decide) (by decide) q0 q1 (tileOf 0 (by decide) X2) (tileOf 1 (by decide) X2) n f8) (Cnt.pred hn)
          (trip7 arg7 arg8 12 13 (by decide) (by decide) q0 q1 tri (tileOf 0 (by decide) X2) (tileOf 1 (by decide) X2)
            (tileOf 0 (by decide) X3) (tileOf 1 (by decide) X3) n f7 f8)
          (trip8 arg8 12 13 (by decide) (by decide) q0 q1 (tileOf 0 (by decide) X2) (tileOf 1 (by decide) X2) n f8)
        simp only [tripFlag, ← e20, ← e21] at this ⊢
        exact this))
    rw [spec_apply]; unfold held
    isplitl [H2 H3 H7 H8]
    · isplitl [H2]; · iexact H2
      isplitl [H3]; · iexact H3
      isplitl [H7]
      · rw [show trip7 arg7 arg8 12 13 (by decide) (by decide) q0 q1 tri (tileOf 0 (by decide) X2) (tileOf 1 (by decide) X2)
          (tileOf 0 (by decide) X3) (tileOf 1 (by decide) X3) n f7 f8 = trip7 arg7 arg8 12 13 (by decide) (by decide) q0 q1 tri
            (fun _ => _) (fun _ => _) (fun _ => _) (fun _ => _) n f7 f8 from by
            unfold trip7; rw [← e20, ← e21, ← e30, ← e31]]
        iexact H7
      · rw [show trip8 arg8 12 13 (by decide) (by decide) q0 q1 (tileOf 0 (by decide) X2) (tileOf 1 (by decide) X2) n f8
          = trip8 arg8 12 13 (by decide) (by decide) q0 q1 (fun _ => _) (fun _ => _) n f8 from by
            unfold trip8; rw [← e20, ← e21]]
        iexact H8
    iintro %r H
    rw [wp_ret]; imodintro
    iapply Hk
    simp only [loopAt, loop, if_pos hg]
    iexact H

theorem wp_call7 {α : Type} {k : BitVec 32 × BitVec 1 → Prog (TpuEff nD τ sig (Elt F) (Λ₀ F) .tc) α} {Q : α → sProp 𝕄} {j : BitVec 32} {g : BitVec 1}
    {n : ℕ} (h : Cnt j n) {p : C7 F arg7 × C8 F arg8} :
    (arg2.view.loc (c : Thread nD τ) ↦[arg2.view.set]{fullShare} (harg2.unread X2 : Buf (Elt F) (arg2.view.loc (c : Thread nD τ))))
      ⊢ iprop((arg3.view.loc (c : Thread nD τ) ↦[arg3.view.set]{fullShare} (harg3.unread X3 : Buf (Elt F) (arg3.view.loc (c : Thread nD τ))))
        -∗ (arg7.view.loc (c : Thread nD τ) ↦[arg7.view.set]{fullShare} (p.1 : Buf (Elt F) (arg7.view.loc (c : Thread nD τ))))
        -∗ (arg8.view.loc (c : Thread nD τ) ↦[arg8.view.set]{fullShare} (p.2 : Buf (Elt F) (arg8.view.loc (c : Thread nD τ))))
        -∗ (∀ r : BitVec 32 × BitVec 1, held c arg8 arg2 harg2 arg3 harg3 arg7 X2 X3
              (loopP arg8 q0 tri arg7 q1 X2 X3 12 13 (by decide) (by decide) n g p).1
              (loopP arg8 q0 tri arg7 q1 X2 X3 12 13 (by decide) (by decide) n g p).2
            -∗ wp frame (wpE (defs₀ (F := F)) 𝒱₀ (c : Thread nD τ) none) Set.univ (k r) Q)
        -∗ wp frame (wpE (defs₀ (F := F)) 𝒱₀ (c : Thread nD τ) none) Set.univ
          (.op (.call (7 : (Λ₀ F).Label) ⟨i, arg8, harg8, arg2, harg2, arg3, harg3, q0, tri, arg7, harg7, q1, j, g⟩) k) Q) := by
  iintro H2 H3 H7 H8 Hk
  iapply (wp_call_spec 𝒱₀ (c : Thread nD τ) none Set.univ
    (spec c arg8 arg2 harg2 arg3 harg3 q0 tri arg7 q1 X2 X3 12 13 (by decide) (by decide) n g p.1 p.2) n (fun u hu => nomatch hu)
    (spec_le7 c i arg8 harg8 arg2 harg2 arg3 harg3 q0 tri arg7 harg7 q1 X2 X3 Set.univ n j g h p.1 p.2))
  rw [spec_apply]
  isplitl [H2 H3 H7 H8]
  · unfold held
    isplitl [H2]; · iexact H2
    isplitl [H3]; · iexact H3
    isplitl [H7]; · iexact H7
    iexact H8
  iexact Hk

end Label

end Cert.KernelIdeal.Pf

end
-- ==== Proof.KI.While8.lean ====
/-
  The eighth of the eight loops: the specification of its label, met by its body.
-/
module

public import proofs.«01_k».proof.Proof.KI.Spec

@[expose] public section

set_option maxRecDepth 16384

noncomputable section
namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem k0_off19_eq (b : ℕ) (hb : b < 128) : k0_off19 (BitVec.ofNat 32 b) = ![128 * b, 128 * 0] := by
  have := mul128_toNat b hb
  unfold k0_off19; simp only [Scalar.indexCast]; rw [this]
theorem k0_off20_eq (b : ℕ) (hb : b < 128) : k0_off20 (BitVec.ofNat 32 b) = ![128 * b, 128 * 1] := by
  have := mul128_toNat b hb
  unfold k0_off20; simp only [Scalar.indexCast]; rw [this]

theorem k0_chk8_of (b : ℕ) (hb : b < 128) : k0_chk8 (BitVec.ofNat 32 b) := by
  refine ⟨?_, ?_, ?_⟩
  · unfold k0_mult24; exact ⟨b, mul128_toNat b hb⟩
  · rw [k0_off19_eq b hb]; intro a; fin_cases a <;> simp <;> omega
  · rw [k0_off20_eq b hb]; intro a; fin_cases a <;> simp <;> omega

section Label

variable (c : Dev nD) (i : grid0.Coords) (arg8 : Memref sig .tc .vmem S16x128x256 .f32) (harg8 : arg8.IsWhole)
  (arg2 : Memref sig .tc .vmem S16384x256 .bf16) (harg2 : arg2.IsWhole) (arg3 : Memref sig .tc .vmem S16384x256 .bf16) (harg3 : arg3.IsWhole)
  (q0 : Vec F S128x128 .bf16) (tri : FVec F S256x256 .bf16) (arg7 : Memref sig .tc .vmem S16x128x128 .f32) (harg7 : arg7.IsWhole)
  (q1 : Vec F S128x128 .bf16) (X2 X3 : Vec F S16384x256 .bf16)

set_option maxHeartbeats 1000000 in
theorem spec_le8 (E : Set ℕ) : ∀ n j g, Cnt j n → ∀ f7 f8 K,
    spec c arg8 arg2 harg2 arg3 harg3 q0 tri arg7 q1 X2 X3 14 15 (by decide) (by decide) n g f7 f8 K
      ⊢ wp frame (wpE (defs₀ (F := F)) 𝒱₀ (c : Thread nD τ) (some n)) E
          (defs₀ (F := F) .tc 8 ⟨i, arg8, harg8, arg2, harg2, arg3, harg3, q0, tri, arg7, harg7, q1, j, g⟩) K := by
  intro n
  induction n with
  | zero =>
    intro j g hj f7 f8 K
    rw [spec_apply]
    show _ ⊢ wp frame (wpE (defs₀ (F := F)) 𝒱₀ (c : Thread nD τ) (some 0)) E
      (cc0_while8 i arg8 harg8 arg2 harg2 arg3 harg3 q0 tri arg7 harg7 q1 j g) K
    simp only [cc0_while8_eq_skeleton]; unfold cc0_while8_skel
    have htest : ¬Scalar.andi (Scalar.cmpi .sge j 0#32) g = 1#1 := by
      rcases hj with ⟨-, h⟩ | ⟨h, -⟩
      · rw [h]; revert g; decide
      · omega
    simp only [htest, ↓reduceIte, Prog.pure_eq_ret]
    iintro ⟨H, Hk⟩
    rw [wp_ret]; imodintro
    iapply Hk
    simp only [loopAt, loop]; iexact H
  | succ n ih =>
    intro j g hj f7 f8 K
    obtain ⟨hn, rfl⟩ : n < 128 ∧ j = BitVec.ofNat 32 n := by
      rcases hj with ⟨h, -⟩ | ⟨-, h, h'⟩
      · omega
      · exact ⟨by omega, h'⟩
    rw [spec_apply]
    show _ ⊢ wp frame (wpE (defs₀ (F := F)) 𝒱₀ (c : Thread nD τ) (some (n + 1))) E
      (cc0_while8 i arg8 harg8 arg2 harg2 arg3 harg3 q0 tri arg7 harg7 q1 (BitVec.ofNat 32 n) g) K
    simp only [cc0_while8_eq_skeleton]; unfold cc0_while8_skel
    by_cases hg : g = 1#1
    swap
    · have htest : ¬Scalar.andi (Scalar.cmpi .sge (BitVec.ofNat 32 n) 0#32) g = 1#1 := by
        rw [sge_ofNat n hn]; revert g; decide
      simp only [htest, ↓reduceIte, Prog.pure_eq_ret]
      iintro ⟨H, Hk⟩
      rw [wp_ret]; imodintro
      iapply Hk
      simp only [loopAt, loop, if_neg hg]; iexact H
    have htest : Scalar.andi (Scalar.cmpi .sge (BitVec.ofNat 32 n) 0#32) g = 1#1 := by
      rw [sge_ofNat n hn, hg]; decide
    simp only [htest, ↓reduceIte]
    simp only [k0_part83_eq_skeleton, k0_part84_eq_skeleton, k0_part85_eq_skeleton]
    have hchk := k0_chk8_of n hn
    unfold held
    iintro ⟨⟨H2, H3, H7, H8⟩, Hk⟩
    sl_exec
    -- the tiles as loaded
    have e20 := tile_read arg2 harg2 X2 0 (by decide) n hn _ (k0_off19_eq n hn) (k0_off19_inb _ hchk)
    have e21 := tile_read arg2 harg2 X2 1 (by decide) n hn _ (k0_off20_eq n hn) (k0_off20_inb _ hchk)
    have e30 := tile_read arg3 harg3 X3 0 (by decide) n hn _ (k0_off19_eq n hn) (k0_off19_inb _ hchk)
    have e31 := tile_read arg3 harg3 X3 1 (by decide) n hn _ (k0_off20_eq n hn) (k0_off20_inb _ hchk)
    iapply (wp_call_spec 𝒱₀ (c : Thread nD τ) (some (n + 1)) E
      (spec c arg8 arg2 harg2 arg3 harg3 q0 tri arg7 q1 X2 X3 14 15 (by decide) (by decide) n
        (tripFlag arg8 14 15 (by decide) (by decide) q0 q1 (tileOf 0 (by decide) X2) (tileOf 1 (by decide) X2) n f8)
        (trip7 arg7 arg8 14 15 (by decide) (by decide) q0 q1 tri (tileOf 0 (by decide) X2) (tileOf 1 (by decide) X2)
          (tileOf 0 (by decide) X3) (tileOf 1 (by decide) X3) n f7 f8)
        (trip8 arg8 14 15 (by decide) (by decide) q0 q1 (tileOf 0 (by decide) X2) (tileOf 1 (by decide) X2) n f8)) n
      (fun u hu => by cases hu; exact Nat.lt_succ_self n)
      (by
        have := ih (Scalar.subi (BitVec.ofNat 32 n) 1#32) (tripFlag arg8 14 15 (by decide) (by decide) q0 q1 (tileOf 0 (by decide) X2) (tileOf 1 (by decide) X2) n f8) (Cnt.pred hn)
          (trip7 arg7 arg8 14 15 (by decide) (by decide) q0 q1 tri (tileOf 0 (by decide) X2) (tileOf 1 (by decide) X2)
            (tileOf 0 (by decide) X3) (tileOf 1 (by decide) X3) n f7 f8)
          (trip8 arg8 14 15 (by decide) (by decide) q0 q1 (tileOf 0 (by decide) X2) (tileOf 1 (by decide) X2) n f8)
        simp only [tripFlag, ← e20, ← e21] at this ⊢
        exact this))
    rw [spec_apply]; unfold held
    isplitl [H2 H3 H7 H8]
    · isplitl [H2]; · iexact H2
      isplitl [H3]; · iexact H3
      isplitl [H7]
      · rw [show trip7 arg7 arg8 14 15 (by decide) (by decide) q0 q1 tri (tileOf 0 (by decide) X2) (tileOf 1 (by decide) X2)
          (tileOf 0 (by decide) X3) (tileOf 1 (by decide) X3) n f7 f8 = trip7 arg7 arg8 14 15 (by decide) (by decide) q0 q1 tri
            (fun _ => _) (fun _ => _) (fun _ => _) (fun _ => _) n f7 f8 from by
            unfold trip7; rw [← e20, ← e21, ← e30, ← e31]]
        iexact H7
      · rw [show trip8 arg8 14 15 (by decide) (by decide) q0 q1 (tileOf 0 (by decide) X2) (tileOf 1 (by decide) X2) n f8
          = trip8 arg8 14 15 (by decide) (by decide) q0 q1 (fun _ => _) (fun _ => _) n f8 from by
            unfold trip8; rw [← e20, ← e21]]
        iexact H8
    iintro %r H
    rw [wp_ret]; imodintro
    iapply Hk
    simp only [loopAt, loop, if_pos hg]
    iexact H

theorem wp_call8 {α : Type} {k : BitVec 32 × BitVec 1 → Prog (TpuEff nD τ sig (Elt F) (Λ₀ F) .tc) α} {Q : α → sProp 𝕄} {j : BitVec 32} {g : BitVec 1}
    {n : ℕ} (h : Cnt j n) {p : C7 F arg7 × C8 F arg8} :
    (arg2.view.loc (c : Thread nD τ) ↦[arg2.view.set]{fullShare} (harg2.unread X2 : Buf (Elt F) (arg2.view.loc (c : Thread nD τ))))
      ⊢ iprop((arg3.view.loc (c : Thread nD τ) ↦[arg3.view.set]{fullShare} (harg3.unread X3 : Buf (Elt F) (arg3.view.loc (c : Thread nD τ))))
        -∗ (arg7.view.loc (c : Thread nD τ) ↦[arg7.view.set]{fullShare} (p.1 : Buf (Elt F) (arg7.view.loc (c : Thread nD τ))))
        -∗ (arg8.view.loc (c : Thread nD τ) ↦[arg8.view.set]{fullShare} (p.2 : Buf (Elt F) (arg8.view.loc (c : Thread nD τ))))
        -∗ (∀ r : BitVec 32 × BitVec 1, held c arg8 arg2 harg2 arg3 harg3 arg7 X2 X3
              (loopP arg8 q0 tri arg7 q1 X2 X3 14 15 (by decide) (by decide) n g p).1
              (loopP arg8 q0 tri arg7 q1 X2 X3 14 15 (by decide) (by decide) n g p).2
            -∗ wp frame (wpE (defs₀ (F := F)) 𝒱₀ (c : Thread nD τ) none) Set.univ (k r) Q)
        -∗ wp frame (wpE (defs₀ (F := F)) 𝒱₀ (c : Thread nD τ) none) Set.univ
          (.op (.call (8 : (Λ₀ F).Label) ⟨i, arg8, harg8, arg2, harg2, arg3, harg3, q0, tri, arg7, harg7, q1, j, g⟩) k) Q) := by
  iintro H2 H3 H7 H8 Hk
  iapply (wp_call_spec 𝒱₀ (c : Thread nD τ) none Set.univ
    (spec c arg8 arg2 harg2 arg3 harg3 q0 tri arg7 q1 X2 X3 14 15 (by decide) (by decide) n g p.1 p.2) n (fun u hu => nomatch hu)
    (spec_le8 c i arg8 harg8 arg2 harg2 arg3 harg3 q0 tri arg7 harg7 q1 X2 X3 Set.univ n j g h p.1 p.2))
  rw [spec_apply]
  isplitl [H2 H3 H7 H8]
  · unfold held
    isplitl [H2]; · iexact H2
    isplitl [H3]; · iexact H3
    isplitl [H7]; · iexact H7
    iexact H8
  iexact Hk

end Label

end Cert.KernelIdeal.Pf

end
-- ==== Proof.KI.Body.lean ====
/-
  One grid point of the stick-breaking call: what its body leaves in the output block.
-/
module

public import proofs.«01_k».proof.Proof.KI.While1
public import proofs.«01_k».proof.Proof.KI.While2
public import proofs.«01_k».proof.Proof.KI.While3
public import proofs.«01_k».proof.Proof.KI.While4
public import proofs.«01_k».proof.Proof.KI.While5
public import proofs.«01_k».proof.Proof.KI.While6
public import proofs.«01_k».proof.Proof.KI.While7
public import proofs.«01_k».proof.Proof.KI.While8

@[expose] public section

set_option maxRecDepth 16384

noncomputable section
namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
def bodyRun (c : Dev nD) (i : grid0.Coords) (arg1 : Memref sig .tc .vmem S1024x256 .bf16) (harg1 : arg1.IsWhole) (arg2 : Memref sig .tc .vmem S16384x256 .bf16) (harg2 : arg2.IsWhole) (arg3 : Memref sig .tc .vmem S16384x256 .bf16) (harg3 : arg3.IsWhole) (arg4 : Memref sig .tc .vmem S1024x256 .bf16) (harg4 : arg4.IsWhole) (arg5 : Memref sig .tc .vmem S256x256 .bf16) (harg5 : arg5.IsWhole) (arg6 : Memref sig .tc .vmem S1024x256 .bf16) (harg6 : arg6.IsWhole) (arg7 : Memref sig .tc .vmem S16x128x128 .f32) (harg7 : arg7.IsWhole) (arg8 : Memref sig .tc .vmem S16x128x256 .f32) (harg8 : arg8.IsWhole)
    (x0 : Vec F S1024x256 .bf16) (x1 : Vec F S16384x256 .bf16) (x2 : Vec F S16384x256 .bf16) (x3 : Vec F S1024x256 .bf16) (x4 : Vec F S256x256 .bf16) :
    { OUT : Vec F S1024x256 .bf16 // ∀ (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare OUT ∗ (∃ d, owns (c : Thread nD τ) arg7 fullShare d) ∗ (∃ d, owns (c : Thread nD τ) arg8 fullShare d)) -∗ K ⟨⟩))
          ⊢ wp frame (wpE (defs₀ (F := F)) 𝒱₀ (c : Thread nD τ) none) Set.univ (cc0_sb_attn i arg1 harg1 arg2 harg2 arg3 harg3 arg4 harg4 arg5 harg5 arg6 harg6 arg7 harg7 arg8 harg8) K } := by
  refine ⟨?_, fun K => ?run⟩
  case run =>
    simp only [cc0_sb_attn_eq_skeleton]; unfold cc0_sb_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec!
    iapply (wp_call1 c i arg8 harg8 arg2 harg2 arg3 harg3 _ _ arg7 harg7 _ x1 x2 (cnt_start i 0 (by decide))) $$ H1 H2 HS0 HS1
    unfold held
    iintro %r ⟨H1, H2, HS0, HS1⟩
    sl_exec
    iapply (wp_call2 c i arg8 harg8 arg2 harg2 arg3 harg3 _ _ arg7 harg7 _ x1 x2 (cnt_start i 1 (by decide))) $$ H1 H2 HS0 HS1
    unfold held
    iintro %r ⟨H1, H2, HS0, HS1⟩
    sl_exec
    iapply (wp_call3 c i arg8 harg8 arg2 harg2 arg3 harg3 _ _ arg7 harg7 _ x1 x2 (cnt_start i 2 (by decide))) $$ H1 H2 HS0 HS1
    unfold held
    iintro %r ⟨H1, H2, HS0, HS1⟩
    sl_exec
    iapply (wp_call4 c i arg8 harg8 arg2 harg2 arg3 harg3 _ _ arg7 harg7 _ x1 x2 (cnt_start i 3 (by decide))) $$ H1 H2 HS0 HS1
    unfold held
    iintro %r ⟨H1, H2, HS0, HS1⟩
    sl_exec
    iapply (wp_call5 c i arg8 harg8 arg2 harg2 arg3 harg3 _ _ arg7 harg7 _ x1 x2 (cnt_start i 4 (by decide))) $$ H1 H2 HS0 HS1
    unfold held
    iintro %r ⟨H1, H2, HS0, HS1⟩
    sl_exec
    iapply (wp_call6 c i arg8 harg8 arg2 harg2 arg3 harg3 _ _ arg7 harg7 _ x1 x2 (cnt_start i 5 (by decide))) $$ H1 H2 HS0 HS1
    unfold held
    iintro %r ⟨H1, H2, HS0, HS1⟩
    sl_exec
    iapply (wp_call7 c i arg8 harg8 arg2 harg2 arg3 harg3 _ _ arg7 harg7 _ x1 x2 (cnt_start i 6 (by decide))) $$ H1 H2 HS0 HS1
    unfold held
    iintro %r ⟨H1, H2, HS0, HS1⟩
    sl_exec
    iapply (wp_call8 c i arg8 harg8 arg2 harg2 arg3 harg3 _ _ arg7 harg7 _ x1 x2 (cnt_start i 7 (by decide))) $$ H1 H2 HS0 HS1
    unfold held
    iintro %r ⟨H1, H2, HS0, HS1⟩
    sl_exec!
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro; rfl
    isplitl [HS0]
    · iexists _, _; isplitr; swap; · iexact HS0
      ipureintro; rfl
    iexists _, _; isplitr; swap; · iexact HS1
    ipureintro; rfl

end Cert.KernelIdeal.Pf

end
-- ==== Proof.KI.Frame.lean ====
/-
  The stick-breaking call's pipeline: its proof data, the obligation at a grid point, the run of the program and the frame.
-/
module

public import proofs.«01_k».proof.Proof.KI.Body

@[expose] public section

set_option maxRecDepth 16384

noncomputable section
namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Each staging buffer is whole. -/
abbrev hq (t : Fin (cfg0 (F := F)).N) : (bq t).IsWhole := hstage0_0 (((cfg0 (F := F)).slots t 0).cast nbuf0_0)
abbrev hk (t : Fin (cfg0 (F := F)).N) : (bk t).IsWhole := hstage0_1 (((cfg0 (F := F)).slots t 1).cast nbuf0_1)
abbrev hv (t : Fin (cfg0 (F := F)).N) : (bv t).IsWhole := hstage0_2 (((cfg0 (F := F)).slots t 2).cast nbuf0_2)
abbrev hg (t : Fin (cfg0 (F := F)).N) : (bg t).IsWhole := hstage0_3 (((cfg0 (F := F)).slots t 3).cast nbuf0_3)
abbrev htri (t : Fin (cfg0 (F := F)).N) : (btri t).IsWhole := hstage0_4 (((cfg0 (F := F)).slots t 4).cast nbuf0_4)
abbrev ho (t : Fin (cfg0 (F := F)).N) : (bo t).IsWhole := hstage0_5 (((cfg0 (F := F)).slots t 5).cast nbuf0_5)

/-- What the body leaves in the output's block at point `t`. -/
def outAt (c : Dev nD) (t : Fin (cfg0 (F := F)).N) : Vec F S1024x256 .bf16 :=
  (bodyRun c (grid0.coords t) (bq t) (hq t) (bk t) (hk t) (bv t) (hv t) (bg t) (hg t) (btri t) (htri t) (bo t) (ho t)
    mAcc (Memref.isWhole_whole _) mLat (Memref.isWhole_whole _) (iblk m c 0 t) (iblk m c 1 t) (iblk m c 2 t) (iblk m c 3 t) (iblk m c 4 t)).1

/-- The proof data of the one pipeline on core `c`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after_q (c : Dev nD) (t : Fin (cfg0 (F := F)).N) : (dats m 0 c).after 0 t = iblk m c 0 t := by dsimp only [dats]; rfl
theorem after_k (c : Dev nD) (t : Fin (cfg0 (F := F)).N) : (dats m 0 c).after 1 t = iblk m c 1 t := by dsimp only [dats]; rfl
theorem after_v (c : Dev nD) (t : Fin (cfg0 (F := F)).N) : (dats m 0 c).after 2 t = iblk m c 2 t := by dsimp only [dats]; rfl
theorem after_g (c : Dev nD) (t : Fin (cfg0 (F := F)).N) : (dats m 0 c).after 3 t = iblk m c 3 t := by dsimp only [dats]; rfl
theorem after_tri (c : Dev nD) (t : Fin (cfg0 (F := F)).N) : (dats m 0 c).after 4 t = iblk m c 4 t := by dsimp only [dats]; rfl
theorem after_o (c : Dev nD) (t : Fin (cfg0 (F := F)).N) : (dats m 0 c).after 5 t = outAt m c t := by dsimp only [dats]; rfl

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (bq t) fullShare ((dats m 0 c).before 0 t d))
    ∗ (∃ d, owns (c : Thread nD τ) (bk t) fullShare ((dats m 0 c).before 1 t d))
    ∗ (∃ d, owns (c : Thread nD τ) (bv t) fullShare ((dats m 0 c).before 2 t d))
    ∗ (∃ d, owns (c : Thread nD τ) (bg t) fullShare ((dats m 0 c).before 3 t d))
    ∗ (∃ d, owns (c : Thread nD τ) (btri t) fullShare ((dats m 0 c).before 4 t d))
    ∗ (∃ d, owns (c : Thread nD τ) (bo t) fullShare ((dats m 0 c).before 5 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (bq t) fullShare ((dats m 0 c).after 0 t)
    ∗ owns (c : Thread nD τ) (bk t) fullShare ((dats m 0 c).after 1 t)
    ∗ owns (c : Thread nD τ) (bv t) fullShare ((dats m 0 c).after 2 t)
    ∗ owns (c : Thread nD τ) (bg t) fullShare ((dats m 0 c).after 3 t)
    ∗ owns (c : Thread nD τ) (btri t) fullShare ((dats m 0 c).after 4 t)
    ∗ owns (c : Thread nD τ) (bo t) fullShare ((dats m 0 c).after 5 t))

set_option maxHeartbeats 800000 in
theorem sound_body (c : Dev nD) (t : Fin (cfg0 (F := F)).N) :
    bodyPre m c t ⊢ wp frame (wpE (defs₀ (F := F)) 𝒱₀ (c : Thread nD τ) none) Set.univ (bodyAt0 t) (fun _ => bodyPost m c t) := by
  unfold bodyPre bodyPost bodyAt0
  simp only [before_q m (dats m 0 c) (A_eq m c 0) (after_q m c), before_k m (dats m 0 c) (A_eq m c 1) (after_k m c),
    before_v m (dats m 0 c) (A_eq m c 2) (after_v m c), before_g m (dats m 0 c) (A_eq m c 3) (after_g m c),
    before_tri m (dats m 0 c) (A_eq m c 4) (after_tri m c)]
  rw [show (dats m 0 c).Φ t.succ = (dats m 0 c).Φ t.castSucc from rfl,
    show (dats m 0 c).owesAt () t.succ = (dats m 0 c).owesAt () t.castSucc from rfl,
    after_q, after_k, after_v, after_g, after_tri, after_o]
  rw [show (dats m 0 c).Φ t.castSucc = Pipeline.ΦA spec0 c from rfl, inv_eq]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((bodyRun c (grid0.coords t) (bq t) (hq t) (bk t) (hk t) (bv t) (hv t) (bg t) (hg t) (btri t) (htri t) (bo t) (ho t)
    mAcc (Memref.isWhole_whole _) mLat (Memref.isWhole_whole _) (iblk m c 0 t) (iblk m c 1 t) (iblk m c 2 t) (iblk m c 3 t) (iblk m c 4 t)).2 _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
/-- The run: every final state has the pipeline's arrays at what the proof data say, and every counter at zero. -/
theorem run_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

/-- An input's array ends as the launch memory held it. -/
theorem arr_in {r : PUnit × MemSt nD τ sig (Elt F)} (h : Pipeline.FramePost cfgs (dats m) 0 (V m) r) (c : Dev nD)
    (w : Fin (cfg0 (F := F)).W) (hin : ((cfg0 (F := F)).win w).isOut = false) :
    r.2.mem (((cfgs 0).spec w).arr.view.loc (c.tc : Thread nD τ)) = V m c (Pipeline.arrRef spec0 w) :=
  ((h c).1 w).trans (((dats m 0 c).arrAt_in w hin _).trans (A_eq m c w))

/-- The frame: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨(arr_in m h.1 c 0 rfl).trans (V_arg m (.inl rfl) c), (arr_in m h.1 c 1 rfl).trans (V_arg m (.inr (.inl rfl)) c),
      (arr_in m h.1 c 2 rfl).trans (V_arg m (.inr (.inr (.inl rfl))) c),
      (arr_in m h.1 c 3 rfl).trans (V_arg m (.inr (.inr (.inr rfl))) c)⟩, h.2⟩) (run_quiescent m ρ)

end Cert.KernelIdeal.Pf

end
-- ==== Proof.Frames.lean ====
/- The frames of the three programs, and the named constants of the idealization. -/
module

public import proofs.«01_k».proof.Defs
public import proofs.«01_k».proof.Proof.K.Frame
public import proofs.«01_k».proof.Proof.KI.Frame
public import proofs.«01_k».proof.Proof.Gen.ReferenceIdeal.Run
public import proofs.«01_k».proof.Proof.Gen.Pre_finite_qk
public import Idealize.ShloMosaic.Adequacy

@[expose] public section

noncomputable section

namespace Cert.Proof

open Idealize.ShloMosaic Idealize.SL.Sem

theorem frame_k : Cert.quiescent_Kernel := fun m ρ _ => Cert.Kernel.Pf.frame m ρ
theorem frame_ki : Cert.quiescent_KernelIdeal := fun m ρ _ => Cert.KernelIdeal.Pf.frame m ρ
theorem frame_ki_pre : Cert.quiescent_KernelIdeal_pre_finite_qk := fun m ρ _ => Cert.KernelIdeal.Pf.frame m ρ
/-- The reference leaves its arguments unchanged; it declares no semaphore. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)
theorem frame_ri_pre : Cert.quiescent_ReferenceIdeal_pre_finite_qk := fun m ρ _ => frame_ri m ρ trivial

/-- Each constant that is named stands, at the ideal instance, for the value of its name. -/
theorem preserves : Cert.preserves_Kernel_KernelIdeal :=
  ⟨IdealRules.named_const.statement Cert.KernelIdeal.κ "no_key" .f32 0xF149F2CA#32 _ rfl,
    IdealRules.named_const.statement Cert.KernelIdeal.κ "log2e" .f32 0x3FB8AA3B#32 _ rfl,
    IdealRules.named_const.statement Cert.KernelIdeal.κ "floor" .f32 0xC301D7B2#32 _ rfl⟩

end Cert.Proof

end
-- ==== Proof.Math.Stick.lean ====
/-
  The stick-breaking weights of one query row over extended reals: the base-2 form that the kernel computes, the
  natural form that the reference computes, and their equality where the scores are finite.
-/
module

public import Idealize.ShloMosaic.PureOps.Ideal
public import Idealize.ShloMosaic.PureOps.Ideal.Laws

@[expose] public section

noncomputable section

namespace Cert.Stick

open Idealize.ShloMosaic

/-- The log, to the base 2, of the share of the stick that a key with score `z` leaves. -/
def sv (z : EReal) : EReal :=
  0 - (max z 0 + Ideal.log (1 + Ideal.exp2 (0 - max z (-z))) * (((Real.log 2)⁻¹ : ℝ) : EReal))

/-- The same on a real score. -/
def svR (x : ℝ) : ℝ := -(max x 0 + Real.log (1 + (2 : ℝ) ^ (-|x|)) * (Real.log 2)⁻¹)

/-- The log of the sigmoid, as the softplus of the negated score. -/
def ls (z : EReal) : EReal := -(max (-z) 0 + Ideal.log1p (Ideal.exp (-(max (-z) (-(-z))))))

theorem log2_pos : 0 < Real.log 2 := Real.log_pos (by norm_num)

theorem coe_max' (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

theorem coe_sum' {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem log_coe_pos (x : ℝ) (h : 0 < x) : Ideal.log (x : EReal) = (Real.log x : EReal) := by
  show (if x ≤ 0 then _ else _) = _
  rw [if_neg (not_le.2 h)]

theorem exp2_coe' (x : ℝ) : Ideal.exp2 (x : EReal) = (((2 : ℝ) ^ x : ℝ) : EReal) := rfl
theorem exp_coe' (x : ℝ) : Ideal.exp (x : EReal) = ((Real.exp x : ℝ) : EReal) := rfl

theorem sv_coe (x : ℝ) : sv (x : EReal) = (svR x : EReal) := by
  unfold sv svR
  have e1 : max (x : EReal) (-(x : EReal)) = ((|x| : ℝ) : EReal) := by
    rw [← EReal.coe_neg, coe_max']; rfl
  have e2 : max (x : EReal) 0 = ((max x 0 : ℝ) : EReal) := by rw [← EReal.coe_zero, coe_max']
  rw [e1, e2, ← EReal.coe_zero, ← EReal.coe_sub, exp2_coe', ← EReal.coe_one, ← EReal.coe_add,
    log_coe_pos _ (by positivity), ← EReal.coe_mul, ← EReal.coe_add, ← EReal.coe_sub]
  simp

theorem two_rpow (y : ℝ) : (2 : ℝ) ^ y = Real.exp (y * Real.log 2) := by
  rw [Real.rpow_def_of_pos (by norm_num), mul_comm]

theorem exp2_eq_exp (y : ℝ) : Ideal.exp2 (y : EReal) = Ideal.exp ((y * Real.log 2 : ℝ) : EReal) := by
  rw [exp2_coe', exp_coe', two_rpow]

/-- The log of the sigmoid in nats is the score and the log survival to the base 2, scaled. -/
theorem ls_coe (x : ℝ) : ls ((x : EReal) * ((Real.log 2 : ℝ) : EReal)) = (((x + svR x) * Real.log 2 : ℝ) : EReal) := by
  have hl := log2_pos
  unfold ls svR
  rw [← EReal.coe_mul]
  set z := x * Real.log 2 with hz
  have e1 : max (-(z : EReal)) (-(-(z : EReal))) = ((|z| : ℝ) : EReal) := by
    rw [← EReal.coe_neg, ← EReal.coe_neg, coe_max', neg_neg, max_comm]; rfl
  have e2 : max (-(z : EReal)) 0 = ((max (-z) 0 : ℝ) : EReal) := by rw [← EReal.coe_neg, ← EReal.coe_zero, coe_max']
  rw [e1, e2, ← EReal.coe_neg, exp_coe', Ideal.log1p, ← EReal.coe_one, ← EReal.coe_add,
    log_coe_pos _ (by positivity), ← EReal.coe_add, ← EReal.coe_neg]
  congr 1
  have e3 : Real.exp (-|z|) = (2 : ℝ) ^ (-|x|) := by
    rw [two_rpow, hz, abs_mul, abs_of_pos hl, neg_mul]
  rw [e3]
  have e4 : max (-z) 0 = (max x 0 - x) * Real.log 2 := by
    rcases le_total x 0 with h | h
    · rw [max_eq_right h, max_eq_left (by rw [hz]; nlinarith), hz]; ring
    · rw [max_eq_left h, max_eq_right (by rw [hz]; nlinarith)]; ring
  rw [e4]
  have : Real.log (1 + (2 : ℝ) ^ (-|x|)) * (Real.log 2)⁻¹ * Real.log 2 = Real.log (1 + (2 : ℝ) ^ (-|x|)) := by
    rw [mul_assoc, inv_mul_cancel₀ hl.ne', mul_one]
  linear_combination this

theorem sum_from {M : Type} [AddCommMonoid M] (f : ℕ → M) (n : ℕ) :
    (∑ x : Fin 16384, if n ≤ x.val then f x else 0) = ∑ j ∈ Finset.Ico n 16384, f j := by
  rw [Fin.sum_univ_eq_sum_range (fun j => if n ≤ j then f j else 0) 16384, ← Finset.sum_filter]
  refine Finset.sum_congr ?_ fun _ _ => rfl
  ext j
  simp only [Finset.mem_filter, Finset.mem_range, Finset.mem_Ico]
  omega

/-! ### One query row -/

/-- The log survival of key `k`, zero where the row does not see the key. -/
def W (Z : ℕ → EReal) (R k : ℕ) : EReal := if k < R then sv (Z k) else 0

/-- The log survival of the keys from `n` on. -/
def T (Z : ℕ → EReal) (R n : ℕ) : EReal := ∑ j ∈ Finset.Ico n 16384, W Z R j

/-- The weight of key `k`. -/
def A (Z : ℕ → EReal) (R k : ℕ) : EReal := if k < R then Ideal.exp2 (Z k + sv (Z k) + T Z R (k + 1)) else 0

/-- The weighted sum of the values of the keys from `n` on. -/
def O (Z V : ℕ → EReal) (R n : ℕ) : EReal := ∑ k ∈ Finset.Ico n 16384, A Z R k * V k

section Row
variable (Z V : ℕ → EReal) (R : ℕ)

theorem T_split (a b : ℕ) (h : a ≤ b) (hb : b ≤ 16384) : T Z R a = (∑ j ∈ Finset.Ico a b, W Z R j) + T Z R b :=
  (Finset.sum_Ico_consecutive _ h hb).symm

theorem O_split (a b : ℕ) (h : a ≤ b) (hb : b ≤ 16384) : O Z V R a = (∑ k ∈ Finset.Ico a b, A Z R k * V k) + O Z V R b :=
  (Finset.sum_Ico_consecutive _ h hb).symm

theorem T_zero (n : ℕ) (h : R ≤ n) : T Z R n = 0 :=
  Finset.sum_eq_zero fun j hj => if_neg (by have := (Finset.mem_Ico.1 hj).1; omega)

theorem O_zero (n : ℕ) (h : R ≤ n) : O Z V R n = 0 :=
  Finset.sum_eq_zero fun j hj => by
    rw [A, if_neg (by have := (Finset.mem_Ico.1 hj).1; omega), zero_mul]

theorem sum_tile (f : ℕ → EReal) (n : ℕ) : (∑ x : Fin 128, f (128 * n + x)) = ∑ j ∈ Finset.Ico (128 * n) (128 * n + 128), f j := by
  rw [Finset.sum_Ico_eq_sum_range, Finset.sum_range, Nat.add_sub_cancel_left]

theorem sum_tile_gt (f : ℕ → EReal) (n : ℕ) (j : Fin 128) :
    (∑ x : Fin 128, if j < x then f (128 * n + x) else 0) = ∑ i ∈ Finset.Ico (128 * n + j + 1) (128 * n + 128), f i := by
  have h := sum_tile (fun i => if 128 * n + j.val < i then f i else 0) n
  have e : (∑ x : Fin 128, if j < x then f (128 * n + x) else 0) =
      ∑ x : Fin 128, if 128 * n + j.val < 128 * n + x.val then f (128 * n + x) else 0 :=
    Finset.sum_congr rfl fun x _ => if_congr (by rw [Fin.lt_def]; omega) rfl rfl
  have hj := j.isLt
  rw [e, h, ← Finset.sum_Ico_consecutive _ (show 128 * n ≤ 128 * n + j.val + 1 by omega) (show 128 * n + j.val + 1 ≤ 128 * n + 128 by omega)]
  rw [Finset.sum_eq_zero, zero_add]
  · exact Finset.sum_congr rfl fun i hi => if_pos (by have := (Finset.mem_Ico.1 hi).1; omega)
  · exact fun i hi => if_neg (by have := (Finset.mem_Ico.1 hi).2; omega)

/-- A whole tile of seen keys moves the survival one tile down. -/
theorem T_step (n : ℕ) (hn : 128 * n + 128 ≤ 16384) (t : Fin 128 → EReal) (ht : ∀ x, t x = W Z R (128 * n + x)) :
    T Z R (128 * (n + 1)) + ∑ x : Fin 128, t x = T Z R (128 * n) := by
  rw [T_split Z R (128 * n) (128 * n + 128) (by omega) hn, ← sum_tile, add_comm]
  exact congrArg₂ (· + ·) (Finset.sum_congr rfl fun x _ => ht x) rfl

/-- What is left after key `j` of tile `n`: the later keys of the tile and the later tiles. -/
theorem T_within (n : ℕ) (hn : 128 * n + 128 ≤ 16384) (t : Fin 128 → EReal) (ht : ∀ x, t x = W Z R (128 * n + x)) (j : Fin 128) :
    (∑ x : Fin 128, if j < x then t x else 0) + T Z R (128 * (n + 1)) = T Z R (128 * n + j + 1) := by
  have hj := j.isLt
  rw [T_split Z R (128 * n + j + 1) (128 * n + 128) (by omega) hn, ← sum_tile_gt]
  exact congrArg₂ (· + ·) (Finset.sum_congr rfl fun x _ => by rw [ht]) rfl

theorem O_step (n : ℕ) (hn : 128 * n + 128 ≤ 16384) (f : Fin 128 → EReal) (hf : ∀ x, f x = A Z R (128 * n + x) * V (128 * n + x)) :
    O Z V R (128 * (n + 1)) + ∑ x : Fin 128, f x = O Z V R (128 * n) := by
  rw [O_split Z V R (128 * n) (128 * n + 128) (by omega) hn, ← sum_tile (fun k => A Z R k * V k), add_comm]
  exact congrArg₂ (· + ·) (Finset.sum_congr rfl fun x _ => hf x) rfl

variable (z : ℕ → ℝ) (hz : ∀ k, Z k = (z k : EReal))
include hz

theorem W_coe (k : ℕ) : W Z R k = ((if k < R then svR (z k) else 0 : ℝ) : EReal) := by
  unfold W
  split
  · rw [hz, sv_coe]
  · rfl

theorem T_coe (n : ℕ) : T Z R n = ((∑ j ∈ Finset.Ico n 16384, if j < R then svR (z j) else 0 : ℝ) : EReal) := by
  unfold T
  rw [← coe_sum']
  exact Finset.sum_congr rfl fun j _ => W_coe Z R z hz j

theorem T_ne_bot (n : ℕ) : T Z R n ≠ ⊥ := by
  rw [T_coe Z R z hz]; exact EReal.coe_ne_bot _

/-- The weight in nats: the log of the sigmoid and the masked log survivals of the later keys. -/
theorem A_ref (k : Fin 16384) (hk : k.val < R) (l : EReal) (hl : l = ((Real.log 2 : ℝ) : EReal)) (B : Fin 16384 → EReal)
    (hB : ∀ x : Fin 16384, B x = if k < x then (if x.val < R then ls (Z x * l) - Z x * l else 0) else 0) :
    Ideal.exp (ls (Z k * l) + ∑ x, B x) = A Z R k := by
  subst hl
  rw [A, if_pos hk, T_coe Z R z hz, hz k, sv_coe, ls_coe, ← EReal.coe_add, ← EReal.coe_add, exp2_eq_exp]
  have e : ∀ x : Fin 16384, B x = (((if k.val + 1 ≤ x.val then (if x.val < R then svR (z x) else 0) else 0) * Real.log 2 : ℝ) : EReal) := by
    intro x
    rw [hB x]
    by_cases h1 : k < x
    · have h1' : k.val + 1 ≤ x.val := h1
      by_cases h2 : x.val < R
      · simp only [h1, h1', h2, if_true]
        rw [hz x, ls_coe, ← EReal.coe_mul, ← EReal.coe_sub]
        congr 1; ring
      · simp only [h1, h1', h2, if_true, if_false, zero_mul]; rfl
    · have h1' : ¬ k.val + 1 ≤ x.val := h1
      simp only [h1, h1', if_false, zero_mul]; rfl
  rw [Finset.sum_congr rfl fun x _ => e x, coe_sum', ← EReal.coe_add]
  rw [← Finset.sum_mul, sum_from (fun j => if j < R then svR (z j) else 0) (k.val + 1), ← add_mul]

end Row

end Cert.Stick

end
-- ==== Proof.KI.Tile.lean ====
/- What one tile of keys contributes, at the ideal instance, element by element. -/
module

public import proofs.«01_k».proof.Proof.KI.Pure
public import proofs.«01_k».proof.Proof.Math.Stick
public import Idealize.ShloMosaic.Lib.Pointwise

@[expose] public section

set_option maxRecDepth 16384

noncomputable section

namespace Cert.KernelIdeal.Pf

open Cert.KernelIdeal Cert.KernelIdeal.Gen Cert.Stick
open Idealize.ShloMosaic Idealize.ShloMosaic.TcCoe

/-- The score of key `j` for query `r` of a tile, in head `h` of the pair. -/
def tz (q k : FVec Ideal S128x128 .bf16) (r : Fin 128) (h : Fin 2) (j : Fin 128) : EReal :=
  ∑ d : Fin 64, q (ix2 r ⟨64 * h + d, by omega⟩) * k (ix2 j ⟨64 * h + d, by omega⟩)

/-- Its log survival. -/
def ts (q k : FVec Ideal S128x128 .bf16) (r : Fin 128) (h : Fin 2) (j : Fin 128) : EReal := sv (tz q k r h j)

/-- The log survival of the keys after `j` in the tile. -/
def tw (q k : FVec Ideal S128x128 .bf16) (r : Fin 128) (h : Fin 2) (j : Fin 128) : EReal :=
  ∑ x : Fin 128, if j < x then ts q k r h x else 0

/-- The triangular matrix of the within-tile sums. -/
def IsTri (tri : FVec Ideal S256x256 .bf16) : Prop :=
  ∀ x y : Fin 256, tri (ix2 x y) = if y < x ∧ y.val / 128 = x.val / 128 then 1 else 0

theorem slt64 (x : Fin 128) : IntOp.cmpi .slt (BitVec.ofNat 32 x.val) 64#32 = if x.val < 64 then 1#1 else 0#1 := by
  revert x; decide
theorem sge64 (x : Fin 128) : IntOp.cmpi .sge (BitVec.ofNat 32 x.val) 64#32 = if x.val < 64 then 0#1 else 1#1 := by
  revert x; decide

theorem sum_halves (f : Fin 128 → EReal) :
    (∑ x : Fin 128, f x) = (∑ d : Fin 64, f ⟨d, by omega⟩) + ∑ d : Fin 64, f ⟨64 + d, by omega⟩ := by
  exact Fin.sum_univ_add (a := 64) (b := 64) f

theorem sum_halves' (f : Fin 256 → EReal) :
    (∑ x : Fin 256, f x) = (∑ d : Fin 128, f ⟨d, by omega⟩) + ∑ d : Fin 128, f ⟨128 + d, by omega⟩ := by
  exact Fin.sum_univ_add (a := 128) (b := 128) f

theorem zT_at (q k : FVec Ideal S128x128 .bf16) (r : Fin 128) (h : Fin 2) (j : Fin 128) (c : Fin 256)
    (hc : c.val = 128 * h.val + j.val) :
    k0_pay336 (F := Ideal) q k (ix2 r c) = tz q k r h j := by
  pointwise [k0_pay336]
  simp only [slt64, sge64]
  rw [sum_halves]
  unfold tz
  have hj := j.isLt
  match h, hc with
  | 0, hc =>
    have h1 : c.val < 128 := by simp at hc; omega
    have h2 : (⟨c.val, h1⟩ : Fin 128) = j := Fin.ext (by simpa using hc)
    simp only [dif_pos h1, h2]
    refine (congrArg₂ (· + ·) (Finset.sum_congr rfl fun d _ => ?_) (Finset.sum_eq_zero fun d _ => ?_)).trans (add_zero _)
    · rw [if_pos (by exact d.isLt)]
      simp [Scalar.select]
    · rw [if_neg (by simp)]
      simp [Scalar.select]
  | 1, hc =>
    have h1 : ¬ c.val < 128 := by simp at hc; omega
    have h2 : (⟨c.val - 128, by omega⟩ : Fin 128) = j := Fin.ext (by simp at hc ⊢; omega)
    simp only [dif_neg h1, h2]
    refine (congrArg₂ (· + ·) (Finset.sum_eq_zero fun d _ => ?_) (Finset.sum_congr rfl fun d _ => ?_)).trans (zero_add _)
    · rw [if_pos (by exact d.isLt)]
      simp [Scalar.select]
    · rw [if_neg (by simp)]
      simp [Scalar.select]

theorem log2e_eq : (Named.named κ "log2e" 0x3FB8AA3B#32 : Ideal .f32) = (((Real.log 2)⁻¹ : ℝ) : EReal) := rfl
theorem floor_eq : (Named.named κ "floor" 0xC301D7B2#32 : Ideal .f32) = (⊥ : EReal) := rfl
theorem nokey_eq : (Named.named κ "no_key" 0xF149F2CA#32 : Ideal .f32) = (⊥ : EReal) := rfl

theorem sT_at (q k : FVec Ideal S128x128 .bf16) (r : Fin 128) (h : Fin 2) (j : Fin 128) (c : Fin 256)
    (hc : c.val = 128 * h.val + j.val) :
    k0_pay337 (F := Ideal) q k (ix2 r c) = ts q k r h j := by
  pointwise [k0_pay337]
  rw [zT_at q k r h j c hc]
  rfl

/-- A row of the triangular product picks the keys after `j`. -/
theorem tri_sum (tri : FVec Ideal S256x256 .bf16) (ht : IsTri tri) (h : Fin 2) (j : Fin 128) (c : Fin 256)
    (hc : c.val = 128 * h.val + j.val) (f : Fin 256 → EReal) (g : Fin 128 → EReal)
    (hf : ∀ (x : Fin 128) (y : Fin 256), y.val = 128 * h.val + x.val → f y = g x) :
    (∑ x : Fin 256, f x * tri (ix2 x c)) = ∑ x : Fin 128, if j < x then g x else 0 := by
  have hj := j.isLt
  rw [sum_halves']
  simp only [ht _ _]
  match h, hc, hf with
  | 0, hc, hf =>
    refine (congrArg₂ (· + ·) (Finset.sum_congr rfl fun x _ => ?_) (Finset.sum_eq_zero fun x _ => ?_)).trans (add_zero _)
    · rw [hf x ⟨x, by omega⟩ (by simp)]
      have hx := x.isLt
      simp at hc
      by_cases hjx : j < x
      · rw [if_pos hjx, if_pos, mul_one]
        refine ⟨?_, ?_⟩
        · rw [Fin.lt_def] at hjx ⊢; simpa [hc] using hjx
        · show c.val / 128 = x.val / 128
          omega
      · rw [if_neg hjx, if_neg, mul_zero]
        rintro ⟨h1, -⟩
        rw [Fin.lt_def] at hjx h1; apply hjx; simpa [hc] using h1
    · rw [if_neg, mul_zero]
      rintro ⟨-, h1⟩
      have hx := x.isLt
      simp at hc
      have h1' : c.val / 128 = (128 + x.val) / 128 := h1
      omega
  | 1, hc, hf =>
    refine (congrArg₂ (· + ·) (Finset.sum_eq_zero fun x _ => ?_) (Finset.sum_congr rfl fun x _ => ?_)).trans (zero_add _)
    · rw [if_neg, mul_zero]
      rintro ⟨-, h1⟩
      have hx := x.isLt
      simp at hc
      have h1' : c.val / 128 = x.val / 128 := h1
      omega
    · rw [hf x ⟨128 + x, by omega⟩ (by simp)]
      have hx := x.isLt
      simp at hc
      by_cases hjx : j < x
      · rw [if_pos hjx, if_pos, mul_one]
        rw [Fin.lt_def] at hjx
        refine ⟨?_, ?_⟩
        · rw [Fin.lt_def]; show c.val < 128 + x.val; omega
        · show c.val / 128 = (128 + x.val) / 128
          omega
      · rw [if_neg hjx, if_neg, mul_zero]
        rintro ⟨h1, -⟩
        rw [Fin.lt_def] at hjx h1; apply hjx
        have h1' : c.val < 128 + x.val := h1
        omega

theorem wT_at (q k : FVec Ideal S128x128 .bf16) (tri : FVec Ideal S256x256 .bf16) (ht : IsTri tri)
    (hs : ∀ r h j, ts q k r h j - ts q k r h j = 0) (r : Fin 128) (h : Fin 2) (j : Fin 128) (c : Fin 256)
    (hc : c.val = 128 * h.val + j.val) :
    k0_pay338 (F := Ideal) q tri k (ix2 r c) = tz q k r h j + ts q k r h j + tw q k r h j := by
  pointwise [k0_pay338]
  rw [zT_at q k r h j c hc, sT_at q k r h j c hc]
  refine congrArg (tz q k r h j + ts q k r h j + ·) ((congrArg₂ (· + ·)
    (tri_sum tri ht h j c hc (fun x => k0_pay337 (F := Ideal) q k (ix2 r x)) (fun x => ts q k r h x) (fun x y hy => sT_at q k r h x y hy))
    (tri_sum tri ht h j c hc (fun x => k0_pay337 (F := Ideal) q k (ix2 r x) - k0_pay337 (F := Ideal) q k (ix2 r x)) (fun x => 0)
      (fun x y hy => by
        have e := sT_at q k r h x y hy
        exact (congrArg₂ (· - ·) e e).trans (hs r h x)))).trans ?_)
  simp only [ite_self, Finset.sum_const_zero, add_zero]
  rfl

/-- The head of the pair that a lane belongs to. -/
abbrev hd (l : Fin 128) : Fin 2 := ⟨l.val / 64, by omega⟩

theorem stack_sum (f g : Fin 128 → EReal) (l : Fin 128) (F : Fin 2 → Fin 128 → EReal) (hf : ∀ x, f x = F 0 x) (hg : ∀ x, g x = F 1 x) :
    (∑ x : Fin 128, Scalar.select (IntOp.cmpi .slt (BitVec.ofNat 32 l.val) 64#32) (f x) 0) +
      (∑ x : Fin 128, Scalar.select (IntOp.cmpi .sge (BitVec.ofNat 32 l.val) 64#32) (g x) 0) = ∑ x : Fin 128, F (hd l) x := by
  rw [slt64, sge64]
  by_cases h : l.val < 64
  · have : hd l = 0 := Fin.ext (by show l.val / 64 = 0; omega)
    rw [this]
    simp [h, Scalar.select, hf]
  · have : hd l = 1 := Fin.ext (by show l.val / 64 = 1; omega)
    rw [this]
    simp [h, Scalar.select, hg]

theorem accStep_at (lat : FVec Ideal S1x128x256 .f32) (q k v : FVec Ideal S128x128 .bf16) (tri : FVec Ideal S256x256 .bf16)
    (ht : IsTri tri) (hs : ∀ r h j, ts q k r h j - ts q k r h j = 0)
    (acc : FVec Ideal S1x128x128 .f32) (r : Fin 128) (l : Fin 128) :
    accStep (F := Ideal) lat q tri k v acc (ix3 0 r l) = acc (ix3 0 r l) + ∑ j : Fin 128,
      Ideal.exp2 (tz q k r (hd l) j + ts q k r (hd l) j + tw q k r (hd l) j + lat (ix3 0 r ⟨128 * (hd l).val + j, by
        have := (hd l).isLt; omega⟩)) * v (ix2 j l) := by
  pointwise [accStep, k0_pay339, k0_pay335]
  congr 1
  refine stack_sum _ _ l (fun h j => Ideal.exp2 (tz q k r h j + ts q k r h j + tw q k r h j + lat (ix3 0 r ⟨128 * h.val + j, by
        have := h.isLt; omega⟩)) * v (ix2 j l)) (fun x => ?_) (fun x => ?_)
  · rw [wT_at q k tri ht hs r 0 x _ (by simp)]
    simp
    rfl
  · rw [wT_at q k tri ht hs r 1 x _ (by simp)]
    simp
    rfl

theorem half_sum (c : Fin 256) (h : Fin 2) (j : Fin 128) (hc : c.val = 128 * h.val + j.val) (F : Fin 2 → EReal) (a b : EReal)
    (ha : a = F 0) (hb : b = F 1) : (if c.val < 128 then a else b) = F h := by
  have := j.isLt
  match h, hc with
  | 0, hc => simp at hc; rw [if_pos (by omega), ha]
  | 1, hc => simp at hc; rw [if_neg (by omega), hb]

theorem lat0_at (lat : FVec Ideal S1x128x256 .f32) (q k : FVec Ideal S128x128 .bf16) (r : Fin 128) (h : Fin 2) (j : Fin 128) (c : Fin 256)
    (hc : c.val = 128 * h.val + j.val) :
    k0_pay340 (F := Ideal) (k0_pay335 lat) (k0_pay337 q k) (ix2 r c) = lat (ix3 0 r c) + ∑ x : Fin 128, ts q k r h x := by
  pointwise [k0_pay340, k0_pay335]
  congr 1
  simp only [dite_eq_ite]
  refine half_sum c h j hc (fun h => ∑ x : Fin 128, ts q k r h x) _ _ (Finset.sum_congr rfl fun x _ => ?_) (Finset.sum_congr rfl fun x _ => ?_)
  · exact sT_at q k r 0 x _ (by simp)
  · exact sT_at q k r 1 x _ (by simp)

theorem latStep_at (lat : FVec Ideal S1x128x256 .f32) (q k : FVec Ideal S128x128 .bf16) (r : Fin 128) (h : Fin 2) (j : Fin 128) (c : Fin 256)
    (hc : c.val = 128 * h.val + j.val) :
    latStep (F := Ideal) lat q k (ix3 0 r c) = lat (ix3 0 r c) + ∑ x : Fin 128, ts q k r h x := by
  refine Eq.trans ?_ (lat0_at lat q k r h j c hc)
  pointwise [latStep, k0_pay341]

theorem mask_at (r : Fin 128) (h : Fin 2) (j : Fin 128) (c : Fin 256)
    (hc : c.val = 128 * h.val + j.val) :
    k0_pay35 (ix2 r c) = if j < r then 1#1 else 0#1 := by
  pointwise [k0_pay35]
  have e1 : ∀ c : Fin 256, (Scalar.select
        (IntOp.andi
          (IntOp.xori
            (IntOp.cmpi CmpIPredicate.slt
              (IntOp.remsi ArithUnit.vector (BitVec.ofNat 32 c.val)
                (Scalar.select (Scalar.cmpi CmpIPredicate.eq 128#32 0#32) 1#32 128#32))
              0#32)
            (Scalar.cmpi CmpIPredicate.slt (Scalar.select (Scalar.cmpi CmpIPredicate.eq 128#32 0#32) 1#32 128#32) 0#32))
          (IntOp.cmpi CmpIPredicate.ne
            (IntOp.remsi ArithUnit.vector (BitVec.ofNat 32 c.val)
              (Scalar.select (Scalar.cmpi CmpIPredicate.eq 128#32 0#32) 1#32 128#32))
            0#32))
        (IntOp.addi
          (IntOp.remsi ArithUnit.vector (BitVec.ofNat 32 c.val)
            (Scalar.select (Scalar.cmpi CmpIPredicate.eq 128#32 0#32) 1#32 128#32))
          (Scalar.select (Scalar.cmpi CmpIPredicate.eq 128#32 0#32) 1#32 128#32))
        (IntOp.remsi ArithUnit.vector (BitVec.ofNat 32 c.val)
          (Scalar.select (Scalar.cmpi CmpIPredicate.eq 128#32 0#32) 1#32 128#32))) = BitVec.ofNat 32 (c.val % 128) := by decide +kernel
  rw [e1]
  have e2 : ∀ a b : Fin 128, IntOp.cmpi CmpIPredicate.slt (BitVec.ofNat 32 a.val) (BitVec.ofNat 32 b.val) = if a < b then 1#1 else 0#1 := by
    decide +kernel
  have : c.val % 128 = j.val := by rw [hc, Nat.mul_add_mod, Nat.mod_eq_of_lt j.isLt]
  rw [this]
  exact e2 j r

end Cert.KernelIdeal.Pf

end
-- ==== Proof.KI.Init.lean ====
/-
  A query tile's first two visits, the masked tile on the diagonal and the tile before it, as plain functions, and at the ideal
  instance element by element.
-/
module

public import proofs.«01_k».proof.Proof.KI.Tile

@[expose] public section

set_option maxRecDepth 16384

noncomputable section

namespace Cert.KernelIdeal.Pf

open Cert.KernelIdeal Cert.KernelIdeal.Gen Cert.Stick
open Idealize.ShloMosaic Idealize.ShloMosaic.TcCoe

section Pure
variable {F : FTy → Type} [FloatOps F] [Named F]

/-- The lanes of a tile. -/
abbrev lanes : IVec S128x128 32 := iota .tc S128x128 32 [1] iota_S128x128_d1_w32

/-- The masked log survivals of the diagonal tile. -/
def diagS (q k0 : Vec F S128x128 .bf16) : FVec F S128x256 .f32 := k0_pay39 k0_pay35 q k0 lanes (Scalar.ofBits .bf16 0x0000#16)

/-- The masked weights of the diagonal tile. -/
def diagA (tri : FVec F S256x256 .bf16) (q k0 : Vec F S128x128 .bf16) : FVec F S128x256 .bf16 :=
  k0_pay40 tri k0_pay35 q k0 lanes (Scalar.ofBits .bf16 0x0000#16)

/-- The accumulator after the two tiles, `np` added to the log survival that the earlier tile starts with. -/
def accInit (np : F .f32) (q : Vec F S128x128 .bf16) (tri : FVec F S256x256 .bf16) (k0 v0 k1 v1 : Vec F S128x128 .bf16) : FVec F S1x128x128 .f32 :=
  k0_pay51 tri (k0_pay43 v0 (diagA tri q k0) lanes (k0_pay41 (F := F)) k0_pay42) v1 (k0_pay46 np (diagS q k0)) (k0_pay47 q k1) (k0_pay48 q k1)
    (Scalar.ofBits .f32 0x00000000#32)

/-- The log survival after the two tiles. -/
def latInit (q k0 k1 : Vec F S128x128 .bf16) : FVec F S1x128x256 .f32 :=
  k0_pay52 (k0_pay44 (diagS q k0)) (k0_pay45 (diagS q k0)) (k0_pay48 q k1) (Scalar.ofBits .f32 0x00000000#32)

/-- The same, two-dimensional. -/
def latInit0 (q k0 k1 : Vec F S128x128 .bf16) : FVec F S128x256 .f32 :=
  k0_pay50 (k0_pay44 (diagS q k0)) (k0_pay45 (diagS q k0)) (k0_pay48 q k1) (Scalar.ofBits .f32 0x00000000#32)

/-- Whether a sub-block goes on past its first two tiles. -/
def flagInit (q0 k00 k01 q1 k10 k11 : Vec F S128x128 .bf16) : BitVec 1 :=
  Scalar.cmpf .ogt (k0_pay319 (latInit0 q0 k00 k01) (latInit0 q1 k10 k11)) (Named.named κ "floor" 0xC301D7B2#32 : F .f32)

/-- What sub-block `s` adds to the log survival before the earlier tile: nothing, or where there is no earlier tile the stand-in for none. -/
def npOf (i : grid0.Coords) (s : BitVec 32) : F .f32 :=
  Scalar.select (Scalar.cmpi .sgt (Scalar.addi (Scalar.muli (BitVec.ofNat 32 (i 0).val) 8#32) s) 0#32) (Scalar.ofBits .f32 0x00000000#32)
    (Named.named κ "no_key" 0xF149F2CA#32)

theorem prevZ_eq (q k : Vec F S128x128 .bf16) : k0_pay47 q k = k0_pay336 q k := rfl

end Pure

theorem zero_bf16 : (Scalar.ofBits .bf16 0x0000#16 : Ideal .bf16) = (0 : EReal) := by
  show Ideal.ofBits .bf16 0x0000#16 = 0
  simp [Ideal.ofBits, Ideal.ieee]
theorem zero_f32 : (Scalar.ofBits .f32 0x00000000#32 : Ideal .f32) = (0 : EReal) := Ideal.ofBits_zero_f32

theorem diagZ_eq0 (q k : FVec Ideal S128x128 .bf16) : k0_pay37 (F := Ideal) q k lanes (0 : EReal) = k0_pay336 q k := by rw [← zero_bf16]; rfl
theorem diagS_eq0 (q k : FVec Ideal S128x128 .bf16) : k0_pay38 (F := Ideal) q k lanes (0 : EReal) = k0_pay337 q k := by rw [← zero_bf16]; rfl
theorem prevS_eq0 (q k : FVec Ideal S128x128 .bf16) : k0_pay49 (F := Ideal) (k0_pay48 q k) (0 : EReal) = k0_pay337 q k := by rw [← zero_f32]; rfl
theorem diagS0 (q k : FVec Ideal S128x128 .bf16) : k0_pay39 (F := Ideal) k0_pay35 q k lanes (0 : EReal) = diagS q k := by rw [← zero_bf16]; rfl

/-- The log survival of key `x` of the diagonal tile for query `r`: the keys before `r` only. -/
def ms (q k : FVec Ideal S128x128 .bf16) (r : Fin 128) (h : Fin 2) (x : Fin 128) : EReal := if x < r then ts q k r h x else 0

theorem sel_if {p : Prop} [Decidable p] (x y : EReal) : Scalar.select (if p then 1#1 else 0#1) x y = if p then x else y := by
  by_cases h : p <;> simp [h, Scalar.select]

theorem diagS_at (q k : FVec Ideal S128x128 .bf16) (r : Fin 128) (h : Fin 2) (j : Fin 128) (c : Fin 256)
    (hc : c.val = 128 * h.val + j.val) : diagS (F := Ideal) q k (ix2 r c) = ms q k r h j := by
  unfold diagS
  pointwise [k0_pay39]
  rw [mask_at r h j c hc, diagS_eq0, sT_at q k r h j c hc, sel_if]
  rfl

theorem ms_sub (q k : FVec Ideal S128x128 .bf16) (hs : ∀ r h j, ts q k r h j - ts q k r h j = 0) (r : Fin 128) (h : Fin 2) (x : Fin 128) :
    ms q k r h x - ms q k r h x = 0 := by
  unfold ms
  split
  · exact hs r h x
  · simp

/-- The weight of key `j` of the diagonal tile. -/
def da (q k : FVec Ideal S128x128 .bf16) (r : Fin 128) (h : Fin 2) (j : Fin 128) : EReal :=
  if j < r then Ideal.exp2 (tz q k r h j + ts q k r h j + ∑ x : Fin 128, if j < x then ms q k r h x else 0) else 0

theorem diagA_at (q k : FVec Ideal S128x128 .bf16) (tri : FVec Ideal S256x256 .bf16) (ht : IsTri tri)
    (hs : ∀ r h j, ts q k r h j - ts q k r h j = 0) (r : Fin 128) (h : Fin 2) (j : Fin 128) (c : Fin 256)
    (hc : c.val = 128 * h.val + j.val) : diagA (F := Ideal) tri q k (ix2 r c) = da q k r h j := by
  have e0 : ∀ (x : Fin 128) (y : Fin 256), y.val = 128 * h.val + x.val →
      k0_pay39 (F := Ideal) k0_pay35 q k lanes (0 : EReal) (ix2 r y) = ms q k r h x := fun x y hy => by rw [diagS0]; exact diagS_at q k r h x y hy
  unfold diagA
  pointwise [k0_pay40]
  rw [mask_at r h j c hc, diagS_eq0, diagZ_eq0, zT_at q k r h j c hc, sT_at q k r h j c hc, sel_if]
  unfold da
  refine if_congr Iff.rfl (congrArg Ideal.exp2 ?_) rfl
  refine congrArg (tz q k r h j + ts q k r h j + ·) ((congrArg₂ (· + ·)
    (tri_sum tri ht h j c hc (fun x => k0_pay39 (F := Ideal) k0_pay35 q k lanes (0 : EReal) (ix2 r x)) (fun x => ms q k r h x) e0)
    (tri_sum tri ht h j c hc (fun x => k0_pay39 (F := Ideal) k0_pay35 q k lanes (0 : EReal) (ix2 r x)
        - k0_pay39 (F := Ideal) k0_pay35 q k lanes (0 : EReal) (ix2 r x)) (fun x => 0)
      (fun x y hy => by
        have e := e0 x y hy
        exact (congrArg₂ (· - ·) e e).trans (ms_sub q k hs r h x)))).trans ?_)
  simp only [ite_self, Finset.sum_const_zero, add_zero]

theorem half0_at (q k : FVec Ideal S128x128 .bf16) (r : Fin 128) :
    k0_pay44 (F := Ideal) (diagS q k) (ix2 r 0) = ∑ x : Fin 128, ms q k r 0 x := by
  pointwise [k0_pay44]
  exact Finset.sum_congr rfl fun x _ => diagS_at q k r 0 x _ (by simp)

theorem half1_at (q k : FVec Ideal S128x128 .bf16) (r : Fin 128) :
    k0_pay45 (F := Ideal) (diagS q k) (ix2 r 0) = ∑ x : Fin 128, ms q k r 1 x := by
  pointwise [k0_pay45]
  exact Finset.sum_congr rfl fun x _ => diagS_at q k r 1 x _ (by simp)

theorem later_at (np : EReal) (q k : FVec Ideal S128x128 .bf16) (r : Fin 128) (h : Fin 2) (j : Fin 128) (c : Fin 256)
    (hc : c.val = 128 * h.val + j.val) :
    k0_pay46 (F := Ideal) np (diagS q k) (ix2 r c) = (∑ x : Fin 128, ms q k r h x) + np := by
  pointwise [k0_pay46]
  refine congrArg (· + np) ?_
  simp only [dite_eq_ite]
  exact half_sum c h j hc (fun h => ∑ x : Fin 128, ms q k r h x) _ _ (half0_at q k r) (half1_at q k r)

theorem latInit0_at (q k0 k1 : FVec Ideal S128x128 .bf16) (r : Fin 128) (h : Fin 2) (j : Fin 128) (c : Fin 256)
    (hc : c.val = 128 * h.val + j.val) :
    latInit0 (F := Ideal) q k0 k1 (ix2 r c) = (∑ x : Fin 128, ms q k0 r h x) + ∑ x : Fin 128, ts q k1 r h x := by
  unfold latInit0
  pointwise [k0_pay50]
  simp only [dite_eq_ite, prevS_eq0]
  refine half_sum c h j hc (fun h => (∑ x : Fin 128, ms q k0 r h x) + ∑ x : Fin 128, ts q k1 r h x) _ _ ?_ ?_
  · exact congrArg₂ (· + ·) (half0_at q k0 r) (Finset.sum_congr rfl fun x _ => sT_at q k1 r 0 x _ (by simp))
  · exact congrArg₂ (· + ·) (half1_at q k0 r) (Finset.sum_congr rfl fun x _ => sT_at q k1 r 1 x _ (by simp))

theorem latInit_at (q k0 k1 : FVec Ideal S128x128 .bf16) (r : Fin 128) (h : Fin 2) (j : Fin 128) (c : Fin 256)
    (hc : c.val = 128 * h.val + j.val) :
    latInit (F := Ideal) q k0 k1 (ix3 0 r c) = (∑ x : Fin 128, ms q k0 r h x) + ∑ x : Fin 128, ts q k1 r h x := by
  refine Eq.trans ?_ (latInit0_at q k0 k1 r h j c hc)
  unfold latInit latInit0
  pointwise [k0_pay52]

theorem diagPv_at (q k v : FVec Ideal S128x128 .bf16) (tri : FVec Ideal S256x256 .bf16) (ht : IsTri tri)
    (hs : ∀ r h j, ts q k r h j - ts q k r h j = 0) (r l : Fin 128) :
    k0_pay43 (F := Ideal) v (diagA tri q k) lanes (k0_pay41 (F := Ideal)) k0_pay42 (ix2 r l) = ∑ j : Fin 128, da q k r (hd l) j * v (ix2 j l) := by
  pointwise [k0_pay43, k0_pay41, k0_pay42, lanes]
  refine stack_sum _ _ l (fun h j => da q k r h j * v (ix2 j l)) (fun x => ?_) (fun x => ?_)
  · exact congrArg (· * v (ix2 x l)) (diagA_at q k tri ht hs r 0 x _ (by simp))
  · exact congrArg (· * v (ix2 x l)) (diagA_at q k tri ht hs r 1 x _ (by simp))

theorem accInit_at (np : EReal) (q k0 v0 k1 v1 : FVec Ideal S128x128 .bf16) (tri : FVec Ideal S256x256 .bf16) (ht : IsTri tri)
    (hs0 : ∀ r h j, ts q k0 r h j - ts q k0 r h j = 0) (hs1 : ∀ r h j, ts q k1 r h j - ts q k1 r h j = 0) (r l : Fin 128) :
    accInit (F := Ideal) np q tri k0 v0 k1 v1 (ix3 0 r l) = (∑ j : Fin 128, da q k0 r (hd l) j * v0 (ix2 j l)) +
      ∑ j : Fin 128, Ideal.exp2 (tz q k1 r (hd l) j + ts q k1 r (hd l) j + tw q k1 r (hd l) j + ((∑ x : Fin 128, ms q k0 r (hd l) x) + np)) * v1 (ix2 j l) := by
  unfold accInit
  pointwise [k0_pay51]
  simp only [prevS_eq0, prevZ_eq]
  refine congrArg₂ (· + ·) (diagPv_at q k0 v0 tri ht hs0 r l) ?_
  refine stack_sum _ _ l (fun h j => Ideal.exp2 (tz q k1 r h j + ts q k1 r h j + tw q k1 r h j + ((∑ x : Fin 128, ms q k0 r h x) + np)) * v1 (ix2 j l))
    (fun x => ?_) (fun x => ?_)
  · refine congrArg (fun y => Ideal.exp2 y * v1 (ix2 x l)) (congrArg₂ (· + ·) ?_ (later_at np q k0 r 0 x _ (by simp)))
    have e := wT_at q k1 tri ht hs1 r 0 x ⟨x, by omega⟩ (by simp)
    pointwise [k0_pay338] at e
    exact e
  · refine congrArg (fun y => Ideal.exp2 y * v1 (ix2 x l)) (congrArg₂ (· + ·) ?_ (later_at np q k0 r 1 x _ (by simp)))
    have e := wT_at q k1 tri ht hs1 r 1 x ⟨128 + x, by omega⟩ (by simp)
    pointwise [k0_pay338] at e
    exact e

end Cert.KernelIdeal.Pf

end
-- ==== Proof.KI.Pair.lean ====
/-
  One pair of heads of one query tile: what its accumulator and its log survival hold after the visits of the tiles down to `n`.
-/
module

public import proofs.«01_k».proof.Proof.KI.Init

@[expose] public section

set_option maxRecDepth 16384

noncomputable section

namespace Cert.KernelIdeal.Pf

open Cert.KernelIdeal Cert.KernelIdeal.Gen Cert.Stick
open Idealize.ShloMosaic Idealize.ShloMosaic.TcCoe

/-- Query tile `T` of a pair of heads: its scores against key tile `b` and the values of tile `b` are rows `Zf` and columns `Vf`. -/
structure Pair (Tq : ℕ) (q : FVec Ideal S128x128 .bf16) (K Vt : ℕ → FVec Ideal S128x128 .bf16)
    (Zf : Fin 128 → Fin 2 → ℕ → EReal) (Vf : Fin 128 → ℕ → EReal) : Prop where
  hT : Tq < 128
  hz : ∀ r h, ∃ z : ℕ → ℝ, ∀ k, Zf r h k = (z k : EReal)
  hK : ∀ b, b < 128 → ∀ r h (j : Fin 128), tz q (K b) r h j = Zf r h (128 * b + j)
  hV : ∀ b, b < 128 → ∀ (j l : Fin 128), Vt b (ix2 j l) = Vf l (128 * b + j)

/-- The accumulator holds the weighted sums of the keys from tile `n` on. -/
def AccInv (Tq : ℕ) (Zf : Fin 128 → Fin 2 → ℕ → EReal) (Vf : Fin 128 → ℕ → EReal) (n : ℕ) (acc : FVec Ideal S1x128x128 .f32) : Prop :=
  ∀ r l : Fin 128, acc (ix3 0 r l) = O (Zf r (hd l)) (Vf l) (128 * Tq + r) (128 * n)

/-- The log survival is that of the keys from tile `n` on. -/
def LatInv (Tq : ℕ) (Zf : Fin 128 → Fin 2 → ℕ → EReal) (n : ℕ) (lat : FVec Ideal S1x128x256 .f32) : Prop :=
  ∀ (r : Fin 128) (h : Fin 2) (j : Fin 128) (c : Fin 256), c.val = 128 * h.val + j.val → lat (ix3 0 r c) = T (Zf r h) (128 * Tq + r) (128 * n)

section
variable {Tq : ℕ} {q : FVec Ideal S128x128 .bf16} {K Vt : ℕ → FVec Ideal S128x128 .bf16}
  {Zf : Fin 128 → Fin 2 → ℕ → EReal} {Vf : Fin 128 → ℕ → EReal} (P : Pair Tq q K Vt Zf Vf)
include P

theorem Pair.ts_eq (b : ℕ) (hb : b < 128) (r : Fin 128) (h : Fin 2) (j : Fin 128) : ts q (K b) r h j = sv (Zf r h (128 * b + j)) := by
  rw [ts, P.hK b hb]

theorem Pair.ts_sub (b : ℕ) (hb : b < 128) (r : Fin 128) (h : Fin 2) (j : Fin 128) : ts q (K b) r h j - ts q (K b) r h j = 0 := by
  obtain ⟨z, hz⟩ := P.hz r h
  rw [P.ts_eq b hb, hz, sv_coe, ← EReal.coe_sub, sub_self, EReal.coe_zero]

theorem Pair.ts_W (b : ℕ) (hb : b < Tq) (r : Fin 128) (h : Fin 2) (x : Fin 128) : ts q (K b) r h x = W (Zf r h) (128 * Tq + r) (128 * b + x) := by
  have := P.hT; have := x.isLt
  rw [P.ts_eq b (by omega), W, if_pos (by omega)]

theorem Pair.ms_W (r : Fin 128) (h : Fin 2) (x : Fin 128) : ms q (K Tq) r h x = W (Zf r h) (128 * Tq + r) (128 * Tq + x) := by
  rw [ms, P.ts_eq Tq P.hT, W]
  exact if_congr (by rw [Fin.lt_def]; omega) rfl rfl

theorem Pair.ms_sum (r : Fin 128) (h : Fin 2) : (∑ x : Fin 128, ms q (K Tq) r h x) = T (Zf r h) (128 * Tq + r) (128 * Tq) := by
  have := P.hT
  rw [← T_step (Zf r h) (128 * Tq + r) Tq (by omega) _ (P.ms_W r h), T_zero _ _ _ (by have := r.isLt; omega), zero_add]

/-- What an earlier tile adds for query `r` and lane `l`, from the log survival of the later keys. -/
theorem Pair.tile_O (b : ℕ) (hb : b < Tq) (r l j : Fin 128) (lat : EReal) (hl : lat = T (Zf r (hd l)) (128 * Tq + r) (128 * (b + 1))) :
    Ideal.exp2 (tz q (K b) r (hd l) j + ts q (K b) r (hd l) j + tw q (K b) r (hd l) j + lat) * Vt b (ix2 j l) =
      A (Zf r (hd l)) (128 * Tq + r) (128 * b + j) * Vf l (128 * b + j) := by
  have := P.hT; have := j.isLt
  rw [P.hV b (by omega), A, if_pos (by omega), add_assoc _ _ lat, hl]
  unfold tw
  rw [T_within (Zf r (hd l)) (128 * Tq + r) b (by omega) _ (fun x => P.ts_W b hb r (hd l) x) j, P.hK b (by omega), P.ts_eq b (by omega)]

theorem Pair.acc_step (tri : FVec Ideal S256x256 .bf16) (ht : IsTri tri) (n : ℕ) (hn : n < Tq) (acc : FVec Ideal S1x128x128 .f32)
    (lat : FVec Ideal S1x128x256 .f32) (ha : AccInv Tq Zf Vf (n + 1) acc) (hl : LatInv Tq Zf (n + 1) lat) :
    AccInv Tq Zf Vf n (accStep lat q tri (K n) (Vt n) acc) := fun r l => by
  have := P.hT
  rw [accStep_at lat q (K n) (Vt n) tri ht (P.ts_sub n (by omega)) acc r l, ha r l]
  exact O_step _ _ _ n (by omega) _ fun x => P.tile_O n hn r l x _ (hl r (hd l) x _ rfl)

theorem Pair.lat_step (n : ℕ) (hn : n < Tq) (lat : FVec Ideal S1x128x256 .f32) (hl : LatInv Tq Zf (n + 1) lat) :
    LatInv Tq Zf n (latStep lat q (K n)) := fun r h j c hc => by
  have := P.hT
  rw [latStep_at lat q (K n) r h j c hc, hl r h j c hc]
  exact T_step _ _ n (by omega) _ fun x => P.ts_W n hn r h x

/-- The first two visits, where an earlier tile exists. -/
theorem Pair.lat_init (hT : 0 < Tq) : LatInv Tq Zf (Tq - 1) (latInit q (K Tq) (K (Tq - 1))) := fun r h j c hc => by
  have := P.hT
  rw [latInit_at q (K Tq) (K (Tq - 1)) r h j c hc, P.ms_sum]
  have e : 128 * Tq = 128 * (Tq - 1 + 1) := by omega
  rw [← T_step (Zf r h) (128 * Tq + r) (Tq - 1) (by omega) _ (P.ts_W (Tq - 1) (by omega) r h)]
  congr 2

theorem Pair.diag_O (r l : Fin 128) : (∑ j : Fin 128, da q (K Tq) r (hd l) j * Vt Tq (ix2 j l)) = O (Zf r (hd l)) (Vf l) (128 * Tq + r) (128 * Tq) := by
  have := P.hT
  rw [← O_step (Zf r (hd l)) (Vf l) (128 * Tq + r) Tq (by omega) (fun j => da q (K Tq) r (hd l) j * Vt Tq (ix2 j l)) fun j => ?_,
    O_zero _ _ _ _ (by have := r.isLt; omega), zero_add]
  rw [P.hV Tq P.hT]
  refine congrArg (· * Vf l (128 * Tq + j)) ?_
  unfold da A
  refine if_congr (by rw [Fin.lt_def]; omega) ?_ rfl
  rw [← T_within (Zf r (hd l)) (128 * Tq + r) Tq (by omega) _ (fun x => P.ms_W r (hd l) x) j, T_zero _ _ (128 * (Tq + 1)) (by have := r.isLt; omega), add_zero,
    P.hK Tq P.hT, P.ts_eq Tq P.hT]

/-- The accumulator after the first two visits; where there is no earlier tile the second adds nothing. -/
theorem Pair.acc_init (tri : FVec Ideal S256x256 .bf16) (ht : IsTri tri) (np : EReal) (hnp : np = if 0 < Tq then 0 else ⊥) :
    AccInv Tq Zf Vf (Tq - 1) (accInit (F := Ideal) np q tri (K Tq) (Vt Tq) (K (Tq - 1)) (Vt (Tq - 1))) := fun r l => by
  have := P.hT
  rw [accInit_at np q (K Tq) (Vt Tq) (K (Tq - 1)) (Vt (Tq - 1)) tri ht (P.ts_sub Tq P.hT) (P.ts_sub (Tq - 1) (by omega)) r l, P.diag_O, P.ms_sum]
  by_cases h0 : 0 < Tq
  · have e : 128 * Tq = 128 * (Tq - 1 + 1) := by omega
    rw [hnp, if_pos h0, add_zero]
    rw [← O_step (Zf r (hd l)) (Vf l) (128 * Tq + r) (Tq - 1) (by omega) _
      fun x => P.tile_O (Tq - 1) (by omega) r l x (T (Zf r (hd l)) (128 * Tq + r) (128 * Tq)) (by rw [← e])]
    rw [← e]
  · have e : Tq = 0 := by omega
    subst e
    rw [hnp, if_neg h0]
    refine (congrArg₂ (· + ·) rfl (Finset.sum_eq_zero fun j _ => ?_)).trans (add_zero _)
    rw [EReal.add_bot, EReal.add_bot]
    exact zero_mul _

end

end Cert.KernelIdeal.Pf

end
-- ==== Proof.KI.Flag.lean ====
/- Over extended reals no log survival is at the floor: a counted-down visit is never cut short. -/
module

public import proofs.«01_k».proof.Proof.KI.Pair

@[expose] public section

set_option maxRecDepth 16384

noncomputable section

namespace Cert.KernelIdeal.Pf

open Cert.KernelIdeal Cert.KernelIdeal.Gen Cert.Stick
open Idealize.ShloMosaic Idealize.ShloMosaic.TcCoe

theorem cmp_pos (x y : EReal) (h : y ≤ x) (hy : y ≠ ⊥) : Ideal.cmp .ogt x ⊥ = 1#1 := by
  have : (⊥ : EReal) < x := lt_of_lt_of_le (bot_lt_iff_ne_bot.2 hy) h
  simp [Ideal.cmp, this]

theorem flag_pos (a b : FVec Ideal S128x256 .f32) (h : a (ix2 0 0) ≠ (⊥ : EReal)) :
    Scalar.cmpf .ogt (k0_pay319 (F := Ideal) a b) (Named.named κ "floor" 0xC301D7B2#32 : Ideal .f32) = 1#1 := by
  have h1 : a (ix2 0 0) ≤ k0_pay319 (F := Ideal) a b := by
    pointwise [k0_pay319]
    exact (Finset.le_fold_max _).2 (.inr ⟨(0, 0), Finset.mem_univ _, le_max_left _ _⟩)
  rw [floor_eq]
  generalize k0_pay319 (F := Ideal) a b = x at h1 ⊢
  generalize a (ix2 0 0) = y at h h1
  exact cmp_pos x y h1 h

theorem flagStep_pos {Tq : ℕ} {q0 : FVec Ideal S128x128 .bf16} {K Vt : ℕ → FVec Ideal S128x128 .bf16}
    {Zf : Fin 128 → Fin 2 → ℕ → EReal} {Vf : Fin 128 → ℕ → EReal} (P : Pair Tq q0 K Vt Zf Vf) (n : ℕ) (hn : n < Tq)
    (l0 l1 : FVec Ideal S1x128x256 .f32) (q1 k1 : FVec Ideal S128x128 .bf16) (hl : LatInv Tq Zf (n + 1) l0) :
    flagStep (F := Ideal) l0 l1 q0 q1 (K n) k1 = 1#1 := by
  refine flag_pos (k0_pay340 (F := Ideal) (k0_pay335 l0) (k0_pay337 q0 (K n))) _ ?_
  have := P.hT
  rw [lat0_at l0 q0 (K n) 0 0 0 0 (by simp), hl 0 0 0 0 (by simp), T_step _ _ n (by omega) _ fun x => P.ts_W n hn 0 0 x]
  obtain ⟨z, hz⟩ := P.hz 0 0
  exact T_ne_bot _ _ z hz _

theorem flagInit_pos {Tq : ℕ} {q0 : FVec Ideal S128x128 .bf16} {K Vt : ℕ → FVec Ideal S128x128 .bf16}
    {Zf : Fin 128 → Fin 2 → ℕ → EReal} {Vf : Fin 128 → ℕ → EReal} (P : Pair Tq q0 K Vt Zf Vf) (hT : 0 < Tq)
    (q1 k10 k11 : FVec Ideal S128x128 .bf16) : flagInit (F := Ideal) q0 (K Tq) (K (Tq - 1)) q1 k10 k11 = 1#1 := by
  refine flag_pos (latInit0 (F := Ideal) q0 (K Tq) (K (Tq - 1))) _ ?_
  have e := P.lat_init hT 0 0 0 0 (by simp)
  rw [latInit_at q0 (K Tq) (K (Tq - 1)) 0 0 0 0 (by simp)] at e
  rw [latInit0_at q0 (K Tq) (K (Tq - 1)) 0 0 0 0 (by simp), e]
  obtain ⟨z, hz⟩ := P.hz 0 0
  exact T_ne_bot _ _ z hz _

end Cert.KernelIdeal.Pf

end
-- ==== Proof.KI.Loops.lean ====
/- The counted-down visits at the ideal instance: every tile is visited, and the two slots end at the sums over all keys. -/
module

public import proofs.«01_k».proof.Proof.KI.Flag
public import proofs.«01_k».proof.Proof.KI.Spec

@[expose] public section

set_option maxRecDepth 16384

noncomputable section

namespace Cert.KernelIdeal.Pf

open Cert.KernelIdeal Cert.KernelIdeal.Gen Cert.Stick
open Idealize.ShloMosaic Idealize.ShloMosaic.TcCoe

section Slots
variable {F : FTy → Type} [FloatOps F] [Named F]
variable (arg7 : Memref sig .tc .vmem S16x128x128 .f32) (arg8 : Memref sig .tc .vmem S16x128x256 .f32)

theorem r7_not_mem (s s' : ℕ) (h : s < 16) (h' : s' < 16) (hne : s ≠ s') (x : (r7 s h).shape.Idx) : (r7 s h).toLoadRect.idx x ∉ (r7 s' h').set := by
  intro hm
  have h1 := Rect.mem_set_unit.1 hm 0
  have h2 := Rect.mem_set_unit.1 (show (r7 s h).emb x ∈ (r7 s h).set from by rw [← Rect.map_emb_univ]; exact Finset.mem_map_of_mem _ (Finset.mem_univ _)) 0
  have h3 : (((r7 s h).toLoadRect.idx x) 0).val = (((r7 s h).emb x) 0).val := rfl
  simp at h1 h2
  omega

theorem r8_not_mem (s s' : ℕ) (h : s < 16) (h' : s' < 16) (hne : s ≠ s') (x : (r8 s h).shape.Idx) : (r8 s h).toLoadRect.idx x ∉ (r8 s' h').set := by
  intro hm
  have h1 := Rect.mem_set_unit.1 hm 0
  have h2 := Rect.mem_set_unit.1 (show (r8 s h).emb x ∈ (r8 s h).set from by rw [← Rect.map_emb_univ]; exact Finset.mem_map_of_mem _ (Finset.mem_univ _)) 0
  have h3 : (((r8 s h).toLoadRect.idx x) 0).val = (((r8 s h).emb x) 0).val := rfl
  simp at h1 h2
  omega

theorem rd7_self (s : ℕ) (h : s < 16) (f : C7 F arg7) (w : (r7 s h).shape.Idx → Elt F .f32) (L : List (View.Piece (Elt F) S16x128x128 .f32)) :
    rd7 arg7 s h (arg7.view.writes (Elt F) f (⟨r7 s h, w⟩ :: L)) = w :=
  funext fun x => View.read_writes_cons_emb arg7.view f (r7 s h) w L x

theorem rd8_self (s : ℕ) (h : s < 16) (f : C8 F arg8) (w : (r8 s h).shape.Idx → Elt F .f32) (L : List (View.Piece (Elt F) S16x128x256 .f32)) :
    rd8 arg8 s h (arg8.view.writes (Elt F) f (⟨r8 s h, w⟩ :: L)) = w :=
  funext fun x => View.read_writes_cons_emb arg8.view f (r8 s h) w L x

theorem rd7_ne (s s' : ℕ) (h : s < 16) (h' : s' < 16) (hne : s ≠ s') (f : C7 F arg7) (w : (r7 s' h').shape.Idx → Elt F .f32)
    (L : List (View.Piece (Elt F) S16x128x128 .f32)) :
    rd7 arg7 s h (arg7.view.writes (Elt F) f (⟨r7 s' h', w⟩ :: L)) = rd7 arg7 s h (arg7.view.writes (Elt F) f L) :=
  View.readAt_writes_of_forall_not_mem arg7.view (arg7.view.writes (Elt F) f L) [⟨r7 s' h', w⟩] (r7 s h).toLoadRect fun x p hp => by
    rw [List.mem_singleton.1 hp]; exact r7_not_mem s s' h h' hne x

theorem rd8_ne (s s' : ℕ) (h : s < 16) (h' : s' < 16) (hne : s ≠ s') (f : C8 F arg8) (w : (r8 s' h').shape.Idx → Elt F .f32)
    (L : List (View.Piece (Elt F) S16x128x256 .f32)) :
    rd8 arg8 s h (arg8.view.writes (Elt F) f (⟨r8 s' h', w⟩ :: L)) = rd8 arg8 s h (arg8.view.writes (Elt F) f L) :=
  View.readAt_writes_of_forall_not_mem arg8.view (arg8.view.writes (Elt F) f L) [⟨r8 s' h', w⟩] (r8 s h).toLoadRect fun x p hp => by
    rw [List.mem_singleton.1 hp]; exact r8_not_mem s s' h h' hne x

end Slots

section
variable (arg7 : Memref sig .tc .vmem S16x128x128 .f32) (arg8 : Memref sig .tc .vmem S16x128x256 .f32)
  (s0 s1 : ℕ) (h0 : s0 < 16) (h1 : s1 < 16) (hne : s0 ≠ s1) {Tq : ℕ} {q0 q1 : FVec Ideal S128x128 .bf16}
  {K0 K1 V0 V1 : ℕ → FVec Ideal S128x128 .bf16} {Z0 Z1 : Fin 128 → Fin 2 → ℕ → EReal} {W0 W1 : Fin 128 → ℕ → EReal}
  (P0 : Pair Tq q0 K0 V0 Z0 W0) (P1 : Pair Tq q1 K1 V1 Z1 W1) (tri : FVec Ideal S256x256 .bf16) (ht : IsTri tri)

/-- What a run of a loop leaves: both slots at the sums over all keys, the others as they were. -/
def After (f7 : C7 Ideal arg7) (f8 : C8 Ideal arg8) (p : C7 Ideal arg7 × C8 Ideal arg8) (Z0 Z1 : Fin 128 → Fin 2 → ℕ → EReal) (W0 W1 : Fin 128 → ℕ → EReal)
    (Tq : ℕ) : Prop :=
  AccInv Tq Z0 W0 0 (rd7 arg7 s0 h0 p.1) ∧ AccInv Tq Z1 W1 0 (rd7 arg7 s1 h1 p.1)
    ∧ (∀ s (h : s < 16), s ≠ s0 → s ≠ s1 → rd7 arg7 s h p.1 = rd7 arg7 s h f7)
    ∧ (∀ s (h : s < 16), s ≠ s0 → s ≠ s1 → rd8 arg8 s h p.2 = rd8 arg8 s h f8)

section
variable (n : ℕ) (f7 : C7 Ideal arg7) (f8 : C8 Ideal arg8)

theorem trip7_0 (hne : s0 ≠ s1) : rd7 arg7 s0 h0 (trip7 arg7 arg8 s0 s1 h0 h1 q0 q1 tri K0 K1 V0 V1 n f7 f8) =
    accStep (rd8 arg8 s0 h0 f8) q0 tri (K0 n) (V0 n) (rd7 arg7 s0 h0 f7) := by
  unfold trip7
  exact (rd7_ne arg7 s0 s1 h0 h1 hne _ _ _).trans (rd7_self arg7 s0 h0 _ _ _)

theorem trip7_1 : rd7 arg7 s1 h1 (trip7 arg7 arg8 s0 s1 h0 h1 q0 q1 tri K0 K1 V0 V1 n f7 f8) =
    accStep (rd8 arg8 s1 h1 f8) q1 tri (K1 n) (V1 n) (rd7 arg7 s1 h1 f7) := by
  unfold trip7
  exact rd7_self arg7 s1 h1 _ _ _

theorem trip8_0 (hne : s0 ≠ s1) : rd8 arg8 s0 h0 (trip8 arg8 s0 s1 h0 h1 q0 q1 K0 K1 n f8) = latStep (rd8 arg8 s0 h0 f8) q0 (K0 n) := by
  unfold trip8
  exact (rd8_ne arg8 s0 s1 h0 h1 hne _ _ _).trans (rd8_self arg8 s0 h0 _ _ _)

theorem trip8_1 : rd8 arg8 s1 h1 (trip8 arg8 s0 s1 h0 h1 q0 q1 K0 K1 n f8) = latStep (rd8 arg8 s1 h1 f8) q1 (K1 n) := by
  unfold trip8
  exact rd8_self arg8 s1 h1 _ _ _

theorem trip7_o (s : ℕ) (h : s < 16) (hs0 : s ≠ s0) (hs1 : s ≠ s1) :
    rd7 arg7 s h (trip7 arg7 arg8 s0 s1 h0 h1 q0 q1 tri K0 K1 V0 V1 n f7 f8) = rd7 arg7 s h f7 := by
  unfold trip7
  exact (rd7_ne arg7 s s1 h h1 hs1 _ _ _).trans (rd7_ne arg7 s s0 h h0 hs0 f7 _ [])

theorem trip8_o (s : ℕ) (h : s < 16) (hs0 : s ≠ s0) (hs1 : s ≠ s1) :
    rd8 arg8 s h (trip8 arg8 s0 s1 h0 h1 q0 q1 K0 K1 n f8) = rd8 arg8 s h f8 := by
  unfold trip8
  exact (rd8_ne arg8 s s1 h h1 hs1 _ _ _).trans (rd8_ne arg8 s s0 h h0 hs0 f8 _ [])

theorem loop_succ : loop arg7 arg8 s0 s1 h0 h1 q0 q1 tri K0 K1 V0 V1 (n + 1) 1#1 f7 f8 =
    loop arg7 arg8 s0 s1 h0 h1 q0 q1 tri K0 K1 V0 V1 n (tripFlag arg8 s0 s1 h0 h1 q0 q1 K0 K1 n f8)
      (trip7 arg7 arg8 s0 s1 h0 h1 q0 q1 tri K0 K1 V0 V1 n f7 f8) (trip8 arg8 s0 s1 h0 h1 q0 q1 K0 K1 n f8) := if_pos rfl

theorem loop_zero (g : BitVec 1) : loop arg7 arg8 s0 s1 h0 h1 q0 q1 tri K0 K1 V0 V1 0 g f7 f8 = (f7, f8) := rfl

end

theorem LatInv.of_eq {Tq n : ℕ} {Zf : Fin 128 → Fin 2 → ℕ → EReal} {a b : FVec Ideal S1x128x256 .f32} (h : a = b) (hb : LatInv Tq Zf n b) :
    LatInv Tq Zf n a := h ▸ hb

theorem AccInv.of_eq {Tq n : ℕ} {Zf : Fin 128 → Fin 2 → ℕ → EReal} {Vf : Fin 128 → ℕ → EReal} {a b : FVec Ideal S1x128x128 .f32} (h : a = b)
    (hb : AccInv Tq Zf Vf n b) : AccInv Tq Zf Vf n a := h ▸ hb

include hne P0 P1 ht in
theorem loop_after (n : ℕ) : ∀ (g : BitVec 1) (f7 : C7 Ideal arg7) (f8 : C8 Ideal arg8), n ≤ Tq →
    (n = 0 ∨ (g = 1#1 ∧ LatInv Tq Z0 n (rd8 arg8 s0 h0 f8) ∧ LatInv Tq Z1 n (rd8 arg8 s1 h1 f8))) →
    AccInv Tq Z0 W0 n (rd7 arg7 s0 h0 f7) → AccInv Tq Z1 W1 n (rd7 arg7 s1 h1 f7) →
    After arg7 arg8 s0 s1 h0 h1 f7 f8 (loop arg7 arg8 s0 s1 h0 h1 q0 q1 tri K0 K1 V0 V1 n g f7 f8) Z0 Z1 W0 W1 Tq := by
  induction n with
  | zero =>
    intro g f7 f8 _ _ ha0 ha1
    rw [loop_zero]
    exact ⟨ha0, ha1, fun _ _ _ _ => rfl, fun _ _ _ _ => rfl⟩
  | succ n ih =>
    intro g f7 f8 hn hg ha0 ha1
    obtain ⟨rfl, hl0, hl1⟩ := hg.resolve_left (by omega)
    rw [loop_succ]
    have hn' : n < Tq := by omega
    have hf : tripFlag arg8 s0 s1 h0 h1 q0 q1 K0 K1 n f8 = 1#1 := flagStep_pos P0 n hn' (rd8 arg8 s0 h0 f8) (rd8 arg8 s1 h1 f8) q1 (K1 n) hl0
    have l0 := LatInv.of_eq (trip8_0 arg8 s0 s1 h0 h1 (q0 := q0) (q1 := q1) (K0 := K0) (K1 := K1) n f8 hne) (P0.lat_step n hn' (rd8 arg8 s0 h0 f8) hl0)
    have l1 := LatInv.of_eq (trip8_1 arg8 s0 s1 h0 h1 (q0 := q0) (q1 := q1) (K0 := K0) (K1 := K1) n f8) (P1.lat_step n hn' (rd8 arg8 s1 h1 f8) hl1)
    have b0 := AccInv.of_eq (trip7_0 arg7 arg8 s0 s1 h0 h1 (q0 := q0) (q1 := q1) (K0 := K0) (K1 := K1) (V0 := V0) (V1 := V1) tri n f7 f8 hne)
      (P0.acc_step tri ht n hn' (rd7 arg7 s0 h0 f7) (rd8 arg8 s0 h0 f8) ha0 hl0)
    have b1 := AccInv.of_eq (trip7_1 arg7 arg8 s0 s1 h0 h1 (q0 := q0) (q1 := q1) (K0 := K0) (K1 := K1) (V0 := V0) (V1 := V1) tri n f7 f8)
      (P1.acc_step tri ht n hn' (rd7 arg7 s1 h1 f7) (rd8 arg8 s1 h1 f8) ha1 hl1)
    have key := ih (tripFlag arg8 s0 s1 h0 h1 q0 q1 K0 K1 n f8)
      (trip7 arg7 arg8 s0 s1 h0 h1 q0 q1 tri K0 K1 V0 V1 n f7 f8) (trip8 arg8 s0 s1 h0 h1 q0 q1 K0 K1 n f8) (Nat.le_of_succ_le hn)
    have k1 := key (Or.inr (And.intro hf (And.intro l0 l1)))
    have k2 := k1 b0
    have k3 := k2 b1
    obtain ⟨a0, a1, o7, o8⟩ := k3
    exact ⟨a0, a1, fun s h hs0 hs1 => (o7 s h hs0 hs1).trans (trip7_o arg7 arg8 s0 s1 h0 h1 tri n f7 f8 s h hs0 hs1),
      fun s h hs0 hs1 => (o8 s h hs0 hs1).trans (trip8_o arg8 s0 s1 h0 h1 n f8 s h hs0 hs1)⟩

end

end Cert.KernelIdeal.Pf

end
-- ==== Proof.KI.Slots.lean ====
/- What the first phase of a grid point leaves in the sixteen slots, and the flags it starts the loops with. -/
module

public import proofs.«01_k».proof.Proof.KI.Loops
public import proofs.«01_k».proof.Proof.KI.Body

@[expose] public section

set_option maxRecDepth 16384

noncomputable section

namespace Cert.KernelIdeal.Pf

open Cert.KernelIdeal Cert.KernelIdeal.Gen Cert.Stick
open Idealize.ShloMosaic Idealize.ShloMosaic.TcCoe

section
variable {F : FTy → Type} [FloatOps F] [Named F]
variable (c : Dev nD) (i : grid0.Coords) (arg1 : Memref sig .tc .vmem S1024x256 .bf16) (harg1 : arg1.IsWhole)
  (arg2 : Memref sig .tc .vmem S16384x256 .bf16) (harg2 : arg2.IsWhole) (arg3 : Memref sig .tc .vmem S16384x256 .bf16) (harg3 : arg3.IsWhole)
  (arg5 : Memref sig .tc .vmem S256x256 .bf16) (harg5 : arg5.IsWhole) (arg7 : Memref sig .tc .vmem S16x128x128 .f32) (arg8 : Memref sig .tc .vmem S16x128x256 .f32)
  (x0 : Vec F S1024x256 .bf16) (x1 x2 : Vec F S16384x256 .bf16) (x4 : Vec F S256x256 .bf16)

/-- The keys or values of the diagonal tile of sub-block `s` and of the tile before it, for the two pairs of heads, as loaded. -/
abbrev ldD0 (m : Memref sig .tc .vmem S16384x256 .bf16) (hm : m.IsWhole) (X : Vec F S16384x256 .bf16) (s : Fin 8) : Vec F S128x128 .bf16 :=
  m.view.readAt (Elt F) (Rect.unit (s := S16384x256) (k0_off1 i (BitVec.ofNat 32 s.val)) S128x128.size (k0_off1_inb i s)).toLoadRect (hm.unread X)
abbrev ldP0 (m : Memref sig .tc .vmem S16384x256 .bf16) (hm : m.IsWhole) (X : Vec F S16384x256 .bf16) (s : Fin 8) : Vec F S128x128 .bf16 :=
  m.view.readAt (Elt F) (Rect.unit (s := S16384x256) (k0_off2 i (BitVec.ofNat 32 s.val)) S128x128.size (k0_off2_inb i s)).toLoadRect (hm.unread X)
abbrev ldD1 (m : Memref sig .tc .vmem S16384x256 .bf16) (hm : m.IsWhole) (X : Vec F S16384x256 .bf16) (s : Fin 8) : Vec F S128x128 .bf16 :=
  m.view.readAt (Elt F) (Rect.unit (s := S16384x256) (k0_off3 i (BitVec.ofNat 32 s.val)) S128x128.size (k0_off3_inb i s)).toLoadRect (hm.unread X)
abbrev ldP1 (m : Memref sig .tc .vmem S16384x256 .bf16) (hm : m.IsWhole) (X : Vec F S16384x256 .bf16) (s : Fin 8) : Vec F S128x128 .bf16 :=
  m.view.readAt (Elt F) (Rect.unit (s := S16384x256) (k0_off4 i (BitVec.ofNat 32 s.val)) S128x128.size (k0_off4_inb i s)).toLoadRect (hm.unread X)

theorem off1_tile : ∀ (i : grid0.Coords) (s : Fin 8), k0_off1 i (BitVec.ofNat 32 s.val) = ![128 * (8 * (i 0).val + s.val), 128 * 0] := by decide +kernel
theorem off2_tile : ∀ (i : grid0.Coords) (s : Fin 8), k0_off2 i (BitVec.ofNat 32 s.val) = ![128 * (8 * (i 0).val + s.val - 1), 128 * 0] := by decide +kernel
theorem off3_tile : ∀ (i : grid0.Coords) (s : Fin 8), k0_off3 i (BitVec.ofNat 32 s.val) = ![128 * (8 * (i 0).val + s.val), 128 * 1] := by decide +kernel
theorem off4_tile : ∀ (i : grid0.Coords) (s : Fin 8), k0_off4 i (BitVec.ofNat 32 s.val) = ![128 * (8 * (i 0).val + s.val - 1), 128 * 1] := by decide +kernel

theorem point_lt (i : grid0.Coords) (s : Fin 8) : 8 * (i 0).val + s.val < 128 := by
  have h : (i 0).val < 16 := (i 0).isLt
  omega

section
variable (m : Memref sig .tc .vmem S16384x256 .bf16) (hm : m.IsWhole) (X : Vec F S16384x256 .bf16) (s : Fin 8)
theorem ldD0_eq : ldD0 i m hm X s = tileOf 0 (by decide) X (8 * (i 0).val + s.val) :=
  tile_read m hm X 0 (by decide) _ (point_lt i s) _ (off1_tile i s) _
theorem ldP0_eq : ldP0 i m hm X s = tileOf 0 (by decide) X (8 * (i 0).val + s.val - 1) :=
  tile_read m hm X 0 (by decide) _ (by have := point_lt i s; omega) _ (off2_tile i s) _
theorem ldD1_eq : ldD1 i m hm X s = tileOf 1 (by decide) X (8 * (i 0).val + s.val) :=
  tile_read m hm X 1 (by decide) _ (point_lt i s) _ (off3_tile i s) _
theorem ldP1_eq : ldP1 i m hm X s = tileOf 1 (by decide) X (8 * (i 0).val + s.val - 1) :=
  tile_read m hm X 1 (by decide) _ (by have := point_lt i s; omega) _ (off4_tile i s) _
end

theorem qb_inb (s p : ℕ) (hs : s < 8) (hp : p < 2) : ∀ a, (![128 * s, 128 * p] : Fin 2 → ℕ) a + S128x128.size a ≤ S1024x256.size a := by
  intro a; fin_cases a <;> simp <;> omega

/-- The queries of sub-block `s`, for pair `p`, as loaded. -/
abbrev ldQ (s p : ℕ) (hs : s < 8) (hp : p < 2) : Vec F S128x128 .bf16 :=
  arg1.view.readAt (Elt F) (Rect.unit (s := S1024x256) ![128 * s, 128 * p] S128x128.size (qb_inb s p hs hp)).toLoadRect (harg1.unread x0)

/-- The triangle, as loaded. -/
abbrev ldT : FVec F S256x256 .bf16 := bodyRun.sl.r c arg5 harg5 x4

abbrev first7 : C7 F arg7 := arg7.view.writes (Elt F) arg7.view.junk (bodyRun.sl.HS0_16 c i arg1 harg1 arg2 harg2 arg3 harg3 arg5 harg5 x0 x1 x2 x4)
abbrev first8 : C8 F arg8 := arg8.view.writes (Elt F) arg8.view.junk (bodyRun.sl.HS1_16 c i arg1 harg1 arg2 harg2 x0 x1)

theorem acc0 : rd7 arg7 0 (by decide) (first7 c i arg1 harg1 arg2 harg2 arg3 harg3 arg5 harg5 arg7 x0 x1 x2 x4) =
    accInit (npOf i 0#32) (ldQ arg1 harg1 x0 0 0 (by decide) (by decide)) (ldT c arg5 harg5 x4) (ldD0 i arg2 harg2 x1 0) (ldD0 i arg3 harg3 x2 0)
      (ldP0 i arg2 harg2 x1 0) (ldP0 i arg3 harg3 x2 0) := by
  unfold first7 bodyRun.sl.HS0_16
  refine (rd7_ne arg7 0 15 (by decide) (by decide) (by decide) _ _ _).trans ?_
  refine (rd7_ne arg7 0 14 (by decide) (by decide) (by decide) _ _ _).trans ?_
  refine (rd7_ne arg7 0 13 (by decide) (by decide) (by decide) _ _ _).trans ?_
  refine (rd7_ne arg7 0 12 (by decide) (by decide) (by decide) _ _ _).trans ?_
  refine (rd7_ne arg7 0 11 (by decide) (by decide) (by decide) _ _ _).trans ?_
  refine (rd7_ne arg7 0 10 (by decide) (by decide) (by decide) _ _ _).trans ?_
  refine (rd7_ne arg7 0 9 (by decide) (by decide) (by decide) _ _ _).trans ?_
  refine (rd7_ne arg7 0 8 (by decide) (by decide) (by decide) _ _ _).trans ?_
  refine (rd7_ne arg7 0 7 (by decide) (by decide) (by decide) _ _ _).trans ?_
  refine (rd7_ne arg7 0 6 (by decide) (by decide) (by decide) _ _ _).trans ?_
  refine (rd7_ne arg7 0 5 (by decide) (by decide) (by decide) _ _ _).trans ?_
  refine (rd7_ne arg7 0 4 (by decide) (by decide) (by decide) _ _ _).trans ?_
  refine (rd7_ne arg7 0 3 (by decide) (by decide) (by decide) _ _ _).trans ?_
  refine (rd7_ne arg7 0 2 (by decide) (by decide) (by decide) _ _ _).trans ?_
  refine (rd7_ne arg7 0 1 (by decide) (by decide) (by decide) _ _ _).trans ?_
  exact (rd7_self arg7 0 (by decide) _ _ _).trans rfl

theorem acc1 : rd7 arg7 1 (by decide) (first7 c i arg1 harg1 arg2 harg2 arg3 harg3 arg5 harg5 arg7 x0 x1 x2 x4) =
    accInit (npOf i 0#32) (ldQ arg1 harg1 x0 0 1 (by decide) (by decide)) (ldT c arg5 harg5 x4) (ldD1 i arg2 harg2 x1 0) (ldD1 i arg3 harg3 x2 0)
      (ldP1 i arg2 harg2 x1 0) (ldP1 i arg3 harg3 x2 0) := by
  unfold first7 bodyRun.sl.HS0_16
  refine (rd7_ne arg7 1 15 (by decide) (by decide) (by decide) _ _ _).trans ?_
  refine (rd7_ne arg7 1 14 (by decide) (by decide) (by decide) _ _ _).trans ?_
  refine (rd7_ne arg7 1 13 (by decide) (by decide) (by decide) _ _ _).trans ?_
  refine (rd7_ne arg7 1 12 (by decide) (by decide) (by decide) _ _ _).trans ?_
  refine (rd7_ne arg7 1 11 (by decide) (by decide) (by decide) _ _ _).trans ?_
  refine (rd7_ne arg7 1 10 (by decide) (by decide) (by decide) _ _ _).trans ?_
  refine (rd7_ne arg7 1 9 (by decide) (by decide) (by decide) _ _ _).trans ?_
  refine (rd7_ne arg7 1 8 (by decide) (by decide) (by decide) _ _ _).trans ?_
  refine (rd7_ne arg7 1 7 (by decide) (by decide) (by decide) _ _ _).trans ?_
  refine (rd7_ne arg7 1 6 (by decide) (by decide) (by decide) _ _ _).trans ?_
  refine (rd7_ne arg7 1 5 (by decide) (by decide) (by decide) _ _ _).trans ?_
  refine (rd7_ne arg7 1 4 (by decide) (by decide) (by decide) _ _ _).trans ?_
  refine (rd7_ne arg7 1 3 (by decide) (by decide) (by decide) _ _ _).trans ?_
  refine (rd7_ne arg7 1 2 (by decide) (by decide) (by decide) _ _ _).trans ?_
  exact (rd7_self arg7 1 (by decide) _ _ _).trans rfl

theorem acc2 : rd7 arg7 2 (by decide) (first7 c i arg1 harg1 arg2 harg2 arg3 harg3 arg5 harg5 arg7 x0 x1 x2 x4) =
    accInit (npOf i 1#32) (ldQ arg1 harg1 x0 1 0 (by decide) (by decide)) (ldT c arg5 harg5 x4) (ldD0 i arg2 harg2 x1 1) (ldD0 i arg3 harg3 x2 1)
      (ldP0 i arg2 harg2 x1 1) (ldP0 i arg3 harg3 x2 1) := by
  unfold first7 bodyRun.sl.HS0_16
  refine (rd7_ne arg7 2 15 (by decide) (by decide) (by decide) _ _ _).trans ?_
  refine (rd7_ne arg7 2 14 (by decide) (by decide) (by decide) _ _ _).trans ?_
  refine (rd7_ne arg7 2 13 (by decide) (by decide) (by decide) _ _ _).trans ?_
  refine (rd7_ne arg7 2 12 (by decide) (by decide) (by decide) _ _ _).trans ?_
  refine (rd7_ne arg7 2 11 (by decide) (by decide) (by decide) _ _ _).trans ?_
  refine (rd7_ne arg7 2 10 (by decide) (by decide) (by decide) _ _ _).trans ?_
  refine (rd7_ne arg7 2 9 (by decide) (by decide) (by decide) _ _ _).trans ?_
  refine (rd7_ne arg7 2 8 (by decide) (by decide) (by decide) _ _ _).trans ?_
  refine (rd7_ne arg7 2 7 (by decide) (by decide) (by decide) _ _ _).trans ?_
  refine (rd7_ne arg7 2 6 (by decide) (by decide) (by decide) _ _ _).trans ?_
  refine (rd7_ne arg7 2 5 (by decide) (by decide) (by decide) _ _ _).trans ?_
  refine (rd7_ne arg7 2 4 (by decide) (by decide) (by decide) _ _ _).trans ?_
  refine (rd7_ne arg7 2 3 (by decide) (by decide) (by decide) _ _ _).trans ?_
  exact (rd7_self arg7 2 (by decide) _ _ _).trans rfl

theorem acc3 : rd7 arg7 3 (by decide) (first7 c i arg1 harg1 arg2 harg2 arg3 harg3 arg5 harg5 arg7 x0 x1 x2 x4) =
    accInit (npOf i 1#32) (ldQ arg1 harg1 x0 1 1 (by decide) (by decide)) (ldT c arg5 harg5 x4) (ldD1 i arg2 harg2 x1 1) (ldD1 i arg3 harg3 x2 1)
      (ldP1 i arg2 harg2 x1 1) (ldP1 i arg3 harg3 x2 1) := by
  unfold first7 bodyRun.sl.HS0_16
  refine (rd7_ne arg7 3 15 (by decide) (by decide) (by decide) _ _ _).trans ?_
  refine (rd7_ne arg7 3 14 (by decide) (by decide) (by decide) _ _ _).trans ?_
  refine (rd7_ne arg7 3 13 (by decide) (by decide) (by decide) _ _ _).trans ?_
  refine (rd7_ne arg7 3 12 (by decide) (by decide) (by decide) _ _ _).trans ?_
  refine (rd7_ne arg7 3 11 (by decide) (by decide) (by decide) _ _ _).trans ?_
  refine (rd7_ne arg7 3 10 (by decide) (by decide) (by decide) _ _ _).trans ?_
  refine (rd7_ne arg7 3 9 (by decide) (by decide) (by decide) _ _ _).trans ?_
  refine (rd7_ne arg7 3 8 (by decide) (by decide) (by decide) _ _ _).trans ?_
  refine (rd7_ne arg7 3 7 (by decide) (by decide) (by decide) _ _ _).trans ?_
  refine (rd7_ne arg7 3 6 (by decide) (by decide) (by decide) _ _ _).trans ?_
  refine (rd7_ne arg7 3 5 (by decide) (by decide) (by decide) _ _ _).trans ?_
  refine (rd7_ne arg7 3 4 (by decide) (by decide) (by decide) _ _ _).trans ?_
  exact (rd7_self arg7 3 (by decide) _ _ _).trans rfl

theorem acc4 : rd7 arg7 4 (by decide) (first7 c i arg1 harg1 arg2 harg2 arg3 harg3 arg5 harg5 arg7 x0 x1 x2 x4) =
    accInit (npOf i 2#32) (ldQ arg1 harg1 x0 2 0 (by decide) (by decide)) (ldT c arg5 harg5 x4) (ldD0 i arg2 harg2 x1 2) (ldD0 i arg3 harg3 x2 2)
      (ldP0 i arg2 harg2 x1 2) (ldP0 i arg3 harg3 x2 2) := by
  unfold first7 bodyRun.sl.HS0_16
  refine (rd7_ne arg7 4 15 (by decide) (by decide) (by decide) _ _ _).trans ?_
  refine (rd7_ne arg7 4 14 (by decide) (by decide) (by decide) _ _ _).trans ?_
  refine (rd7_ne arg7 4 13 (by decide) (by decide) (by decide) _ _ _).trans ?_
  refine (rd7_ne arg7 4 12 (by decide) (by decide) (by decide) _ _ _).trans ?_
  refine (rd7_ne arg7 4 11 (by decide) (by decide) (by decide) _ _ _).trans ?_
  refine (rd7_ne arg7 4 10 (by decide) (by decide) (by decide) _ _ _).trans ?_
  refine (rd7_ne arg7 4 9 (by decide) (by decide) (by decide) _ _ _).trans ?_
  refine (rd7_ne arg7 4 8 (by decide) (by decide) (by decide) _ _ _).trans ?_
  refine (rd7_ne arg7 4 7 (by decide) (by decide) (by decide) _ _ _).trans ?_
  refine (rd7_ne arg7 4 6 (by decide) (by decide) (by decide) _ _ _).trans ?_
  refine (rd7_ne arg7 4 5 (by decide) (by decide) (by decide) _ _ _).trans ?_
  exact (rd7_self arg7 4 (by decide) _ _ _).trans rfl

theorem acc5 : rd7 arg7 5 (by decide) (first7 c i arg1 harg1 arg2 harg2 arg3 harg3 arg5 harg5 arg7 x0 x1 x2 x4) =
    accInit (npOf i 2#32) (ldQ arg1 harg1 x0 2 1 (by decide) (by decide)) (ldT c arg5 harg5 x4) (ldD1 i arg2 harg2 x1 2) (ldD1 i arg3 harg3 x2 2)
      (ldP1 i arg2 harg2 x1 2) (ldP1 i arg3 harg3 x2 2) := by
  unfold first7 bodyRun.sl.HS0_16
  refine (rd7_ne arg7 5 15 (by decide) (by decide) (by decide) _ _ _).trans ?_
  refine (rd7_ne arg7 5 14 (by decide) (by decide) (by decide) _ _ _).trans ?_
  refine (rd7_ne arg7 5 13 (by decide) (by decide) (by decide) _ _ _).trans ?_
  refine (rd7_ne arg7 5 12 (by decide) (by decide) (by decide) _ _ _).trans ?_
  refine (rd7_ne arg7 5 11 (by decide) (by decide) (by decide) _ _ _).trans ?_
  refine (rd7_ne arg7 5 10 (by decide) (by decide) (by decide) _ _ _).trans ?_
  refine (rd7_ne arg7 5 9 (by decide) (by decide) (by decide) _ _ _).trans ?_
  refine (rd7_ne arg7 5 8 (by decide) (by decide) (by decide) _ _ _).trans ?_
  refine (rd7_ne arg7 5 7 (by decide) (by decide) (by decide) _ _ _).trans ?_
  refine (rd7_ne arg7 5 6 (by decide) (by decide) (by decide) _ _ _).trans ?_
  exact (rd7_self arg7 5 (by decide) _ _ _).trans rfl

theorem acc6 : rd7 arg7 6 (by decide) (first7 c i arg1 harg1 arg2 harg2 arg3 harg3 arg5 harg5 arg7 x0 x1 x2 x4) =
    accInit (npOf i 3#32) (ldQ arg1 harg1 x0 3 0 (by decide) (by decide)) (ldT c arg5 harg5 x4) (ldD0 i arg2 harg2 x1 3) (ldD0 i arg3 harg3 x2 3)
      (ldP0 i arg2 harg2 x1 3) (ldP0 i arg3 harg3 x2 3) := by
  unfold first7 bodyRun.sl.HS0_16
  refine (rd7_ne arg7 6 15 (by decide) (by decide) (by decide) _ _ _).trans ?_
  refine (rd7_ne arg7 6 14 (by decide) (by decide) (by decide) _ _ _).trans ?_
  refine (rd7_ne arg7 6 13 (by decide) (by decide) (by decide) _ _ _).trans ?_
  refine (rd7_ne arg7 6 12 (by decide) (by decide) (by decide) _ _ _).trans ?_
  refine (rd7_ne arg7 6 11 (by decide) (by decide) (by decide) _ _ _).trans ?_
  refine (rd7_ne arg7 6 10 (by decide) (by decide) (by decide) _ _ _).trans ?_
  refine (rd7_ne arg7 6 9 (by decide) (by decide) (by decide) _ _ _).trans ?_
  refine (rd7_ne arg7 6 8 (by decide) (by decide) (by decide) _ _ _).trans ?_
  refine (rd7_ne arg7 6 7 (by decide) (by decide) (by decide) _ _ _).trans ?_
  exact (rd7_self arg7 6 (by decide) _ _ _).trans rfl

theorem acc7 : rd7 arg7 7 (by decide) (first7 c i arg1 harg1 arg2 harg2 arg3 harg3 arg5 harg5 arg7 x0 x1 x2 x4) =
    accInit (npOf i 3#32) (ldQ arg1 harg1 x0 3 1 (by decide) (by decide)) (ldT c arg5 harg5 x4) (ldD1 i arg2 harg2 x1 3) (ldD1 i arg3 harg3 x2 3)
      (ldP1 i arg2 harg2 x1 3) (ldP1 i arg3 harg3 x2 3) := by
  unfold first7 bodyRun.sl.HS0_16
  refine (rd7_ne arg7 7 15 (by decide) (by decide) (by decide) _ _ _).trans ?_
  refine (rd7_ne arg7 7 14 (by decide) (by decide) (by decide) _ _ _).trans ?_
  refine (rd7_ne arg7 7 13 (by decide) (by decide) (by decide) _ _ _).trans ?_
  refine (rd7_ne arg7 7 12 (by decide) (by decide) (by decide) _ _ _).trans ?_
  refine (rd7_ne arg7 7 11 (by decide) (by decide) (by decide) _ _ _).trans ?_
  refine (rd7_ne arg7 7 10 (by decide) (by decide) (by decide) _ _ _).trans ?_
  refine (rd7_ne arg7 7 9 (by decide) (by decide) (by decide) _ _ _).trans ?_
  refine (rd7_ne arg7 7 8 (by decide) (by decide) (by decide) _ _ _).trans ?_
  exact (rd7_self arg7 7 (by decide) _ _ _).trans rfl

theorem acc8 : rd7 arg7 8 (by decide) (first7 c i arg1 harg1 arg2 harg2 arg3 harg3 arg5 harg5 arg7 x0 x1 x2 x4) =
    accInit (npOf i 4#32) (ldQ arg1 harg1 x0 4 0 (by decide) (by decide)) (ldT c arg5 harg5 x4) (ldD0 i arg2 harg2 x1 4) (ldD0 i arg3 harg3 x2 4)
      (ldP0 i arg2 harg2 x1 4) (ldP0 i arg3 harg3 x2 4) := by
  unfold first7 bodyRun.sl.HS0_16
  refine (rd7_ne arg7 8 15 (by decide) (by decide) (by decide) _ _ _).trans ?_
  refine (rd7_ne arg7 8 14 (by decide) (by decide) (by decide) _ _ _).trans ?_
  refine (rd7_ne arg7 8 13 (by decide) (by decide) (by decide) _ _ _).trans ?_
  refine (rd7_ne arg7 8 12 (by decide) (by decide) (by decide) _ _ _).trans ?_
  refine (rd7_ne arg7 8 11 (by decide) (by decide) (by decide) _ _ _).trans ?_
  refine (rd7_ne arg7 8 10 (by decide) (by decide) (by decide) _ _ _).trans ?_
  refine (rd7_ne arg7 8 9 (by decide) (by decide) (by decide) _ _ _).trans ?_
  exact (rd7_self arg7 8 (by decide) _ _ _).trans rfl

theorem acc9 : rd7 arg7 9 (by decide) (first7 c i arg1 harg1 arg2 harg2 arg3 harg3 arg5 harg5 arg7 x0 x1 x2 x4) =
    accInit (npOf i 4#32) (ldQ arg1 harg1 x0 4 1 (by decide) (by decide)) (ldT c arg5 harg5 x4) (ldD1 i arg2 harg2 x1 4) (ldD1 i arg3 harg3 x2 4)
      (ldP1 i arg2 harg2 x1 4) (ldP1 i arg3 harg3 x2 4) := by
  unfold first7 bodyRun.sl.HS0_16
  refine (rd7_ne arg7 9 15 (by decide) (by decide) (by decide) _ _ _).trans ?_
  refine (rd7_ne arg7 9 14 (by decide) (by decide) (by decide) _ _ _).trans ?_
  refine (rd7_ne arg7 9 13 (by decide) (by decide) (by decide) _ _ _).trans ?_
  refine (rd7_ne arg7 9 12 (by decide) (by decide) (by decide) _ _ _).trans ?_
  refine (rd7_ne arg7 9 11 (by decide) (by decide) (by decide) _ _ _).trans ?_
  refine (rd7_ne arg7 9 10 (by decide) (by decide) (by decide) _ _ _).trans ?_
  exact (rd7_self arg7 9 (by decide) _ _ _).trans rfl

theorem acc10 : rd7 arg7 10 (by decide) (first7 c i arg1 harg1 arg2 harg2 arg3 harg3 arg5 harg5 arg7 x0 x1 x2 x4) =
    accInit (npOf i 5#32) (ldQ arg1 harg1 x0 5 0 (by decide) (by decide)) (ldT c arg5 harg5 x4) (ldD0 i arg2 harg2 x1 5) (ldD0 i arg3 harg3 x2 5)
      (ldP0 i arg2 harg2 x1 5) (ldP0 i arg3 harg3 x2 5) := by
  unfold first7 bodyRun.sl.HS0_16
  refine (rd7_ne arg7 10 15 (by decide) (by decide) (by decide) _ _ _).trans ?_
  refine (rd7_ne arg7 10 14 (by decide) (by decide) (by decide) _ _ _).trans ?_
  refine (rd7_ne arg7 10 13 (by decide) (by decide) (by decide) _ _ _).trans ?_
  refine (rd7_ne arg7 10 12 (by decide) (by decide) (by decide) _ _ _).trans ?_
  refine (rd7_ne arg7 10 11 (by decide) (by decide) (by decide) _ _ _).trans ?_
  exact (rd7_self arg7 10 (by decide) _ _ _).trans rfl

theorem acc11 : rd7 arg7 11 (by decide) (first7 c i arg1 harg1 arg2 harg2 arg3 harg3 arg5 harg5 arg7 x0 x1 x2 x4) =
    accInit (npOf i 5#32) (ldQ arg1 harg1 x0 5 1 (by decide) (by decide)) (ldT c arg5 harg5 x4) (ldD1 i arg2 harg2 x1 5) (ldD1 i arg3 harg3 x2 5)
      (ldP1 i arg2 harg2 x1 5) (ldP1 i arg3 harg3 x2 5) := by
  unfold first7 bodyRun.sl.HS0_16
  refine (rd7_ne arg7 11 15 (by decide) (by decide) (by decide) _ _ _).trans ?_
  refine (rd7_ne arg7 11 14 (by decide) (by decide) (by decide) _ _ _).trans ?_
  refine (rd7_ne arg7 11 13 (by decide) (by decide) (by decide) _ _ _).trans ?_
  refine (rd7_ne arg7 11 12 (by decide) (by decide) (by decide) _ _ _).trans ?_
  exact (rd7_self arg7 11 (by decide) _ _ _).trans rfl

theorem acc12 : rd7 arg7 12 (by decide) (first7 c i arg1 harg1 arg2 harg2 arg3 harg3 arg5 harg5 arg7 x0 x1 x2 x4) =
    accInit (npOf i 6#32) (ldQ arg1 harg1 x0 6 0 (by decide) (by decide)) (ldT c arg5 harg5 x4) (ldD0 i arg2 harg2 x1 6) (ldD0 i arg3 harg3 x2 6)
      (ldP0 i arg2 harg2 x1 6) (ldP0 i arg3 harg3 x2 6) := by
  unfold first7 bodyRun.sl.HS0_16
  refine (rd7_ne arg7 12 15 (by decide) (by decide) (by decide) _ _ _).trans ?_
  refine (rd7_ne arg7 12 14 (by decide) (by decide) (by decide) _ _ _).trans ?_
  refine (rd7_ne arg7 12 13 (by decide) (by decide) (by decide) _ _ _).trans ?_
  exact (rd7_self arg7 12 (by decide) _ _ _).trans rfl

theorem acc13 : rd7 arg7 13 (by decide) (first7 c i arg1 harg1 arg2 harg2 arg3 harg3 arg5 harg5 arg7 x0 x1 x2 x4) =
    accInit (npOf i 6#32) (ldQ arg1 harg1 x0 6 1 (by decide) (by decide)) (ldT c arg5 harg5 x4) (ldD1 i arg2 harg2 x1 6) (ldD1 i arg3 harg3 x2 6)
      (ldP1 i arg2 harg2 x1 6) (ldP1 i arg3 harg3 x2 6) := by
  unfold first7 bodyRun.sl.HS0_16
  refine (rd7_ne arg7 13 15 (by decide) (by decide) (by decide) _ _ _).trans ?_
  refine (rd7_ne arg7 13 14 (by decide) (by decide) (by decide) _ _ _).trans ?_
  exact (rd7_self arg7 13 (by decide) _ _ _).trans rfl

theorem acc14 : rd7 arg7 14 (by decide) (first7 c i arg1 harg1 arg2 harg2 arg3 harg3 arg5 harg5 arg7 x0 x1 x2 x4) =
    accInit (npOf i 7#32) (ldQ arg1 harg1 x0 7 0 (by decide) (by decide)) (ldT c arg5 harg5 x4) (ldD0 i arg2 harg2 x1 7) (ldD0 i arg3 harg3 x2 7)
      (ldP0 i arg2 harg2 x1 7) (ldP0 i arg3 harg3 x2 7) := by
  unfold first7 bodyRun.sl.HS0_16
  refine (rd7_ne arg7 14 15 (by decide) (by decide) (by decide) _ _ _).trans ?_
  exact (rd7_self arg7 14 (by decide) _ _ _).trans rfl

theorem acc15 : rd7 arg7 15 (by decide) (first7 c i arg1 harg1 arg2 harg2 arg3 harg3 arg5 harg5 arg7 x0 x1 x2 x4) =
    accInit (npOf i 7#32) (ldQ arg1 harg1 x0 7 1 (by decide) (by decide)) (ldT c arg5 harg5 x4) (ldD1 i arg2 harg2 x1 7) (ldD1 i arg3 harg3 x2 7)
      (ldP1 i arg2 harg2 x1 7) (ldP1 i arg3 harg3 x2 7) := by
  unfold first7 bodyRun.sl.HS0_16
  exact (rd7_self arg7 15 (by decide) _ _ _).trans rfl

theorem lat0 : rd8 arg8 0 (by decide) (first8 c i arg1 harg1 arg2 harg2 arg8 x0 x1) =
    latInit (ldQ arg1 harg1 x0 0 0 (by decide) (by decide)) (ldD0 i arg2 harg2 x1 0) (ldP0 i arg2 harg2 x1 0) := by
  unfold first8 bodyRun.sl.HS1_16
  refine (rd8_ne arg8 0 15 (by decide) (by decide) (by decide) _ _ _).trans ?_
  refine (rd8_ne arg8 0 14 (by decide) (by decide) (by decide) _ _ _).trans ?_
  refine (rd8_ne arg8 0 13 (by decide) (by decide) (by decide) _ _ _).trans ?_
  refine (rd8_ne arg8 0 12 (by decide) (by decide) (by decide) _ _ _).trans ?_
  refine (rd8_ne arg8 0 11 (by decide) (by decide) (by decide) _ _ _).trans ?_
  refine (rd8_ne arg8 0 10 (by decide) (by decide) (by decide) _ _ _).trans ?_
  refine (rd8_ne arg8 0 9 (by decide) (by decide) (by decide) _ _ _).trans ?_
  refine (rd8_ne arg8 0 8 (by decide) (by decide) (by decide) _ _ _).trans ?_
  refine (rd8_ne arg8 0 7 (by decide) (by decide) (by decide) _ _ _).trans ?_
  refine (rd8_ne arg8 0 6 (by decide) (by decide) (by decide) _ _ _).trans ?_
  refine (rd8_ne arg8 0 5 (by decide) (by decide) (by decide) _ _ _).trans ?_
  refine (rd8_ne arg8 0 4 (by decide) (by decide) (by decide) _ _ _).trans ?_
  refine (rd8_ne arg8 0 3 (by decide) (by decide) (by decide) _ _ _).trans ?_
  refine (rd8_ne arg8 0 2 (by decide) (by decide) (by decide) _ _ _).trans ?_
  refine (rd8_ne arg8 0 1 (by decide) (by decide) (by decide) _ _ _).trans ?_
  exact (rd8_self arg8 0 (by decide) _ _ _).trans rfl

theorem lat1 : rd8 arg8 1 (by decide) (first8 c i arg1 harg1 arg2 harg2 arg8 x0 x1) =
    latInit (ldQ arg1 harg1 x0 0 1 (by decide) (by decide)) (ldD1 i arg2 harg2 x1 0) (ldP1 i arg2 harg2 x1 0) := by
  unfold first8 bodyRun.sl.HS1_16
  refine (rd8_ne arg8 1 15 (by decide) (by decide) (by decide) _ _ _).trans ?_
  refine (rd8_ne arg8 1 14 (by decide) (by decide) (by decide) _ _ _).trans ?_
  refine (rd8_ne arg8 1 13 (by decide) (by decide) (by decide) _ _ _).trans ?_
  refine (rd8_ne arg8 1 12 (by decide) (by decide) (by decide) _ _ _).trans ?_
  refine (rd8_ne arg8 1 11 (by decide) (by decide) (by decide) _ _ _).trans ?_
  refine (rd8_ne arg8 1 10 (by decide) (by decide) (by decide) _ _ _).trans ?_
  refine (rd8_ne arg8 1 9 (by decide) (by decide) (by decide) _ _ _).trans ?_
  refine (rd8_ne arg8 1 8 (by decide) (by decide) (by decide) _ _ _).trans ?_
  refine (rd8_ne arg8 1 7 (by decide) (by decide) (by decide) _ _ _).trans ?_
  refine (rd8_ne arg8 1 6 (by decide) (by decide) (by decide) _ _ _).trans ?_
  refine (rd8_ne arg8 1 5 (by decide) (by decide) (by decide) _ _ _).trans ?_
  refine (rd8_ne arg8 1 4 (by decide) (by decide) (by decide) _ _ _).trans ?_
  refine (rd8_ne arg8 1 3 (by decide) (by decide) (by decide) _ _ _).trans ?_
  refine (rd8_ne arg8 1 2 (by decide) (by decide) (by decide) _ _ _).trans ?_
  exact (rd8_self arg8 1 (by decide) _ _ _).trans rfl

theorem lat2 : rd8 arg8 2 (by decide) (first8 c i arg1 harg1 arg2 harg2 arg8 x0 x1) =
    latInit (ldQ arg1 harg1 x0 1 0 (by decide) (by decide)) (ldD0 i arg2 harg2 x1 1) (ldP0 i arg2 harg2 x1 1) := by
  unfold first8 bodyRun.sl.HS1_16
  refine (rd8_ne arg8 2 15 (by decide) (by decide) (by decide) _ _ _).trans ?_
  refine (rd8_ne arg8 2 14 (by decide) (by decide) (by decide) _ _ _).trans ?_
  refine (rd8_ne arg8 2 13 (by decide) (by decide) (by decide) _ _ _).trans ?_
  refine (rd8_ne arg8 2 12 (by decide) (by decide) (by decide) _ _ _).trans ?_
  refine (rd8_ne arg8 2 11 (by decide) (by decide) (by decide) _ _ _).trans ?_
  refine (rd8_ne arg8 2 10 (by decide) (by decide) (by decide) _ _ _).trans ?_
  refine (rd8_ne arg8 2 9 (by decide) (by decide) (by decide) _ _ _).trans ?_
  refine (rd8_ne arg8 2 8 (by decide) (by decide) (by decide) _ _ _).trans ?_
  refine (rd8_ne arg8 2 7 (by decide) (by decide) (by decide) _ _ _).trans ?_
  refine (rd8_ne arg8 2 6 (by decide) (by decide) (by decide) _ _ _).trans ?_
  refine (rd8_ne arg8 2 5 (by decide) (by decide) (by decide) _ _ _).trans ?_
  refine (rd8_ne arg8 2 4 (by decide) (by decide) (by decide) _ _ _).trans ?_
  refine (rd8_ne arg8 2 3 (by decide) (by decide) (by decide) _ _ _).trans ?_
  exact (rd8_self arg8 2 (by decide) _ _ _).trans rfl

theorem lat3 : rd8 arg8 3 (by decide) (first8 c i arg1 harg1 arg2 harg2 arg8 x0 x1) =
    latInit (ldQ arg1 harg1 x0 1 1 (by decide) (by decide)) (ldD1 i arg2 harg2 x1 1) (ldP1 i arg2 harg2 x1 1) := by
  unfold first8 bodyRun.sl.HS1_16
  refine (rd8_ne arg8 3 15 (by decide) (by decide) (by decide) _ _ _).trans ?_
  refine (rd8_ne arg8 3 14 (by decide) (by decide) (by decide) _ _ _).trans ?_
  refine (rd8_ne arg8 3 13 (by decide) (by decide) (by decide) _ _ _).trans ?_
  refine (rd8_ne arg8 3 12 (by decide) (by decide) (by decide) _ _ _).trans ?_
  refine (rd8_ne arg8 3 11 (by decide) (by decide) (by decide) _ _ _).trans ?_
  refine (rd8_ne arg8 3 10 (by decide) (by decide) (by decide) _ _ _).trans ?_
  refine (rd8_ne arg8 3 9 (by decide) (by decide) (by decide) _ _ _).trans ?_
  refine (rd8_ne arg8 3 8 (by decide) (by decide) (by decide) _ _ _).trans ?_
  refine (rd8_ne arg8 3 7 (by decide) (by decide) (by decide) _ _ _).trans ?_
  refine (rd8_ne arg8 3 6 (by decide) (by decide) (by decide) _ _ _).trans ?_
  refine (rd8_ne arg8 3 5 (by decide) (by decide) (by decide) _ _ _).trans ?_
  refine (rd8_ne arg8 3 4 (by decide) (by decide) (by decide) _ _ _).trans ?_
  exact (rd8_self arg8 3 (by decide) _ _ _).trans rfl

theorem lat4 : rd8 arg8 4 (by decide) (first8 c i arg1 harg1 arg2 harg2 arg8 x0 x1) =
    latInit (ldQ arg1 harg1 x0 2 0 (by decide) (by decide)) (ldD0 i arg2 harg2 x1 2) (ldP0 i arg2 harg2 x1 2) := by
  unfold first8 bodyRun.sl.HS1_16
  refine (rd8_ne arg8 4 15 (by decide) (by decide) (by decide) _ _ _).trans ?_
  refine (rd8_ne arg8 4 14 (by decide) (by decide) (by decide) _ _ _).trans ?_
  refine (rd8_ne arg8 4 13 (by decide) (by decide) (by decide) _ _ _).trans ?_
  refine (rd8_ne arg8 4 12 (by decide) (by decide) (by decide) _ _ _).trans ?_
  refine (rd8_ne arg8 4 11 (by decide) (by decide) (by decide) _ _ _).trans ?_
  refine (rd8_ne arg8 4 10 (by decide) (by decide) (by decide) _ _ _).trans ?_
  refine (rd8_ne arg8 4 9 (by decide) (by decide) (by decide) _ _ _).trans ?_
  refine (rd8_ne arg8 4 8 (by decide) (by decide) (by decide) _ _ _).trans ?_
  refine (rd8_ne arg8 4 7 (by decide) (by decide) (by decide) _ _ _).trans ?_
  refine (rd8_ne arg8 4 6 (by decide) (by decide) (by decide) _ _ _).trans ?_
  refine (rd8_ne arg8 4 5 (by decide) (by decide) (by decide) _ _ _).trans ?_
  exact (rd8_self arg8 4 (by decide) _ _ _).trans rfl

theorem lat5 : rd8 arg8 5 (by decide) (first8 c i arg1 harg1 arg2 harg2 arg8 x0 x1) =
    latInit (ldQ arg1 harg1 x0 2 1 (by decide) (by decide)) (ldD1 i arg2 harg2 x1 2) (ldP1 i arg2 harg2 x1 2) := by
  unfold first8 bodyRun.sl.HS1_16
  refine (rd8_ne arg8 5 15 (by decide) (by decide) (by decide) _ _ _).trans ?_
  refine (rd8_ne arg8 5 14 (by decide) (by decide) (by decide) _ _ _).trans ?_
  refine (rd8_ne arg8 5 13 (by decide) (by decide) (by decide) _ _ _).trans ?_
  refine (rd8_ne arg8 5 12 (by decide) (by decide) (by decide) _ _ _).trans ?_
  refine (rd8_ne arg8 5 11 (by decide) (by decide) (by decide) _ _ _).trans ?_
  refine (rd8_ne arg8 5 10 (by decide) (by decide) (by decide) _ _ _).trans ?_
  refine (rd8_ne arg8 5 9 (by decide) (by decide) (by decide) _ _ _).trans ?_
  refine (rd8_ne arg8 5 8 (by decide) (by decide) (by decide) _ _ _).trans ?_
  refine (rd8_ne arg8 5 7 (by decide) (by decide) (by decide) _ _ _).trans ?_
  refine (rd8_ne arg8 5 6 (by decide) (by decide) (by decide) _ _ _).trans ?_
  exact (rd8_self arg8 5 (by decide) _ _ _).trans rfl

theorem lat6 : rd8 arg8 6 (by decide) (first8 c i arg1 harg1 arg2 harg2 arg8 x0 x1) =
    latInit (ldQ arg1 harg1 x0 3 0 (by decide) (by decide)) (ldD0 i arg2 harg2 x1 3) (ldP0 i arg2 harg2 x1 3) := by
  unfold first8 bodyRun.sl.HS1_16
  refine (rd8_ne arg8 6 15 (by decide) (by decide) (by decide) _ _ _).trans ?_
  refine (rd8_ne arg8 6 14 (by decide) (by decide) (by decide) _ _ _).trans ?_
  refine (rd8_ne arg8 6 13 (by decide) (by decide) (by decide) _ _ _).trans ?_
  refine (rd8_ne arg8 6 12 (by decide) (by decide) (by decide) _ _ _).trans ?_
  refine (rd8_ne arg8 6 11 (by decide) (by decide) (by decide) _ _ _).trans ?_
  refine (rd8_ne arg8 6 10 (by decide) (by decide) (by decide) _ _ _).trans ?_
  refine (rd8_ne arg8 6 9 (by decide) (by decide) (by decide) _ _ _).trans ?_
  refine (rd8_ne arg8 6 8 (by decide) (by decide) (by decide) _ _ _).trans ?_
  refine (rd8_ne arg8 6 7 (by decide) (by decide) (by decide) _ _ _).trans ?_
  exact (rd8_self arg8 6 (by decide) _ _ _).trans rfl

theorem lat7 : rd8 arg8 7 (by decide) (first8 c i arg1 harg1 arg2 harg2 arg8 x0 x1) =
    latInit (ldQ arg1 harg1 x0 3 1 (by decide) (by decide)) (ldD1 i arg2 harg2 x1 3) (ldP1 i arg2 harg2 x1 3) := by
  unfold first8 bodyRun.sl.HS1_16
  refine (rd8_ne arg8 7 15 (by decide) (by decide) (by decide) _ _ _).trans ?_
  refine (rd8_ne arg8 7 14 (by decide) (by decide) (by decide) _ _ _).trans ?_
  refine (rd8_ne arg8 7 13 (by decide) (by decide) (by decide) _ _ _).trans ?_
  refine (rd8_ne arg8 7 12 (by decide) (by decide) (by decide) _ _ _).trans ?_
  refine (rd8_ne arg8 7 11 (by decide) (by decide) (by decide) _ _ _).trans ?_
  refine (rd8_ne arg8 7 10 (by decide) (by decide) (by decide) _ _ _).trans ?_
  refine (rd8_ne arg8 7 9 (by decide) (by decide) (by decide) _ _ _).trans ?_
  refine (rd8_ne arg8 7 8 (by decide) (by decide) (by decide) _ _ _).trans ?_
  exact (rd8_self arg8 7 (by decide) _ _ _).trans rfl

theorem lat8 : rd8 arg8 8 (by decide) (first8 c i arg1 harg1 arg2 harg2 arg8 x0 x1) =
    latInit (ldQ arg1 harg1 x0 4 0 (by decide) (by decide)) (ldD0 i arg2 harg2 x1 4) (ldP0 i arg2 harg2 x1 4) := by
  unfold first8 bodyRun.sl.HS1_16
  refine (rd8_ne arg8 8 15 (by decide) (by decide) (by decide) _ _ _).trans ?_
  refine (rd8_ne arg8 8 14 (by decide) (by decide) (by decide) _ _ _).trans ?_
  refine (rd8_ne arg8 8 13 (by decide) (by decide) (by decide) _ _ _).trans ?_
  refine (rd8_ne arg8 8 12 (by decide) (by decide) (by decide) _ _ _).trans ?_
  refine (rd8_ne arg8 8 11 (by decide) (by decide) (by decide) _ _ _).trans ?_
  refine (rd8_ne arg8 8 10 (by decide) (by decide) (by decide) _ _ _).trans ?_
  refine (rd8_ne arg8 8 9 (by decide) (by decide) (by decide) _ _ _).trans ?_
  exact (rd8_self arg8 8 (by decide) _ _ _).trans rfl

theorem lat9 : rd8 arg8 9 (by decide) (first8 c i arg1 harg1 arg2 harg2 arg8 x0 x1) =
    latInit (ldQ arg1 harg1 x0 4 1 (by decide) (by decide)) (ldD1 i arg2 harg2 x1 4) (ldP1 i arg2 harg2 x1 4) := by
  unfold first8 bodyRun.sl.HS1_16
  refine (rd8_ne arg8 9 15 (by decide) (by decide) (by decide) _ _ _).trans ?_
  refine (rd8_ne arg8 9 14 (by decide) (by decide) (by decide) _ _ _).trans ?_
  refine (rd8_ne arg8 9 13 (by decide) (by decide) (by decide) _ _ _).trans ?_
  refine (rd8_ne arg8 9 12 (by decide) (by decide) (by decide) _ _ _).trans ?_
  refine (rd8_ne arg8 9 11 (by decide) (by decide) (by decide) _ _ _).trans ?_
  refine (rd8_ne arg8 9 10 (by decide) (by decide) (by decide) _ _ _).trans ?_
  exact (rd8_self arg8 9 (by decide) _ _ _).trans rfl

theorem lat10 : rd8 arg8 10 (by decide) (first8 c i arg1 harg1 arg2 harg2 arg8 x0 x1) =
    latInit (ldQ arg1 harg1 x0 5 0 (by decide) (by decide)) (ldD0 i arg2 harg2 x1 5) (ldP0 i arg2 harg2 x1 5) := by
  unfold first8 bodyRun.sl.HS1_16
  refine (rd8_ne arg8 10 15 (by decide) (by decide) (by decide) _ _ _).trans ?_
  refine (rd8_ne arg8 10 14 (by decide) (by decide) (by decide) _ _ _).trans ?_
  refine (rd8_ne arg8 10 13 (by decide) (by decide) (by decide) _ _ _).trans ?_
  refine (rd8_ne arg8 10 12 (by decide) (by decide) (by decide) _ _ _).trans ?_
  refine (rd8_ne arg8 10 11 (by decide) (by decide) (by decide) _ _ _).trans ?_
  exact (rd8_self arg8 10 (by decide) _ _ _).trans rfl

theorem lat11 : rd8 arg8 11 (by decide) (first8 c i arg1 harg1 arg2 harg2 arg8 x0 x1) =
    latInit (ldQ arg1 harg1 x0 5 1 (by decide) (by decide)) (ldD1 i arg2 harg2 x1 5) (ldP1 i arg2 harg2 x1 5) := by
  unfold first8 bodyRun.sl.HS1_16
  refine (rd8_ne arg8 11 15 (by decide) (by decide) (by decide) _ _ _).trans ?_
  refine (rd8_ne arg8 11 14 (by decide) (by decide) (by decide) _ _ _).trans ?_
  refine (rd8_ne arg8 11 13 (by decide) (by decide) (by decide) _ _ _).trans ?_
  refine (rd8_ne arg8 11 12 (by decide) (by decide) (by decide) _ _ _).trans ?_
  exact (rd8_self arg8 11 (by decide) _ _ _).trans rfl

theorem lat12 : rd8 arg8 12 (by decide) (first8 c i arg1 harg1 arg2 harg2 arg8 x0 x1) =
    latInit (ldQ arg1 harg1 x0 6 0 (by decide) (by decide)) (ldD0 i arg2 harg2 x1 6) (ldP0 i arg2 harg2 x1 6) := by
  unfold first8 bodyRun.sl.HS1_16
  refine (rd8_ne arg8 12 15 (by decide) (by decide) (by decide) _ _ _).trans ?_
  refine (rd8_ne arg8 12 14 (by decide) (by decide) (by decide) _ _ _).trans ?_
  refine (rd8_ne arg8 12 13 (by decide) (by decide) (by decide) _ _ _).trans ?_
  exact (rd8_self arg8 12 (by decide) _ _ _).trans rfl

theorem lat13 : rd8 arg8 13 (by decide) (first8 c i arg1 harg1 arg2 harg2 arg8 x0 x1) =
    latInit (ldQ arg1 harg1 x0 6 1 (by decide) (by decide)) (ldD1 i arg2 harg2 x1 6) (ldP1 i arg2 harg2 x1 6) := by
  unfold first8 bodyRun.sl.HS1_16
  refine (rd8_ne arg8 13 15 (by decide) (by decide) (by decide) _ _ _).trans ?_
  refine (rd8_ne arg8 13 14 (by decide) (by decide) (by decide) _ _ _).trans ?_
  exact (rd8_self arg8 13 (by decide) _ _ _).trans rfl

theorem lat14 : rd8 arg8 14 (by decide) (first8 c i arg1 harg1 arg2 harg2 arg8 x0 x1) =
    latInit (ldQ arg1 harg1 x0 7 0 (by decide) (by decide)) (ldD0 i arg2 harg2 x1 7) (ldP0 i arg2 harg2 x1 7) := by
  unfold first8 bodyRun.sl.HS1_16
  refine (rd8_ne arg8 14 15 (by decide) (by decide) (by decide) _ _ _).trans ?_
  exact (rd8_self arg8 14 (by decide) _ _ _).trans rfl

theorem lat15 : rd8 arg8 15 (by decide) (first8 c i arg1 harg1 arg2 harg2 arg8 x0 x1) =
    latInit (ldQ arg1 harg1 x0 7 1 (by decide) (by decide)) (ldD1 i arg2 harg2 x1 7) (ldP1 i arg2 harg2 x1 7) := by
  unfold first8 bodyRun.sl.HS1_16
  exact (rd8_self arg8 15 (by decide) _ _ _).trans rfl

theorem flag0 : bodyRun.sl.v322 c i arg1 harg1 arg2 harg2 x0 x1 =
    flagInit (ldQ arg1 harg1 x0 0 0 (by decide) (by decide)) (ldD0 i arg2 harg2 x1 0) (ldP0 i arg2 harg2 x1 0) (ldQ arg1 harg1 x0 0 1 (by decide) (by decide)) (ldD1 i arg2 harg2 x1 0) (ldP1 i arg2 harg2 x1 0) := rfl

theorem flag1 : bodyRun.sl.v624 c i arg1 harg1 arg2 harg2 x0 x1 =
    flagInit (ldQ arg1 harg1 x0 1 0 (by decide) (by decide)) (ldD0 i arg2 harg2 x1 1) (ldP0 i arg2 harg2 x1 1) (ldQ arg1 harg1 x0 1 1 (by decide) (by decide)) (ldD1 i arg2 harg2 x1 1) (ldP1 i arg2 harg2 x1 1) := rfl

theorem flag2 : bodyRun.sl.v926 c i arg1 harg1 arg2 harg2 x0 x1 =
    flagInit (ldQ arg1 harg1 x0 2 0 (by decide) (by decide)) (ldD0 i arg2 harg2 x1 2) (ldP0 i arg2 harg2 x1 2) (ldQ arg1 harg1 x0 2 1 (by decide) (by decide)) (ldD1 i arg2 harg2 x1 2) (ldP1 i arg2 harg2 x1 2) := rfl

theorem flag3 : bodyRun.sl.v1228 c i arg1 harg1 arg2 harg2 x0 x1 =
    flagInit (ldQ arg1 harg1 x0 3 0 (by decide) (by decide)) (ldD0 i arg2 harg2 x1 3) (ldP0 i arg2 harg2 x1 3) (ldQ arg1 harg1 x0 3 1 (by decide) (by decide)) (ldD1 i arg2 harg2 x1 3) (ldP1 i arg2 harg2 x1 3) := rfl

theorem flag4 : bodyRun.sl.v1530 c i arg1 harg1 arg2 harg2 x0 x1 =
    flagInit (ldQ arg1 harg1 x0 4 0 (by decide) (by decide)) (ldD0 i arg2 harg2 x1 4) (ldP0 i arg2 harg2 x1 4) (ldQ arg1 harg1 x0 4 1 (by decide) (by decide)) (ldD1 i arg2 harg2 x1 4) (ldP1 i arg2 harg2 x1 4) := rfl

theorem flag5 : bodyRun.sl.v1832 c i arg1 harg1 arg2 harg2 x0 x1 =
    flagInit (ldQ arg1 harg1 x0 5 0 (by decide) (by decide)) (ldD0 i arg2 harg2 x1 5) (ldP0 i arg2 harg2 x1 5) (ldQ arg1 harg1 x0 5 1 (by decide) (by decide)) (ldD1 i arg2 harg2 x1 5) (ldP1 i arg2 harg2 x1 5) := rfl

theorem flag6 : bodyRun.sl.v2134 c i arg1 harg1 arg2 harg2 x0 x1 =
    flagInit (ldQ arg1 harg1 x0 6 0 (by decide) (by decide)) (ldD0 i arg2 harg2 x1 6) (ldP0 i arg2 harg2 x1 6) (ldQ arg1 harg1 x0 6 1 (by decide) (by decide)) (ldD1 i arg2 harg2 x1 6) (ldP1 i arg2 harg2 x1 6) := rfl

theorem flag7 : bodyRun.sl.v2436 c i arg1 harg1 arg2 harg2 x0 x1 =
    flagInit (ldQ arg1 harg1 x0 7 0 (by decide) (by decide)) (ldD0 i arg2 harg2 x1 7) (ldP0 i arg2 harg2 x1 7) (ldQ arg1 harg1 x0 7 1 (by decide) (by decide)) (ldD1 i arg2 harg2 x1 7) (ldP1 i arg2 harg2 x1 7) := rfl

end

end Cert.KernelIdeal.Pf

end
-- ==== Proof.KI.OutRun.lean ====
/-
  The scratch buffers after the eight loops, and the sixteen pieces of the output block, in a grid point's own terms.
-/
module

public import proofs.«01_k».proof.Proof.KI.Slots

@[expose] public section

set_option maxRecDepth 16384

noncomputable section

namespace Cert.KernelIdeal.Pf

open Cert.KernelIdeal Cert.KernelIdeal.Gen
open Idealize.ShloMosaic Idealize.ShloMosaic.TcCoe

section
variable {F : FTy → Type} [FloatOps F] [Named F]
variable (c : Dev nD) (i : grid0.Coords) (arg1 : Memref sig .tc .vmem S1024x256 .bf16) (harg1 : arg1.IsWhole)
  (arg2 : Memref sig .tc .vmem S16384x256 .bf16) (harg2 : arg2.IsWhole) (arg3 : Memref sig .tc .vmem S16384x256 .bf16) (harg3 : arg3.IsWhole)
  (arg4 : Memref sig .tc .vmem S1024x256 .bf16) (harg4 : arg4.IsWhole)
  (arg5 : Memref sig .tc .vmem S256x256 .bf16) (harg5 : arg5.IsWhole) (arg6 : Memref sig .tc .vmem S1024x256 .bf16) (harg6 : arg6.IsWhole)
  (arg7 : Memref sig .tc .vmem S16x128x128 .f32) (harg7 : arg7.IsWhole) (arg8 : Memref sig .tc .vmem S16x128x256 .f32) (harg8 : arg8.IsWhole)
  (x0 : Vec F S1024x256 .bf16) (x1 x2 : Vec F S16384x256 .bf16) (x3 : Vec F S1024x256 .bf16) (x4 : Vec F S256x256 .bf16)

/-- The buffers after the eight loops. -/
def lastR : C7 F arg7 × C8 F arg8 :=
  loopP arg8 (bodyRun.sl.r_156 c arg1 harg1 x0) (bodyRun.sl.r c arg5 harg5 x4) arg7 (bodyRun.sl.r_169 c arg1 harg1 x0) x1 x2 14 15 (by decide) (by decide) (8 * (i 0).val + 7 - 1) (bodyRun.sl.v2436 c i arg1 harg1 arg2 harg2 x0 x1) (
  loopP arg8 (bodyRun.sl.r_135 c arg1 harg1 x0) (bodyRun.sl.r c arg5 harg5 x4) arg7 (bodyRun.sl.r_146 c arg1 harg1 x0) x1 x2 12 13 (by decide) (by decide) (8 * (i 0).val + 6 - 1) (bodyRun.sl.v2134 c i arg1 harg1 arg2 harg2 x0 x1) (
  loopP arg8 (bodyRun.sl.r_115 c arg1 harg1 x0) (bodyRun.sl.r c arg5 harg5 x4) arg7 (bodyRun.sl.r_125 c arg1 harg1 x0) x1 x2 10 11 (by decide) (by decide) (8 * (i 0).val + 5 - 1) (bodyRun.sl.v1832 c i arg1 harg1 arg2 harg2 x0 x1) (
  loopP arg8 (bodyRun.sl.r_94 c arg1 harg1 x0) (bodyRun.sl.r c arg5 harg5 x4) arg7 (bodyRun.sl.r_105 c arg1 harg1 x0) x1 x2 8 9 (by decide) (by decide) (8 * (i 0).val + 4 - 1) (bodyRun.sl.v1530 c i arg1 harg1 arg2 harg2 x0 x1) (
  loopP arg8 (bodyRun.sl.r_74 c arg1 harg1 x0) (bodyRun.sl.r c arg5 harg5 x4) arg7 (bodyRun.sl.r_84 c arg1 harg1 x0) x1 x2 6 7 (by decide) (by decide) (8 * (i 0).val + 3 - 1) (bodyRun.sl.v1228 c i arg1 harg1 arg2 harg2 x0 x1) (
  loopP arg8 (bodyRun.sl.r_48 c arg1 harg1 x0) (bodyRun.sl.r c arg5 harg5 x4) arg7 (bodyRun.sl.r_58 c arg1 harg1 x0) x1 x2 4 5 (by decide) (by decide) (8 * (i 0).val + 2 - 1) (bodyRun.sl.v926 c i arg1 harg1 arg2 harg2 x0 x1) (
  loopP arg8 (bodyRun.sl.r_21 c arg1 harg1 x0) (bodyRun.sl.r c arg5 harg5 x4) arg7 (bodyRun.sl.r_35 c arg1 harg1 x0) x1 x2 2 3 (by decide) (by decide) (8 * (i 0).val + 1 - 1) (bodyRun.sl.v624 c i arg1 harg1 arg2 harg2 x0 x1) (
  loopP arg8 (bodyRun.sl.r_1 c arg1 harg1 x0) (bodyRun.sl.r c arg5 harg5 x4) arg7 (bodyRun.sl.r_13 c arg1 harg1 x0) x1 x2 0 1 (by decide) (by decide) (8 * (i 0).val + 0 - 1) (bodyRun.sl.v322 c i arg1 harg1 arg2 harg2 x0 x1) (
  first7 c i arg1 harg1 arg2 harg2 arg3 harg3 arg5 harg5 arg7 x0 x1 x2 x4, first8 c i arg1 harg1 arg2 harg2 arg8 x0 x1))))))))

/-- One piece of the output block: a slot's sums times the gate. -/
def outPiece (s p : ℕ) (hs : s < 8) (hp : p < 2) (n : ℕ) (hn : n < 16) : View.Piece (Elt F) S1024x256 .bf16 :=
  ⟨Rect.unit (s := S1024x256) ![128 * s, 128 * p] S128x128.size (qb_inb s p hs hp),
    k0_pay320 (ldQ arg4 harg4 x3 s p hs hp) (rd7 arg7 n hn (lastR c i arg1 harg1 arg2 harg2 arg3 harg3 arg5 harg5 arg7 arg8 x0 x1 x2 x4).1)⟩

theorem piece0 : bodyRun.sl.v2474 c i arg1 harg1 arg2 harg2 arg3 harg3 arg4 harg4 arg5 harg5 arg7 arg8 x0 x1 x2 x3 x4 =
    k0_pay320 (ldQ arg4 harg4 x3 0 0 (by decide) (by decide)) (rd7 arg7 0 (by decide) (lastR c i arg1 harg1 arg2 harg2 arg3 harg3 arg5 harg5 arg7 arg8 x0 x1 x2 x4).1) := rfl

theorem piece1 : bodyRun.sl.v2481 c i arg1 harg1 arg2 harg2 arg3 harg3 arg4 harg4 arg5 harg5 arg7 arg8 x0 x1 x2 x3 x4 =
    k0_pay320 (ldQ arg4 harg4 x3 0 1 (by decide) (by decide)) (rd7 arg7 1 (by decide) (lastR c i arg1 harg1 arg2 harg2 arg3 harg3 arg5 harg5 arg7 arg8 x0 x1 x2 x4).1) := rfl

theorem piece2 : bodyRun.sl.v2488 c i arg1 harg1 arg2 harg2 arg3 harg3 arg4 harg4 arg5 harg5 arg7 arg8 x0 x1 x2 x3 x4 =
    k0_pay320 (ldQ arg4 harg4 x3 1 0 (by decide) (by decide)) (rd7 arg7 2 (by decide) (lastR c i arg1 harg1 arg2 harg2 arg3 harg3 arg5 harg5 arg7 arg8 x0 x1 x2 x4).1) := rfl

theorem piece3 : bodyRun.sl.v2495 c i arg1 harg1 arg2 harg2 arg3 harg3 arg4 harg4 arg5 harg5 arg7 arg8 x0 x1 x2 x3 x4 =
    k0_pay320 (ldQ arg4 harg4 x3 1 1 (by decide) (by decide)) (rd7 arg7 3 (by decide) (lastR c i arg1 harg1 arg2 harg2 arg3 harg3 arg5 harg5 arg7 arg8 x0 x1 x2 x4).1) := rfl

theorem piece4 : bodyRun.sl.v2502 c i arg1 harg1 arg2 harg2 arg3 harg3 arg4 harg4 arg5 harg5 arg7 arg8 x0 x1 x2 x3 x4 =
    k0_pay320 (ldQ arg4 harg4 x3 2 0 (by decide) (by decide)) (rd7 arg7 4 (by decide) (lastR c i arg1 harg1 arg2 harg2 arg3 harg3 arg5 harg5 arg7 arg8 x0 x1 x2 x4).1) := rfl

theorem piece5 : bodyRun.sl.v2509 c i arg1 harg1 arg2 harg2 arg3 harg3 arg4 harg4 arg5 harg5 arg7 arg8 x0 x1 x2 x3 x4 =
    k0_pay320 (ldQ arg4 harg4 x3 2 1 (by decide) (by decide)) (rd7 arg7 5 (by decide) (lastR c i arg1 harg1 arg2 harg2 arg3 harg3 arg5 harg5 arg7 arg8 x0 x1 x2 x4).1) := rfl

theorem piece6 : bodyRun.sl.v2516 c i arg1 harg1 arg2 harg2 arg3 harg3 arg4 harg4 arg5 harg5 arg7 arg8 x0 x1 x2 x3 x4 =
    k0_pay320 (ldQ arg4 harg4 x3 3 0 (by decide) (by decide)) (rd7 arg7 6 (by decide) (lastR c i arg1 harg1 arg2 harg2 arg3 harg3 arg5 harg5 arg7 arg8 x0 x1 x2 x4).1) := rfl

theorem piece7 : bodyRun.sl.v2523 c i arg1 harg1 arg2 harg2 arg3 harg3 arg4 harg4 arg5 harg5 arg7 arg8 x0 x1 x2 x3 x4 =
    k0_pay320 (ldQ arg4 harg4 x3 3 1 (by decide) (by decide)) (rd7 arg7 7 (by decide) (lastR c i arg1 harg1 arg2 harg2 arg3 harg3 arg5 harg5 arg7 arg8 x0 x1 x2 x4).1) := rfl

theorem piece8 : bodyRun.sl.v2530 c i arg1 harg1 arg2 harg2 arg3 harg3 arg4 harg4 arg5 harg5 arg7 arg8 x0 x1 x2 x3 x4 =
    k0_pay320 (ldQ arg4 harg4 x3 4 0 (by decide) (by decide)) (rd7 arg7 8 (by decide) (lastR c i arg1 harg1 arg2 harg2 arg3 harg3 arg5 harg5 arg7 arg8 x0 x1 x2 x4).1) := rfl

theorem piece9 : bodyRun.sl.v2537 c i arg1 harg1 arg2 harg2 arg3 harg3 arg4 harg4 arg5 harg5 arg7 arg8 x0 x1 x2 x3 x4 =
    k0_pay320 (ldQ arg4 harg4 x3 4 1 (by decide) (by decide)) (rd7 arg7 9 (by decide) (lastR c i arg1 harg1 arg2 harg2 arg3 harg3 arg5 harg5 arg7 arg8 x0 x1 x2 x4).1) := rfl

theorem piece10 : bodyRun.sl.v2544 c i arg1 harg1 arg2 harg2 arg3 harg3 arg4 harg4 arg5 harg5 arg7 arg8 x0 x1 x2 x3 x4 =
    k0_pay320 (ldQ arg4 harg4 x3 5 0 (by decide) (by decide)) (rd7 arg7 10 (by decide) (lastR c i arg1 harg1 arg2 harg2 arg3 harg3 arg5 harg5 arg7 arg8 x0 x1 x2 x4).1) := rfl

theorem piece11 : bodyRun.sl.v2551 c i arg1 harg1 arg2 harg2 arg3 harg3 arg4 harg4 arg5 harg5 arg7 arg8 x0 x1 x2 x3 x4 =
    k0_pay320 (ldQ arg4 harg4 x3 5 1 (by decide) (by decide)) (rd7 arg7 11 (by decide) (lastR c i arg1 harg1 arg2 harg2 arg3 harg3 arg5 harg5 arg7 arg8 x0 x1 x2 x4).1) := rfl

theorem piece12 : bodyRun.sl.v2558 c i arg1 harg1 arg2 harg2 arg3 harg3 arg4 harg4 arg5 harg5 arg7 arg8 x0 x1 x2 x3 x4 =
    k0_pay320 (ldQ arg4 harg4 x3 6 0 (by decide) (by decide)) (rd7 arg7 12 (by decide) (lastR c i arg1 harg1 arg2 harg2 arg3 harg3 arg5 harg5 arg7 arg8 x0 x1 x2 x4).1) := rfl

theorem piece13 : bodyRun.sl.v2565 c i arg1 harg1 arg2 harg2 arg3 harg3 arg4 harg4 arg5 harg5 arg7 arg8 x0 x1 x2 x3 x4 =
    k0_pay320 (ldQ arg4 harg4 x3 6 1 (by decide) (by decide)) (rd7 arg7 13 (by decide) (lastR c i arg1 harg1 arg2 harg2 arg3 harg3 arg5 harg5 arg7 arg8 x0 x1 x2 x4).1) := rfl

theorem piece14 : bodyRun.sl.v2572 c i arg1 harg1 arg2 harg2 arg3 harg3 arg4 harg4 arg5 harg5 arg7 arg8 x0 x1 x2 x3 x4 =
    k0_pay320 (ldQ arg4 harg4 x3 7 0 (by decide) (by decide)) (rd7 arg7 14 (by decide) (lastR c i arg1 harg1 arg2 harg2 arg3 harg3 arg5 harg5 arg7 arg8 x0 x1 x2 x4).1) := rfl

theorem out_list : (bodyRun c i arg1 harg1 arg2 harg2 arg3 harg3 arg4 harg4 arg5 harg5 arg6 harg6 arg7 harg7 arg8 harg8 x0 x1 x2 x3 x4).1 =
    arg6.view.read (Elt F) (arg6.view.writes (Elt F) arg6.view.junk [
      outPiece c i arg1 harg1 arg2 harg2 arg3 harg3 arg4 harg4 arg5 harg5 arg7 arg8 x0 x1 x2 x3 x4 7 1 (by decide) (by decide) 15 (by decide),
      outPiece c i arg1 harg1 arg2 harg2 arg3 harg3 arg4 harg4 arg5 harg5 arg7 arg8 x0 x1 x2 x3 x4 7 0 (by decide) (by decide) 14 (by decide),
      outPiece c i arg1 harg1 arg2 harg2 arg3 harg3 arg4 harg4 arg5 harg5 arg7 arg8 x0 x1 x2 x3 x4 6 1 (by decide) (by decide) 13 (by decide),
      outPiece c i arg1 harg1 arg2 harg2 arg3 harg3 arg4 harg4 arg5 harg5 arg7 arg8 x0 x1 x2 x3 x4 6 0 (by decide) (by decide) 12 (by decide),
      outPiece c i arg1 harg1 arg2 harg2 arg3 harg3 arg4 harg4 arg5 harg5 arg7 arg8 x0 x1 x2 x3 x4 5 1 (by decide) (by decide) 11 (by decide),
      outPiece c i arg1 harg1 arg2 harg2 arg3 harg3 arg4 harg4 arg5 harg5 arg7 arg8 x0 x1 x2 x3 x4 5 0 (by decide) (by decide) 10 (by decide),
      outPiece c i arg1 harg1 arg2 harg2 arg3 harg3 arg4 harg4 arg5 harg5 arg7 arg8 x0 x1 x2 x3 x4 4 1 (by decide) (by decide) 9 (by decide),
      outPiece c i arg1 harg1 arg2 harg2 arg3 harg3 arg4 harg4 arg5 harg5 arg7 arg8 x0 x1 x2 x3 x4 4 0 (by decide) (by decide) 8 (by decide),
      outPiece c i arg1 harg1 arg2 harg2 arg3 harg3 arg4 harg4 arg5 harg5 arg7 arg8 x0 x1 x2 x3 x4 3 1 (by decide) (by decide) 7 (by decide),
      outPiece c i arg1 harg1 arg2 harg2 arg3 harg3 arg4 harg4 arg5 harg5 arg7 arg8 x0 x1 x2 x3 x4 3 0 (by decide) (by decide) 6 (by decide),
      outPiece c i arg1 harg1 arg2 harg2 arg3 harg3 arg4 harg4 arg5 harg5 arg7 arg8 x0 x1 x2 x3 x4 2 1 (by decide) (by decide) 5 (by decide),
      outPiece c i arg1 harg1 arg2 harg2 arg3 harg3 arg4 harg4 arg5 harg5 arg7 arg8 x0 x1 x2 x3 x4 2 0 (by decide) (by decide) 4 (by decide),
      outPiece c i arg1 harg1 arg2 harg2 arg3 harg3 arg4 harg4 arg5 harg5 arg7 arg8 x0 x1 x2 x3 x4 1 1 (by decide) (by decide) 3 (by decide),
      outPiece c i arg1 harg1 arg2 harg2 arg3 harg3 arg4 harg4 arg5 harg5 arg7 arg8 x0 x1 x2 x3 x4 1 0 (by decide) (by decide) 2 (by decide),
      outPiece c i arg1 harg1 arg2 harg2 arg3 harg3 arg4 harg4 arg5 harg5 arg7 arg8 x0 x1 x2 x3 x4 0 1 (by decide) (by decide) 1 (by decide),
      outPiece c i arg1 harg1 arg2 harg2 arg3 harg3 arg4 harg4 arg5 harg5 arg7 arg8 x0 x1 x2 x3 x4 0 0 (by decide) (by decide) 0 (by decide)]) := by
  unfold bodyRun
  dsimp only
  unfold bodyRun.sl.H5_16
  simp only [outPiece]
  rw [piece0, piece1, piece2, piece3, piece4, piece5, piece6, piece7, piece8, piece9, piece10, piece11, piece12, piece13, piece14]
  rfl

end

end Cert.KernelIdeal.Pf

end
-- ==== Proof.Math.Rows.lean ====
/-
  The stick-breaking attention as one function of the four arrays: row `R`, column `C` is the weighted sum of column `C` of
  the values, for the head that the column belongs to, times the gate.
-/
module

public import proofs.«01_k».proof.Proof.Math.Stick
public import proofs.«01_k».proof.Proof.Gen.Pre_finite_qk
public import Idealize.ShloMosaic.Lib.Pointwise
public import Idealize.ShloMosaic.Lib.ReduceAll

@[expose] public section

set_option maxRecDepth 16384

noncomputable section

namespace Cert.Stick

open Idealize.ShloMosaic

abbrev SA : Shape := ⟨2, ![16384, 256]⟩

/-- The scores of query row `R` in the head of column `C`, to the base 2, key by key. -/
def zrow (X0 X1 : FVec Ideal SA .bf16) (R : Fin 16384) (C : Fin 256) (k : ℕ) : EReal :=
  if h : k < 16384 then ∑ d : Fin 64, X0 (ix2 R ⟨C.val / 64 * 64 + d, by omega⟩) * X1 (ix2 ⟨k, h⟩ ⟨C.val / 64 * 64 + d, by omega⟩)
  else 0

/-- Column `C` of the values, key by key. -/
def vrow (X2 : FVec Ideal SA .bf16) (C : Fin 256) (k : ℕ) : EReal :=
  if h : k < 16384 then X2 (ix2 ⟨k, h⟩ C) else 0

/-- The attention. -/
def attn (X0 X1 X2 X3 : FVec Ideal SA .bf16) (R : Fin 16384) (C : Fin 256) : EReal :=
  O (zrow X0 X1 R C) (vrow X2 C) R.val 0 * X3 (ix2 R C)

/-- Every element is a real number. -/
def Real' (X : FVec Ideal SA .bf16) : Prop := ∀ i, ∃ x : ℝ, X i = (x : EReal)

theorem zrow_real (X0 X1 : FVec Ideal SA .bf16) (h0 : Real' X0) (h1 : Real' X1) (R : Fin 16384) (C : Fin 256) :
    ∃ z : ℕ → ℝ, ∀ k, zrow X0 X1 R C k = (z k : EReal) := by
  choose x0 e0 using h0
  choose x1 e1 using h1
  refine ⟨fun k => if h : k < 16384 then ∑ d : Fin 64, x0 (ix2 R ⟨C.val / 64 * 64 + d, by omega⟩) *
    x1 (ix2 ⟨k, h⟩ ⟨C.val / 64 * 64 + d, by omega⟩) else 0, fun k => ?_⟩
  unfold zrow
  dsimp only
  by_cases h : k < 16384
  · rw [dif_pos h, dif_pos h, ← coe_sum']
    exact Finset.sum_congr rfl fun d _ => by rw [e0, e1, EReal.coe_mul]
  · rw [dif_neg h, dif_neg h]; rfl

theorem inf_bf16 : Ideal.ofBits .bf16 0x7F80#16 = ⊤ := by simp [Ideal.ofBits, Ideal.ieee]

theorem real_of_lt (x : EReal) (h : Ideal.cmp .olt (max x (-x)) ⊤ = 1#1) : ∃ r : ℝ, x = (r : EReal) := by
  induction x with
  | bot => simp [Ideal.cmp] at h
  | coe r => exact ⟨r, rfl⟩
  | top => simp [Ideal.cmp] at h

/-- The precondition says that the queries and the keys are finite. -/
theorem real_of_pre (X0 X1 X2 X3 : FVec Ideal SA .bf16)
    (h : Cert.Pre_finite_qk.fn (F := Ideal) X0 X1 X2 X3 = fun _ => 1#1) : Real' X0 ∧ Real' X1 := by
  have h0 := congrFun h ix0
  dsimp only [Cert.Pre_finite_qk.fn] at h0
  have h1 : IntOp.andi _ _ = 1#1 := h0
  have hand : ∀ a b : BitVec 1, IntOp.andi a b = 1#1 → a = 1#1 ∧ b = 1#1 := by decide
  obtain ⟨ha, hb⟩ := hand _ _ h1
  constructor
  · intro i
    have e := Host.reduce_andi_all _ _ _ _ _ ha i
    exact real_of_lt _ (by rw [← inf_bf16]; exact e)
  · intro i
    have e := Host.reduce_andi_all _ _ _ _ _ hb i
    exact real_of_lt _ (by rw [← inf_bf16]; exact e)

end Cert.Stick

end
-- ==== Proof.KI.Out.lean ====
/-
  One grid point: the scratch buffers after the first phase and the eight loops, and the output block read at an index.
-/
module

public import proofs.«01_k».proof.Proof.KI.OutRun
public import proofs.«01_k».proof.Proof.Math.Rows

@[expose] public section

set_option maxRecDepth 16384

noncomputable section

namespace Cert.KernelIdeal.Pf

open Cert.KernelIdeal Cert.KernelIdeal.Gen Cert.Stick
open Idealize.ShloMosaic Idealize.ShloMosaic.TcCoe

/-- The scores of the rows of query tile `Tq` in the two heads of pair `p`. -/
def Zs (X0 X1 : FVec Ideal SA .bf16) (Tq p : ℕ) (hT : Tq < 128) (hp : p < 2) (r : Fin 128) (h : Fin 2) : ℕ → EReal :=
  zrow X0 X1 ⟨128 * Tq + r, by omega⟩ ⟨128 * p + 64 * h, by omega⟩

/-- The columns of the values of pair `p`. -/
def Ws (X2 : FVec Ideal SA .bf16) (p : ℕ) (hp : p < 2) (l : Fin 128) : ℕ → EReal := vrow X2 ⟨128 * p + l, by omega⟩

theorem zrow_congr (X0 X1 : FVec Ideal SA .bf16) (R R' : Fin 16384) (C C' : Fin 256) (hR : R.val = R'.val) (hC : C.val / 64 = C'.val / 64) :
    zrow X0 X1 R C = zrow X0 X1 R' C' := by
  obtain rfl := Fin.ext hR
  funext k
  unfold zrow
  simp only [hC]

theorem ld_at (X : Vec Ideal S1024x256 .bf16) (off : Fin 2 → ℕ) (inb : ∀ a, off a + S128x128.size a ≤ S1024x256.size a) (r c : Fin 128) (R : Fin 1024) (C : Fin 256)
    (hR : R.val = off 0 + r) (hC : C.val = off 1 + c) : View.ld X (Rect.unit (s := S1024x256) off S128x128.size inb) (ix2 r c) = X (ix2 R C) := by
  refine congrArg X (funext fun a => Fin.ext ?_)
  fin_cases a
  · exact (congrArg (off 0 + ·) (Nat.one_mul _)).trans hR.symm
  · exact (congrArg (off 1 + ·) (Nat.one_mul _)).trans hC.symm

theorem tileOf_at (p : ℕ) (hp : p < 2) (X : Vec Ideal S16384x256 .bf16) (b : ℕ) (hb : b < 128) (r c : Fin 128) (R : Fin 16384) (C : Fin 256)
    (hR : R.val = 128 * b + r) (hC : C.val = 128 * p + c) : tileOf p hp X b (ix2 r c) = X (ix2 R C) := by
  unfold tileOf
  rw [dif_pos hb]
  refine congrArg X (funext fun a => Fin.ext ?_)
  fin_cases a
  · exact (congrArg (128 * b + ·) (Nat.one_mul _)).trans hR.symm
  · exact (congrArg (128 * p + ·) (Nat.one_mul _)).trans hC.symm

theorem npOf_eq : ∀ (i : grid0.Coords) (s : Fin 8), npOf (F := Ideal) i (BitVec.ofNat 32 s.val) = if 0 < 8 * (i 0).val + s.val then (0 : EReal) else ⊥ := by
  intro i s
  have key : ∀ (i : grid0.Coords) (s : Fin 8), Scalar.cmpi .sgt (Scalar.addi (Scalar.muli (BitVec.ofNat 32 (i 0).val) 8#32) (BitVec.ofNat 32 s.val)) 0#32 =
      if 0 < 8 * (i 0).val + s.val then 1#1 else 0#1 := by decide +kernel
  unfold npOf
  rw [key i s]
  by_cases h : 0 < 8 * (i 0).val + s.val
  · rw [if_pos h, if_pos h]; exact zero_f32
  · rw [if_neg h, if_neg h]; rfl

section
variable (c : Dev nD) (i : grid0.Coords) (arg1 : Memref sig .tc .vmem S1024x256 .bf16) (harg1 : arg1.IsWhole)
  (arg2 : Memref sig .tc .vmem S16384x256 .bf16) (harg2 : arg2.IsWhole) (arg3 : Memref sig .tc .vmem S16384x256 .bf16) (harg3 : arg3.IsWhole)
  (arg4 : Memref sig .tc .vmem S1024x256 .bf16) (harg4 : arg4.IsWhole)
  (arg5 : Memref sig .tc .vmem S256x256 .bf16) (harg5 : arg5.IsWhole) (arg6 : Memref sig .tc .vmem S1024x256 .bf16) (harg6 : arg6.IsWhole)
  (arg7 : Memref sig .tc .vmem S16x128x128 .f32) (harg7 : arg7.IsWhole) (arg8 : Memref sig .tc .vmem S16x128x256 .f32) (harg8 : arg8.IsWhole)
  (x0 : Vec Ideal S1024x256 .bf16) (x1 x2 : Vec Ideal S16384x256 .bf16) (x3 : Vec Ideal S1024x256 .bf16) (x4 : Vec Ideal S256x256 .bf16)
  (X0 : FVec Ideal SA .bf16)

/-- The block of queries is the point's rows of the array of queries. -/
def BlockOf : Prop := ∀ (rr : Fin 1024) (cc : Fin 256) (R : Fin 16384), R.val = 1024 * (i 0).val + rr → x0 (ix2 rr cc) = X0 (ix2 R cc)

theorem pair_of (hx : BlockOf i x0 X0) (h0 : Real' X0) (h1 : Real' x1) (s p : ℕ) (hs : s < 8) (hp : p < 2) (hT : 8 * (i 0).val + s < 128) :
    Pair (8 * (i 0).val + s) (ldQ arg1 harg1 x0 s p hs hp) (tileOf p hp x1) (tileOf p hp x2)
      (Zs X0 x1 (8 * (i 0).val + s) p hT hp) (Ws x2 p hp) where
  hT := hT
  hz := fun r h => zrow_real X0 x1 h0 h1 _ _
  hK := fun b hb r h j => by
    unfold tz Zs zrow
    rw [dif_pos (by omega)]
    refine Finset.sum_congr rfl fun d _ => congrArg₂ (· * ·) ?_ ?_
    · unfold ldQ
      rw [View.readAt_eq_ld, harg1.read_unread]
      refine (ld_at x0 _ _ r _ ⟨128 * s + r, by omega⟩ ⟨128 * p + (64 * h + d), by omega⟩ rfl rfl).trans ?_
      refine (hx _ _ ⟨128 * (8 * (i 0).val + s) + r, by omega⟩ ?_).trans (congrArg (fun z => X0 (ix2 _ z)) (Fin.ext ?_))
      · dsimp only; omega
      · dsimp only; omega
    · refine tileOf_at p hp x1 b hb j _ _ _ rfl ?_
      dsimp only; omega
  hV := fun b hb j l => by
    unfold Ws vrow
    rw [dif_pos (by omega)]
    exact tileOf_at p hp x2 b hb j l _ _ rfl rfl

/-- After the loops of the sub-blocks before `m`: their slots hold the whole sums, the others what the first phase left. -/
def St (hT : ∀ s : Fin 8, 8 * (i 0).val + s.val < 128) (f7 : C7 Ideal arg7) (f8 : C8 Ideal arg8) (m : ℕ) (P : C7 Ideal arg7 × C8 Ideal arg8) : Prop :=
  (∀ (s : Fin 8) (p : Fin 2), s.val < m → AccInv (8 * (i 0).val + s.val) (Zs X0 x1 (8 * (i 0).val + s.val) p.val (hT s) p.isLt) (Ws x2 p.val p.isLt) 0
      (rd7 arg7 (2 * s.val + p.val) (by omega) P.1))
    ∧ (∀ n (h : n < 16), 2 * m ≤ n → rd7 arg7 n h P.1 = rd7 arg7 n h f7)
    ∧ (∀ n (h : n < 16), 2 * m ≤ n → rd8 arg8 n h P.2 = rd8 arg8 n h f8)

theorem step_of (hx : BlockOf i x0 X0) (h0 : Real' X0) (h1 : Real' x1) (hT : ∀ s : Fin 8, 8 * (i 0).val + s.val < 128)
    (tri : FVec Ideal S256x256 .bf16) (ht : IsTri tri) (f7 : C7 Ideal arg7) (f8 : C8 Ideal arg8)
    (s : Fin 8) (g : BitVec 1) (P : C7 Ideal arg7 × C8 Ideal arg8)
    (ha : ∀ p : Fin 2, AccInv (8 * (i 0).val + s.val) (Zs X0 x1 (8 * (i 0).val + s.val) p.val (hT s) p.isLt) (Ws x2 p.val p.isLt) (8 * (i 0).val + s.val - 1)
      (rd7 arg7 (2 * s.val + p.val) (by omega) f7))
    (hl : 0 < 8 * (i 0).val + s.val → ∀ p : Fin 2, LatInv (8 * (i 0).val + s.val) (Zs X0 x1 (8 * (i 0).val + s.val) p.val (hT s) p.isLt) (8 * (i 0).val + s.val - 1)
      (rd8 arg8 (2 * s.val + p.val) (by omega) f8))
    (hg : 0 < 8 * (i 0).val + s.val → g = 1#1) (hP : St i arg7 arg8 x1 x2 X0 hT f7 f8 s.val P) :
    St i arg7 arg8 x1 x2 X0 hT f7 f8 (s.val + 1)
      (loopP arg8 (ldQ arg1 harg1 x0 s.val 0 s.isLt (by decide)) tri arg7 (ldQ arg1 harg1 x0 s.val 1 s.isLt (by decide)) x1 x2
        (2 * s.val) (2 * s.val + 1) (by omega) (by omega) (8 * (i 0).val + s.val - 1) g P) := by
  obtain ⟨hd, hk7, hk8⟩ := hP
  have P0 := pair_of i arg1 harg1 x0 x1 x2 X0 hx h0 h1 s.val 0 s.isLt (by decide) (hT s)
  have P1 := pair_of i arg1 harg1 x0 x1 x2 X0 hx h0 h1 s.val 1 s.isLt (by decide) (hT s)
  have a0 := AccInv.of_eq (hk7 (2 * s.val) (by omega) (le_refl _)) (ha 0)
  have a1 := AccInv.of_eq (hk7 (2 * s.val + 1) (by omega) (by omega)) (ha 1)
  have hgl : 8 * (i 0).val + s.val - 1 = 0 ∨ (g = 1#1 ∧
      LatInv (8 * (i 0).val + s.val) (Zs X0 x1 (8 * (i 0).val + s.val) 0 (hT s) (by decide)) (8 * (i 0).val + s.val - 1) (rd8 arg8 (2 * s.val) (by omega) P.2) ∧
      LatInv (8 * (i 0).val + s.val) (Zs X0 x1 (8 * (i 0).val + s.val) 1 (hT s) (by decide)) (8 * (i 0).val + s.val - 1) (rd8 arg8 (2 * s.val + 1) (by omega) P.2)) := by
    by_cases h : 0 < 8 * (i 0).val + s.val
    · have l0 := LatInv.of_eq (hk8 (2 * s.val) (by omega) (le_refl _)) (hl h 0)
      have l1 := LatInv.of_eq (hk8 (2 * s.val + 1) (by omega) (by omega)) (hl h 1)
      exact Or.inr (And.intro (hg h) (And.intro l0 l1))
    · exact Or.inl (by omega)
  have key := loop_after arg7 arg8 (2 * s.val) (2 * s.val + 1) (by omega) (by omega) (by omega) P0 P1 tri ht (8 * (i 0).val + s.val - 1) g P.1 P.2 (by omega) hgl a0 a1
  obtain ⟨k1, k2, k3, k4⟩ := key
  refine ⟨fun s' p hs' => ?_, fun n hn h2 => ?_, fun n hn h2 => ?_⟩
  · by_cases e : s' = s
    · subst e
      by_cases hp0 : p = 0
      · subst hp0; exact k1
      · obtain rfl : p = 1 := by omega
        exact k2
    · have e' : s'.val ≠ s.val := fun h => e (Fin.ext h)
      exact AccInv.of_eq (k3 (2 * s'.val + p.val) (by omega) (by omega) (by omega)) (hd s' p (by omega))
  · exact (k3 n hn (by omega) (by omega)).trans (hk7 n hn (by omega))
  · exact (k4 n hn (by omega) (by omega)).trans (hk8 n hn (by omega))

theorem acc_case (hx : BlockOf i x0 X0) (h0 : Real' X0) (h1 : Real' x1) (ht : IsTri (ldT c arg5 harg5 x4)) (s : Fin 8) (p : Fin 2) (hT : 8 * (i 0).val + s.val < 128)
    (acc : FVec Ideal S1x128x128 .f32) (np : EReal) (k0 v0 k1 v1 : FVec Ideal S128x128 .bf16)
    (hnp : np = npOf (F := Ideal) i (BitVec.ofNat 32 s.val))
    (e0 : k0 = tileOf p.val p.isLt x1 (8 * (i 0).val + s.val)) (e1 : v0 = tileOf p.val p.isLt x2 (8 * (i 0).val + s.val))
    (e2 : k1 = tileOf p.val p.isLt x1 (8 * (i 0).val + s.val - 1)) (e3 : v1 = tileOf p.val p.isLt x2 (8 * (i 0).val + s.val - 1))
    (e : acc = accInit (F := Ideal) np (ldQ arg1 harg1 x0 s.val p.val s.isLt p.isLt) (ldT c arg5 harg5 x4) k0 v0 k1 v1) :
    AccInv (8 * (i 0).val + s.val) (Zs X0 x1 (8 * (i 0).val + s.val) p.val hT p.isLt) (Ws x2 p.val p.isLt) (8 * (i 0).val + s.val - 1) acc := by
  subst hnp e0 e1 e2 e3 e
  exact (pair_of i arg1 harg1 x0 x1 x2 X0 hx h0 h1 s.val p.val s.isLt p.isLt hT).acc_init _ ht _ (npOf_eq i s)

theorem lat_case (hx : BlockOf i x0 X0) (h0 : Real' X0) (h1 : Real' x1) (s : Fin 8) (p : Fin 2) (hT : 8 * (i 0).val + s.val < 128) (hpos : 0 < 8 * (i 0).val + s.val)
    (lat : FVec Ideal S1x128x256 .f32) (k0 k1 : FVec Ideal S128x128 .bf16)
    (e0 : k0 = tileOf p.val p.isLt x1 (8 * (i 0).val + s.val)) (e2 : k1 = tileOf p.val p.isLt x1 (8 * (i 0).val + s.val - 1))
    (e : lat = latInit (F := Ideal) (ldQ arg1 harg1 x0 s.val p.val s.isLt p.isLt) k0 k1) :
    LatInv (8 * (i 0).val + s.val) (Zs X0 x1 (8 * (i 0).val + s.val) p.val hT p.isLt) (8 * (i 0).val + s.val - 1) lat := by
  subst e0 e2 e
  exact (pair_of i arg1 harg1 x0 x1 x1 X0 hx h0 h1 s.val p.val s.isLt p.isLt hT).lat_init hpos

theorem flag_case (hx : BlockOf i x0 X0) (h0 : Real' X0) (h1 : Real' x1) (s : Fin 8) (hT : 8 * (i 0).val + s.val < 128) (hpos : 0 < 8 * (i 0).val + s.val)
    (g : BitVec 1) (k0 k1 q1 l0 l1 : FVec Ideal S128x128 .bf16)
    (e0 : k0 = tileOf 0 (by decide) x1 (8 * (i 0).val + s.val)) (e2 : k1 = tileOf 0 (by decide) x1 (8 * (i 0).val + s.val - 1))
    (e : g = flagInit (F := Ideal) (ldQ arg1 harg1 x0 s.val 0 s.isLt (by decide)) k0 k1 q1 l0 l1) : g = 1#1 := by
  rw [e, e0, e2]
  exact flagInit_pos (pair_of i arg1 harg1 x0 x1 x1 X0 hx h0 h1 s.val 0 s.isLt (by decide) hT) hpos q1 l0 l1

theorem acc_all (hx : BlockOf i x0 X0) (h0 : Real' X0) (h1 : Real' x1) (ht : IsTri (ldT c arg5 harg5 x4)) (hT : ∀ s : Fin 8, 8 * (i 0).val + s.val < 128) :
    ∀ (s : Fin 8) (p : Fin 2), AccInv (8 * (i 0).val + s.val) (Zs X0 x1 (8 * (i 0).val + s.val) p.val (hT s) p.isLt) (Ws x2 p.val p.isLt) (8 * (i 0).val + s.val - 1)
      (rd7 arg7 (2 * s.val + p.val) (by omega) (first7 c i arg1 harg1 arg2 harg2 arg3 harg3 arg5 harg5 arg7 x0 x1 x2 x4))
  | 0, 0 => acc_case c i arg1 harg1 arg5 harg5 x0 x1 x2 x4 X0 hx h0 h1 ht 0 0 (hT 0) _ _ _ _ _ _ rfl (ldD0_eq i arg2 harg2 x1 0) (ldD0_eq i arg3 harg3 x2 0) (ldP0_eq i arg2 harg2 x1 0) (ldP0_eq i arg3 harg3 x2 0) (acc0 c i arg1 harg1 arg2 harg2 arg3 harg3 arg5 harg5 arg7 x0 x1 x2 x4)
  | 0, 1 => acc_case c i arg1 harg1 arg5 harg5 x0 x1 x2 x4 X0 hx h0 h1 ht 0 1 (hT 0) _ _ _ _ _ _ rfl (ldD1_eq i arg2 harg2 x1 0) (ldD1_eq i arg3 harg3 x2 0) (ldP1_eq i arg2 harg2 x1 0) (ldP1_eq i arg3 harg3 x2 0) (acc1 c i arg1 harg1 arg2 harg2 arg3 harg3 arg5 harg5 arg7 x0 x1 x2 x4)
  | 1, 0 => acc_case c i arg1 harg1 arg5 harg5 x0 x1 x2 x4 X0 hx h0 h1 ht 1 0 (hT 1) _ _ _ _ _ _ rfl (ldD0_eq i arg2 harg2 x1 1) (ldD0_eq i arg3 harg3 x2 1) (ldP0_eq i arg2 harg2 x1 1) (ldP0_eq i arg3 harg3 x2 1) (acc2 c i arg1 harg1 arg2 harg2 arg3 harg3 arg5 harg5 arg7 x0 x1 x2 x4)
  | 1, 1 => acc_case c i arg1 harg1 arg5 harg5 x0 x1 x2 x4 X0 hx h0 h1 ht 1 1 (hT 1) _ _ _ _ _ _ rfl (ldD1_eq i arg2 harg2 x1 1) (ldD1_eq i arg3 harg3 x2 1) (ldP1_eq i arg2 harg2 x1 1) (ldP1_eq i arg3 harg3 x2 1) (acc3 c i arg1 harg1 arg2 harg2 arg3 harg3 arg5 harg5 arg7 x0 x1 x2 x4)
  | 2, 0 => acc_case c i arg1 harg1 arg5 harg5 x0 x1 x2 x4 X0 hx h0 h1 ht 2 0 (hT 2) _ _ _ _ _ _ rfl (ldD0_eq i arg2 harg2 x1 2) (ldD0_eq i arg3 harg3 x2 2) (ldP0_eq i arg2 harg2 x1 2) (ldP0_eq i arg3 harg3 x2 2) (acc4 c i arg1 harg1 arg2 harg2 arg3 harg3 arg5 harg5 arg7 x0 x1 x2 x4)
  | 2, 1 => acc_case c i arg1 harg1 arg5 harg5 x0 x1 x2 x4 X0 hx h0 h1 ht 2 1 (hT 2) _ _ _ _ _ _ rfl (ldD1_eq i arg2 harg2 x1 2) (ldD1_eq i arg3 harg3 x2 2) (ldP1_eq i arg2 harg2 x1 2) (ldP1_eq i arg3 harg3 x2 2) (acc5 c i arg1 harg1 arg2 harg2 arg3 harg3 arg5 harg5 arg7 x0 x1 x2 x4)
  | 3, 0 => acc_case c i arg1 harg1 arg5 harg5 x0 x1 x2 x4 X0 hx h0 h1 ht 3 0 (hT 3) _ _ _ _ _ _ rfl (ldD0_eq i arg2 harg2 x1 3) (ldD0_eq i arg3 harg3 x2 3) (ldP0_eq i arg2 harg2 x1 3) (ldP0_eq i arg3 harg3 x2 3) (acc6 c i arg1 harg1 arg2 harg2 arg3 harg3 arg5 harg5 arg7 x0 x1 x2 x4)
  | 3, 1 => acc_case c i arg1 harg1 arg5 harg5 x0 x1 x2 x4 X0 hx h0 h1 ht 3 1 (hT 3) _ _ _ _ _ _ rfl (ldD1_eq i arg2 harg2 x1 3) (ldD1_eq i arg3 harg3 x2 3) (ldP1_eq i arg2 harg2 x1 3) (ldP1_eq i arg3 harg3 x2 3) (acc7 c i arg1 harg1 arg2 harg2 arg3 harg3 arg5 harg5 arg7 x0 x1 x2 x4)
  | 4, 0 => acc_case c i arg1 harg1 arg5 harg5 x0 x1 x2 x4 X0 hx h0 h1 ht 4 0 (hT 4) _ _ _ _ _ _ rfl (ldD0_eq i arg2 harg2 x1 4) (ldD0_eq i arg3 harg3 x2 4) (ldP0_eq i arg2 harg2 x1 4) (ldP0_eq i arg3 harg3 x2 4) (acc8 c i arg1 harg1 arg2 harg2 arg3 harg3 arg5 harg5 arg7 x0 x1 x2 x4)
  | 4, 1 => acc_case c i arg1 harg1 arg5 harg5 x0 x1 x2 x4 X0 hx h0 h1 ht 4 1 (hT 4) _ _ _ _ _ _ rfl (ldD1_eq i arg2 harg2 x1 4) (ldD1_eq i arg3 harg3 x2 4) (ldP1_eq i arg2 harg2 x1 4) (ldP1_eq i arg3 harg3 x2 4) (acc9 c i arg1 harg1 arg2 harg2 arg3 harg3 arg5 harg5 arg7 x0 x1 x2 x4)
  | 5, 0 => acc_case c i arg1 harg1 arg5 harg5 x0 x1 x2 x4 X0 hx h0 h1 ht 5 0 (hT 5) _ _ _ _ _ _ rfl (ldD0_eq i arg2 harg2 x1 5) (ldD0_eq i arg3 harg3 x2 5) (ldP0_eq i arg2 harg2 x1 5) (ldP0_eq i arg3 harg3 x2 5) (acc10 c i arg1 harg1 arg2 harg2 arg3 harg3 arg5 harg5 arg7 x0 x1 x2 x4)
  | 5, 1 => acc_case c i arg1 harg1 arg5 harg5 x0 x1 x2 x4 X0 hx h0 h1 ht 5 1 (hT 5) _ _ _ _ _ _ rfl (ldD1_eq i arg2 harg2 x1 5) (ldD1_eq i arg3 harg3 x2 5) (ldP1_eq i arg2 harg2 x1 5) (ldP1_eq i arg3 harg3 x2 5) (acc11 c i arg1 harg1 arg2 harg2 arg3 harg3 arg5 harg5 arg7 x0 x1 x2 x4)
  | 6, 0 => acc_case c i arg1 harg1 arg5 harg5 x0 x1 x2 x4 X0 hx h0 h1 ht 6 0 (hT 6) _ _ _ _ _ _ rfl (ldD0_eq i arg2 harg2 x1 6) (ldD0_eq i arg3 harg3 x2 6) (ldP0_eq i arg2 harg2 x1 6) (ldP0_eq i arg3 harg3 x2 6) (acc12 c i arg1 harg1 arg2 harg2 arg3 harg3 arg5 harg5 arg7 x0 x1 x2 x4)
  | 6, 1 => acc_case c i arg1 harg1 arg5 harg5 x0 x1 x2 x4 X0 hx h0 h1 ht 6 1 (hT 6) _ _ _ _ _ _ rfl (ldD1_eq i arg2 harg2 x1 6) (ldD1_eq i arg3 harg3 x2 6) (ldP1_eq i arg2 harg2 x1 6) (ldP1_eq i arg3 harg3 x2 6) (acc13 c i arg1 harg1 arg2 harg2 arg3 harg3 arg5 harg5 arg7 x0 x1 x2 x4)
  | 7, 0 => acc_case c i arg1 harg1 arg5 harg5 x0 x1 x2 x4 X0 hx h0 h1 ht 7 0 (hT 7) _ _ _ _ _ _ rfl (ldD0_eq i arg2 harg2 x1 7) (ldD0_eq i arg3 harg3 x2 7) (ldP0_eq i arg2 harg2 x1 7) (ldP0_eq i arg3 harg3 x2 7) (acc14 c i arg1 harg1 arg2 harg2 arg3 harg3 arg5 harg5 arg7 x0 x1 x2 x4)
  | 7, 1 => acc_case c i arg1 harg1 arg5 harg5 x0 x1 x2 x4 X0 hx h0 h1 ht 7 1 (hT 7) _ _ _ _ _ _ rfl (ldD1_eq i arg2 harg2 x1 7) (ldD1_eq i arg3 harg3 x2 7) (ldP1_eq i arg2 harg2 x1 7) (ldP1_eq i arg3 harg3 x2 7) (acc15 c i arg1 harg1 arg2 harg2 arg3 harg3 arg5 harg5 arg7 x0 x1 x2 x4)

theorem lat_all (hx : BlockOf i x0 X0) (h0 : Real' X0) (h1 : Real' x1) (hT : ∀ s : Fin 8, 8 * (i 0).val + s.val < 128) :
    ∀ (s : Fin 8) (p : Fin 2), 0 < 8 * (i 0).val + s.val → LatInv (8 * (i 0).val + s.val) (Zs X0 x1 (8 * (i 0).val + s.val) p.val (hT s) p.isLt) (8 * (i 0).val + s.val - 1)
      (rd8 arg8 (2 * s.val + p.val) (by omega) (first8 c i arg1 harg1 arg2 harg2 arg8 x0 x1))
  | 0, 0 => fun hpos => lat_case i arg1 harg1 x0 x1 X0 hx h0 h1 0 0 (hT 0) hpos _ _ _ (ldD0_eq i arg2 harg2 x1 0) (ldP0_eq i arg2 harg2 x1 0) (lat0 c i arg1 harg1 arg2 harg2 arg8 x0 x1)
  | 0, 1 => fun hpos => lat_case i arg1 harg1 x0 x1 X0 hx h0 h1 0 1 (hT 0) hpos _ _ _ (ldD1_eq i arg2 harg2 x1 0) (ldP1_eq i arg2 harg2 x1 0) (lat1 c i arg1 harg1 arg2 harg2 arg8 x0 x1)
  | 1, 0 => fun hpos => lat_case i arg1 harg1 x0 x1 X0 hx h0 h1 1 0 (hT 1) hpos _ _ _ (ldD0_eq i arg2 harg2 x1 1) (ldP0_eq i arg2 harg2 x1 1) (lat2 c i arg1 harg1 arg2 harg2 arg8 x0 x1)
  | 1, 1 => fun hpos => lat_case i arg1 harg1 x0 x1 X0 hx h0 h1 1 1 (hT 1) hpos _ _ _ (ldD1_eq i arg2 harg2 x1 1) (ldP1_eq i arg2 harg2 x1 1) (lat3 c i arg1 harg1 arg2 harg2 arg8 x0 x1)
  | 2, 0 => fun hpos => lat_case i arg1 harg1 x0 x1 X0 hx h0 h1 2 0 (hT 2) hpos _ _ _ (ldD0_eq i arg2 harg2 x1 2) (ldP0_eq i arg2 harg2 x1 2) (lat4 c i arg1 harg1 arg2 harg2 arg8 x0 x1)
  | 2, 1 => fun hpos => lat_case i arg1 harg1 x0 x1 X0 hx h0 h1 2 1 (hT 2) hpos _ _ _ (ldD1_eq i arg2 harg2 x1 2) (ldP1_eq i arg2 harg2 x1 2) (lat5 c i arg1 harg1 arg2 harg2 arg8 x0 x1)
  | 3, 0 => fun hpos => lat_case i arg1 harg1 x0 x1 X0 hx h0 h1 3 0 (hT 3) hpos _ _ _ (ldD0_eq i arg2 harg2 x1 3) (ldP0_eq i arg2 harg2 x1 3) (lat6 c i arg1 harg1 arg2 harg2 arg8 x0 x1)
  | 3, 1 => fun hpos => lat_case i arg1 harg1 x0 x1 X0 hx h0 h1 3 1 (hT 3) hpos _ _ _ (ldD1_eq i arg2 harg2 x1 3) (ldP1_eq i arg2 harg2 x1 3) (lat7 c i arg1 harg1 arg2 harg2 arg8 x0 x1)
  | 4, 0 => fun hpos => lat_case i arg1 harg1 x0 x1 X0 hx h0 h1 4 0 (hT 4) hpos _ _ _ (ldD0_eq i arg2 harg2 x1 4) (ldP0_eq i arg2 harg2 x1 4) (lat8 c i arg1 harg1 arg2 harg2 arg8 x0 x1)
  | 4, 1 => fun hpos => lat_case i arg1 harg1 x0 x1 X0 hx h0 h1 4 1 (hT 4) hpos _ _ _ (ldD1_eq i arg2 harg2 x1 4) (ldP1_eq i arg2 harg2 x1 4) (lat9 c i arg1 harg1 arg2 harg2 arg8 x0 x1)
  | 5, 0 => fun hpos => lat_case i arg1 harg1 x0 x1 X0 hx h0 h1 5 0 (hT 5) hpos _ _ _ (ldD0_eq i arg2 harg2 x1 5) (ldP0_eq i arg2 harg2 x1 5) (lat10 c i arg1 harg1 arg2 harg2 arg8 x0 x1)
  | 5, 1 => fun hpos => lat_case i arg1 harg1 x0 x1 X0 hx h0 h1 5 1 (hT 5) hpos _ _ _ (ldD1_eq i arg2 harg2 x1 5) (ldP1_eq i arg2 harg2 x1 5) (lat11 c i arg1 harg1 arg2 harg2 arg8 x0 x1)
  | 6, 0 => fun hpos => lat_case i arg1 harg1 x0 x1 X0 hx h0 h1 6 0 (hT 6) hpos _ _ _ (ldD0_eq i arg2 harg2 x1 6) (ldP0_eq i arg2 harg2 x1 6) (lat12 c i arg1 harg1 arg2 harg2 arg8 x0 x1)
  | 6, 1 => fun hpos => lat_case i arg1 harg1 x0 x1 X0 hx h0 h1 6 1 (hT 6) hpos _ _ _ (ldD1_eq i arg2 harg2 x1 6) (ldP1_eq i arg2 harg2 x1 6) (lat13 c i arg1 harg1 arg2 harg2 arg8 x0 x1)
  | 7, 0 => fun hpos => lat_case i arg1 harg1 x0 x1 X0 hx h0 h1 7 0 (hT 7) hpos _ _ _ (ldD0_eq i arg2 harg2 x1 7) (ldP0_eq i arg2 harg2 x1 7) (lat14 c i arg1 harg1 arg2 harg2 arg8 x0 x1)
  | 7, 1 => fun hpos => lat_case i arg1 harg1 x0 x1 X0 hx h0 h1 7 1 (hT 7) hpos _ _ _ (ldD1_eq i arg2 harg2 x1 7) (ldP1_eq i arg2 harg2 x1 7) (lat15 c i arg1 harg1 arg2 harg2 arg8 x0 x1)

/-- The flag sub-block `s` starts its loop with. -/
def flagOf : Fin 8 → BitVec 1
  | 0 => bodyRun.sl.v322 (F := Ideal) c i arg1 harg1 arg2 harg2 x0 x1
  | 1 => bodyRun.sl.v624 (F := Ideal) c i arg1 harg1 arg2 harg2 x0 x1
  | 2 => bodyRun.sl.v926 (F := Ideal) c i arg1 harg1 arg2 harg2 x0 x1
  | 3 => bodyRun.sl.v1228 (F := Ideal) c i arg1 harg1 arg2 harg2 x0 x1
  | 4 => bodyRun.sl.v1530 (F := Ideal) c i arg1 harg1 arg2 harg2 x0 x1
  | 5 => bodyRun.sl.v1832 (F := Ideal) c i arg1 harg1 arg2 harg2 x0 x1
  | 6 => bodyRun.sl.v2134 (F := Ideal) c i arg1 harg1 arg2 harg2 x0 x1
  | 7 => bodyRun.sl.v2436 (F := Ideal) c i arg1 harg1 arg2 harg2 x0 x1

theorem flag_all (hx : BlockOf i x0 X0) (h0 : Real' X0) (h1 : Real' x1) (hT : ∀ s : Fin 8, 8 * (i 0).val + s.val < 128) :
    ∀ s : Fin 8, 0 < 8 * (i 0).val + s.val → flagOf c i arg1 harg1 arg2 harg2 x0 x1 s = 1#1
  | 0 => fun hpos => flag_case i arg1 harg1 x0 x1 X0 hx h0 h1 0 (hT 0) hpos _ _ _ _ _ _ (ldD0_eq i arg2 harg2 x1 0) (ldP0_eq i arg2 harg2 x1 0) (flag0 c i arg1 harg1 arg2 harg2 x0 x1)
  | 1 => fun hpos => flag_case i arg1 harg1 x0 x1 X0 hx h0 h1 1 (hT 1) hpos _ _ _ _ _ _ (ldD0_eq i arg2 harg2 x1 1) (ldP0_eq i arg2 harg2 x1 1) (flag1 c i arg1 harg1 arg2 harg2 x0 x1)
  | 2 => fun hpos => flag_case i arg1 harg1 x0 x1 X0 hx h0 h1 2 (hT 2) hpos _ _ _ _ _ _ (ldD0_eq i arg2 harg2 x1 2) (ldP0_eq i arg2 harg2 x1 2) (flag2 c i arg1 harg1 arg2 harg2 x0 x1)
  | 3 => fun hpos => flag_case i arg1 harg1 x0 x1 X0 hx h0 h1 3 (hT 3) hpos _ _ _ _ _ _ (ldD0_eq i arg2 harg2 x1 3) (ldP0_eq i arg2 harg2 x1 3) (flag3 c i arg1 harg1 arg2 harg2 x0 x1)
  | 4 => fun hpos => flag_case i arg1 harg1 x0 x1 X0 hx h0 h1 4 (hT 4) hpos _ _ _ _ _ _ (ldD0_eq i arg2 harg2 x1 4) (ldP0_eq i arg2 harg2 x1 4) (flag4 c i arg1 harg1 arg2 harg2 x0 x1)
  | 5 => fun hpos => flag_case i arg1 harg1 x0 x1 X0 hx h0 h1 5 (hT 5) hpos _ _ _ _ _ _ (ldD0_eq i arg2 harg2 x1 5) (ldP0_eq i arg2 harg2 x1 5) (flag5 c i arg1 harg1 arg2 harg2 x0 x1)
  | 6 => fun hpos => flag_case i arg1 harg1 x0 x1 X0 hx h0 h1 6 (hT 6) hpos _ _ _ _ _ _ (ldD0_eq i arg2 harg2 x1 6) (ldP0_eq i arg2 harg2 x1 6) (flag6 c i arg1 harg1 arg2 harg2 x0 x1)
  | 7 => fun hpos => flag_case i arg1 harg1 x0 x1 X0 hx h0 h1 7 (hT 7) hpos _ _ _ _ _ _ (ldD0_eq i arg2 harg2 x1 7) (ldP0_eq i arg2 harg2 x1 7) (flag7 c i arg1 harg1 arg2 harg2 x0 x1)

/-- One sub-block's loop. -/
def stepP (s : Fin 8) (P : C7 Ideal arg7 × C8 Ideal arg8) : C7 Ideal arg7 × C8 Ideal arg8 :=
  loopP arg8 (ldQ arg1 harg1 x0 s.val 0 s.isLt (by decide)) (ldT c arg5 harg5 x4) arg7 (ldQ arg1 harg1 x0 s.val 1 s.isLt (by decide)) x1 x2
    (2 * s.val) (2 * s.val + 1) (by omega) (by omega) (8 * (i 0).val + s.val - 1) (flagOf c i arg1 harg1 arg2 harg2 x0 x1 s) P

theorem lastR_eq : lastR c i arg1 harg1 arg2 harg2 arg3 harg3 arg5 harg5 arg7 arg8 x0 x1 x2 x4 =
    stepP c i arg1 harg1 arg2 harg2 arg5 harg5 arg7 arg8 x0 x1 x2 x4 7 (stepP c i arg1 harg1 arg2 harg2 arg5 harg5 arg7 arg8 x0 x1 x2 x4 6 (stepP c i arg1 harg1 arg2 harg2 arg5 harg5 arg7 arg8 x0 x1 x2 x4 5 (stepP c i arg1 harg1 arg2 harg2 arg5 harg5 arg7 arg8 x0 x1 x2 x4 4 (stepP c i arg1 harg1 arg2 harg2 arg5 harg5 arg7 arg8 x0 x1 x2 x4 3 (stepP c i arg1 harg1 arg2 harg2 arg5 harg5 arg7 arg8 x0 x1 x2 x4 2 (stepP c i arg1 harg1 arg2 harg2 arg5 harg5 arg7 arg8 x0 x1 x2 x4 1 (stepP c i arg1 harg1 arg2 harg2 arg5 harg5 arg7 arg8 x0 x1 x2 x4 0 (first7 c i arg1 harg1 arg2 harg2 arg3 harg3 arg5 harg5 arg7 x0 x1 x2 x4, first8 c i arg1 harg1 arg2 harg2 arg8 x0 x1)))))))) := rfl

theorem St.zero (hT : ∀ s : Fin 8, 8 * (i 0).val + s.val < 128) (f7 : C7 Ideal arg7) (f8 : C8 Ideal arg8) :
    St i arg7 arg8 x1 x2 X0 hT f7 f8 0 (f7, f8) :=
  ⟨fun s p h => absurd h (Nat.not_lt_zero _), fun _ _ _ => rfl, fun _ _ _ => rfl⟩

theorem St.next (hx : BlockOf i x0 X0) (h0 : Real' X0) (h1 : Real' x1) (ht : IsTri (ldT c arg5 harg5 x4)) (hT : ∀ s : Fin 8, 8 * (i 0).val + s.val < 128)
    (s : Fin 8) (P : C7 Ideal arg7 × C8 Ideal arg8)
    (hP : St i arg7 arg8 x1 x2 X0 hT (first7 c i arg1 harg1 arg2 harg2 arg3 harg3 arg5 harg5 arg7 x0 x1 x2 x4) (first8 c i arg1 harg1 arg2 harg2 arg8 x0 x1) s.val P) :
    St i arg7 arg8 x1 x2 X0 hT (first7 c i arg1 harg1 arg2 harg2 arg3 harg3 arg5 harg5 arg7 x0 x1 x2 x4) (first8 c i arg1 harg1 arg2 harg2 arg8 x0 x1) (s.val + 1)
      (stepP c i arg1 harg1 arg2 harg2 arg5 harg5 arg7 arg8 x0 x1 x2 x4 s P) :=
  step_of i arg1 harg1 arg7 arg8 x0 x1 x2 X0 hx h0 h1 hT (ldT c arg5 harg5 x4) ht _ _ s _ P
    (fun p => acc_all c i arg1 harg1 arg2 harg2 arg3 harg3 arg5 harg5 arg7 x0 x1 x2 x4 X0 hx h0 h1 ht hT s p)
    (fun hpos p => lat_all c i arg1 harg1 arg2 harg2 arg8 x0 x1 X0 hx h0 h1 hT s p hpos)
    (fun hpos => flag_all c i arg1 harg1 arg2 harg2 x0 x1 X0 hx h0 h1 hT s hpos) hP

theorem St.all (hx : BlockOf i x0 X0) (h0 : Real' X0) (h1 : Real' x1) (ht : IsTri (ldT c arg5 harg5 x4)) (hT : ∀ s : Fin 8, 8 * (i 0).val + s.val < 128) :
    St i arg7 arg8 x1 x2 X0 hT (first7 c i arg1 harg1 arg2 harg2 arg3 harg3 arg5 harg5 arg7 x0 x1 x2 x4) (first8 c i arg1 harg1 arg2 harg2 arg8 x0 x1) 8
      (lastR c i arg1 harg1 arg2 harg2 arg3 harg3 arg5 harg5 arg7 arg8 x0 x1 x2 x4) := by
  rw [lastR_eq]
  refine St.next c i arg1 harg1 arg2 harg2 arg3 harg3 arg5 harg5 arg7 arg8 x0 x1 x2 x4 X0 hx h0 h1 ht hT 7 _ ?_
  refine St.next c i arg1 harg1 arg2 harg2 arg3 harg3 arg5 harg5 arg7 arg8 x0 x1 x2 x4 X0 hx h0 h1 ht hT 6 _ ?_
  refine St.next c i arg1 harg1 arg2 harg2 arg3 harg3 arg5 harg5 arg7 arg8 x0 x1 x2 x4 X0 hx h0 h1 ht hT 5 _ ?_
  refine St.next c i arg1 harg1 arg2 harg2 arg3 harg3 arg5 harg5 arg7 arg8 x0 x1 x2 x4 X0 hx h0 h1 ht hT 4 _ ?_
  refine St.next c i arg1 harg1 arg2 harg2 arg3 harg3 arg5 harg5 arg7 arg8 x0 x1 x2 x4 X0 hx h0 h1 ht hT 3 _ ?_
  refine St.next c i arg1 harg1 arg2 harg2 arg3 harg3 arg5 harg5 arg7 arg8 x0 x1 x2 x4 X0 hx h0 h1 ht hT 2 _ ?_
  refine St.next c i arg1 harg1 arg2 harg2 arg3 harg3 arg5 harg5 arg7 arg8 x0 x1 x2 x4 X0 hx h0 h1 ht hT 1 _ ?_
  refine St.next c i arg1 harg1 arg2 harg2 arg3 harg3 arg5 harg5 arg7 arg8 x0 x1 x2 x4 X0 hx h0 h1 ht hT 0 _ ?_
  exact St.zero i arg7 arg8 x1 x2 X0 hT _ _

/-- What the output block is to hold. -/
def outG : Vec Ideal S1024x256 .bf16 := fun y =>
  O (zrow X0 x1 ⟨1024 * (i 0).val + (y 0).val, by have h : (i 0).val < 16 := (i 0).isLt; have h2 : (y 0).val < 1024 := (y 0).isLt; omega⟩ (y 1)) (vrow x2 (y 1)) (1024 * (i 0).val + (y 0).val) 0 * x3 y

theorem piece_at (hT : ∀ s : Fin 8, 8 * (i 0).val + s.val < 128) (s p : ℕ) (hs : s < 8) (hp : p < 2) (n : ℕ) (hn : n < 16)
    (ha : AccInv (8 * (i 0).val + s) (Zs X0 x1 (8 * (i 0).val + s) p (hT ⟨s, hs⟩) hp) (Ws x2 p hp) 0
      (rd7 arg7 n hn (lastR c i arg1 harg1 arg2 harg2 arg3 harg3 arg5 harg5 arg7 arg8 x0 x1 x2 x4).1)) (x : S128x128.Idx) :
    (outPiece c i arg1 harg1 arg2 harg2 arg3 harg3 arg4 harg4 arg5 harg5 arg7 arg8 x0 x1 x2 x3 x4 s p hs hp n hn).2 x =
      outG i x1 x2 x3 X0 ((outPiece c i arg1 harg1 arg2 harg2 arg3 harg3 arg4 harg4 arg5 harg5 arg7 arg8 x0 x1 x2 x3 x4 s p hs hp n hn).1.emb x) := by
  obtain ⟨r, l, rfl⟩ : ∃ r l, x = ix2 r l := ⟨x 0, x 1, funext fun a => by fin_cases a <;> rfl⟩
  have hi : (i 0).val < 16 := (i 0).isLt
  have e : (outPiece c i arg1 harg1 arg2 harg2 arg3 harg3 arg4 harg4 arg5 harg5 arg7 arg8 x0 x1 x2 x3 x4 s p hs hp n hn).1.emb (ix2 r l) =
      ix2 (⟨128 * s + r, by omega⟩ : Fin 1024) (⟨128 * p + l, by omega⟩ : Fin 256) := by
    refine funext fun a => Fin.ext ?_
    fin_cases a
    · exact congrArg (128 * s + ·) (Nat.one_mul _)
    · exact congrArg (128 * p + ·) (Nat.one_mul _)
  rw [e]
  unfold outPiece
  dsimp only
  generalize hA : rd7 arg7 n hn (lastR c i arg1 harg1 arg2 harg2 arg3 harg3 arg5 harg5 arg7 arg8 x0 x1 x2 x4).1 = A at ha
  pointwise [k0_pay320]
  have hg : ldQ arg4 harg4 x3 s p hs hp (ix2 r l) = x3 (ix2 ⟨128 * s + r, by omega⟩ ⟨128 * p + l, by omega⟩) := by
    unfold ldQ
    rw [View.readAt_eq_ld, harg4.read_unread]
    exact ld_at x3 _ _ r l _ _ rfl rfl
  unfold outG
  refine congrArg₂ (· * ·) ((ha r l).trans ?_) hg
  have e1 : Zs X0 x1 (8 * (i 0).val + s) p (hT ⟨s, hs⟩) hp r (hd l) = zrow X0 x1 ⟨1024 * (i 0).val + (128 * s + r), by omega⟩ ⟨128 * p + l, by omega⟩ := by
    unfold Zs
    refine zrow_congr X0 x1 _ _ _ _ ?_ ?_
    · dsimp only; omega
    · unfold hd; dsimp only; omega
  rw [e1, show 128 * (8 * (i 0).val + s) + r.val = 1024 * (i 0).val + (128 * s + r.val) by omega]
  rfl

theorem mem_piece (s p : ℕ) (hs : s < 8) (hp : p < 2) (n : ℕ) (hn : n < 16) (y : S1024x256.Idx) (e0 : (y 0).val / 128 = s) (e1 : (y 1).val / 128 = p) :
    y ∈ (outPiece c i arg1 harg1 arg2 harg2 arg3 harg3 arg4 harg4 arg5 harg5 arg7 arg8 x0 x1 x2 x3 x4 s p hs hp n hn).1.set := by
  show y ∈ (Rect.unit (s := S1024x256) ![128 * s, 128 * p] S128x128.size (qb_inb s p hs hp)).set
  rw [Rect.mem_set_unit]
  intro a
  fin_cases a
  · show 128 * s ≤ (y 0).val ∧ (y 0).val < 128 * s + 128
    omega
  · show 128 * p ≤ (y 1).val ∧ (y 1).val < 128 * p + 128
    omega

theorem out_at (hx : BlockOf i x0 X0) (h0 : Real' X0) (h1 : Real' x1) (ht : IsTri (ldT c arg5 harg5 x4)) (y : S1024x256.Idx) :
    (bodyRun c i arg1 harg1 arg2 harg2 arg3 harg3 arg4 harg4 arg5 harg5 arg6 harg6 arg7 harg7 arg8 harg8 x0 x1 x2 x3 x4).1 y = outG i x1 x2 x3 X0 y := by
  have hT : ∀ s : Fin 8, 8 * (i 0).val + s.val < 128 := point_lt i
  have H := (St.all c i arg1 harg1 arg2 harg2 arg3 harg3 arg5 harg5 arg7 arg8 x0 x1 x2 x4 X0 hx h0 h1 ht hT).1
  rw [out_list]
  refine View.read_writes_apply_of_pieces (Val := Elt Ideal) _ _ (outG i x1 x2 x3 X0) _ ?_ y ?_
  · simp only [List.forall_mem_cons]
    exact ⟨piece_at c i arg1 harg1 arg2 harg2 arg3 harg3 arg4 harg4 arg5 harg5 arg7 arg8 x0 x1 x2 x3 x4 X0 hT 7 1 (by decide) (by decide) 15 (by decide) (H 7 1 (by decide)),
      piece_at c i arg1 harg1 arg2 harg2 arg3 harg3 arg4 harg4 arg5 harg5 arg7 arg8 x0 x1 x2 x3 x4 X0 hT 7 0 (by decide) (by decide) 14 (by decide) (H 7 0 (by decide)),
      piece_at c i arg1 harg1 arg2 harg2 arg3 harg3 arg4 harg4 arg5 harg5 arg7 arg8 x0 x1 x2 x3 x4 X0 hT 6 1 (by decide) (by decide) 13 (by decide) (H 6 1 (by decide)),
      piece_at c i arg1 harg1 arg2 harg2 arg3 harg3 arg4 harg4 arg5 harg5 arg7 arg8 x0 x1 x2 x3 x4 X0 hT 6 0 (by decide) (by decide) 12 (by decide) (H 6 0 (by decide)),
      piece_at c i arg1 harg1 arg2 harg2 arg3 harg3 arg4 harg4 arg5 harg5 arg7 arg8 x0 x1 x2 x3 x4 X0 hT 5 1 (by decide) (by decide) 11 (by decide) (H 5 1 (by decide)),
      piece_at c i arg1 harg1 arg2 harg2 arg3 harg3 arg4 harg4 arg5 harg5 arg7 arg8 x0 x1 x2 x3 x4 X0 hT 5 0 (by decide) (by decide) 10 (by decide) (H 5 0 (by decide)),
      piece_at c i arg1 harg1 arg2 harg2 arg3 harg3 arg4 harg4 arg5 harg5 arg7 arg8 x0 x1 x2 x3 x4 X0 hT 4 1 (by decide) (by decide) 9 (by decide) (H 4 1 (by decide)),
      piece_at c i arg1 harg1 arg2 harg2 arg3 harg3 arg4 harg4 arg5 harg5 arg7 arg8 x0 x1 x2 x3 x4 X0 hT 4 0 (by decide) (by decide) 8 (by decide) (H 4 0 (by decide)),
      piece_at c i arg1 harg1 arg2 harg2 arg3 harg3 arg4 harg4 arg5 harg5 arg7 arg8 x0 x1 x2 x3 x4 X0 hT 3 1 (by decide) (by decide) 7 (by decide) (H 3 1 (by decide)),
      piece_at c i arg1 harg1 arg2 harg2 arg3 harg3 arg4 harg4 arg5 harg5 arg7 arg8 x0 x1 x2 x3 x4 X0 hT 3 0 (by decide) (by decide) 6 (by decide) (H 3 0 (by decide)),
      piece_at c i arg1 harg1 arg2 harg2 arg3 harg3 arg4 harg4 arg5 harg5 arg7 arg8 x0 x1 x2 x3 x4 X0 hT 2 1 (by decide) (by decide) 5 (by decide) (H 2 1 (by decide)),
      piece_at c i arg1 harg1 arg2 harg2 arg3 harg3 arg4 harg4 arg5 harg5 arg7 arg8 x0 x1 x2 x3 x4 X0 hT 2 0 (by decide) (by decide) 4 (by decide) (H 2 0 (by decide)),
      piece_at c i arg1 harg1 arg2 harg2 arg3 harg3 arg4 harg4 arg5 harg5 arg7 arg8 x0 x1 x2 x3 x4 X0 hT 1 1 (by decide) (by decide) 3 (by decide) (H 1 1 (by decide)),
      piece_at c i arg1 harg1 arg2 harg2 arg3 harg3 arg4 harg4 arg5 harg5 arg7 arg8 x0 x1 x2 x3 x4 X0 hT 1 0 (by decide) (by decide) 2 (by decide) (H 1 0 (by decide)),
      piece_at c i arg1 harg1 arg2 harg2 arg3 harg3 arg4 harg4 arg5 harg5 arg7 arg8 x0 x1 x2 x3 x4 X0 hT 0 1 (by decide) (by decide) 1 (by decide) (H 0 1 (by decide)),
      piece_at c i arg1 harg1 arg2 harg2 arg3 harg3 arg4 harg4 arg5 harg5 arg7 arg8 x0 x1 x2 x3 x4 X0 hT 0 0 (by decide) (by decide) 0 (by decide) (H 0 0 (by decide)),
      fun _ h => absurd h List.not_mem_nil⟩
  · have b0 : (y 0).val < 1024 := (y 0).isLt
    have b1 : (y 1).val < 256 := (y 1).isLt
    obtain ⟨s, hs⟩ : ∃ s, (y 0).val / 128 = s := ⟨_, rfl⟩
    obtain ⟨p, hp⟩ : ∃ p, (y 1).val / 128 = p := ⟨_, rfl⟩
    have hs8 : s < 8 := by omega
    have hp2 : p < 2 := by omega
    simp only [List.exists_mem_cons_iff]
    interval_cases s <;> interval_cases p
    · exact .inr (.inr (.inr (.inr (.inr (.inr (.inr (.inr (.inr (.inr (.inr (.inr (.inr (.inr (.inr (.inl (mem_piece c i arg1 harg1 arg2 harg2 arg3 harg3 arg4 harg4 arg5 harg5 arg7 arg8 x0 x1 x2 x3 x4 0 0 (by decide) (by decide) 0 (by decide) y hs hp))))))))))))))))
    · exact .inr (.inr (.inr (.inr (.inr (.inr (.inr (.inr (.inr (.inr (.inr (.inr (.inr (.inr (.inl (mem_piece c i arg1 harg1 arg2 harg2 arg3 harg3 arg4 harg4 arg5 harg5 arg7 arg8 x0 x1 x2 x3 x4 0 1 (by decide) (by decide) 1 (by decide) y hs hp)))))))))))))))
    · exact .inr (.inr (.inr (.inr (.inr (.inr (.inr (.inr (.inr (.inr (.inr (.inr (.inr (.inl (mem_piece c i arg1 harg1 arg2 harg2 arg3 harg3 arg4 harg4 arg5 harg5 arg7 arg8 x0 x1 x2 x3 x4 1 0 (by decide) (by decide) 2 (by decide) y hs hp))))))))))))))
    · exact .inr (.inr (.inr (.inr (.inr (.inr (.inr (.inr (.inr (.inr (.inr (.inr (.inl (mem_piece c i arg1 harg1 arg2 harg2 arg3 harg3 arg4 harg4 arg5 harg5 arg7 arg8 x0 x1 x2 x3 x4 1 1 (by decide) (by decide) 3 (by decide) y hs hp)))))))))))))
    · exact .inr (.inr (.inr (.inr (.inr (.inr (.inr (.inr (.inr (.inr (.inr (.inl (mem_piece c i arg1 harg1 arg2 harg2 arg3 harg3 arg4 harg4 arg5 harg5 arg7 arg8 x0 x1 x2 x3 x4 2 0 (by decide) (by decide) 4 (by decide) y hs hp))))))))))))
    · exact .inr (.inr (.inr (.inr (.inr (.inr (.inr (.inr (.inr (.inr (.inl (mem_piece c i arg1 harg1 arg2 harg2 arg3 harg3 arg4 harg4 arg5 harg5 arg7 arg8 x0 x1 x2 x3 x4 2 1 (by decide) (by decide) 5 (by decide) y hs hp)))))))))))
    · exact .inr (.inr (.inr (.inr (.inr (.inr (.inr (.inr (.inr (.inl (mem_piece c i arg1 harg1 arg2 harg2 arg3 harg3 arg4 harg4 arg5 harg5 arg7 arg8 x0 x1 x2 x3 x4 3 0 (by decide) (by decide) 6 (by decide) y hs hp))))))))))
    · exact .inr (.inr (.inr (.inr (.inr (.inr (.inr (.inr (.inl (mem_piece c i arg1 harg1 arg2 harg2 arg3 harg3 arg4 harg4 arg5 harg5 arg7 arg8 x0 x1 x2 x3 x4 3 1 (by decide) (by decide) 7 (by decide) y hs hp)))))))))
    · exact .inr (.inr (.inr (.inr (.inr (.inr (.inr (.inl (mem_piece c i arg1 harg1 arg2 harg2 arg3 harg3 arg4 harg4 arg5 harg5 arg7 arg8 x0 x1 x2 x3 x4 4 0 (by decide) (by decide) 8 (by decide) y hs hp))))))))
    · exact .inr (.inr (.inr (.inr (.inr (.inr (.inl (mem_piece c i arg1 harg1 arg2 harg2 arg3 harg3 arg4 harg4 arg5 harg5 arg7 arg8 x0 x1 x2 x3 x4 4 1 (by decide) (by decide) 9 (by decide) y hs hp)))))))
    · exact .inr (.inr (.inr (.inr (.inr (.inl (mem_piece c i arg1 harg1 arg2 harg2 arg3 harg3 arg4 harg4 arg5 harg5 arg7 arg8 x0 x1 x2 x3 x4 5 0 (by decide) (by decide) 10 (by decide) y hs hp))))))
    · exact .inr (.inr (.inr (.inr (.inl (mem_piece c i arg1 harg1 arg2 harg2 arg3 harg3 arg4 harg4 arg5 harg5 arg7 arg8 x0 x1 x2 x3 x4 5 1 (by decide) (by decide) 11 (by decide) y hs hp)))))
    · exact .inr (.inr (.inr (.inl (mem_piece c i arg1 harg1 arg2 harg2 arg3 harg3 arg4 harg4 arg5 harg5 arg7 arg8 x0 x1 x2 x3 x4 6 0 (by decide) (by decide) 12 (by decide) y hs hp))))
    · exact .inr (.inr (.inl (mem_piece c i arg1 harg1 arg2 harg2 arg3 harg3 arg4 harg4 arg5 harg5 arg7 arg8 x0 x1 x2 x3 x4 6 1 (by decide) (by decide) 13 (by decide) y hs hp)))
    · exact .inr (.inl (mem_piece c i arg1 harg1 arg2 harg2 arg3 harg3 arg4 harg4 arg5 harg5 arg7 arg8 x0 x1 x2 x3 x4 7 0 (by decide) (by decide) 14 (by decide) y hs hp))
    · exact .inl (mem_piece c i arg1 harg1 arg2 harg2 arg3 harg3 arg4 harg4 arg5 harg5 arg7 arg8 x0 x1 x2 x3 x4 7 1 (by decide) (by decide) 15 (by decide) y hs hp)

end

end Cert.KernelIdeal.Pf

end
-- ==== Proof.KI.Value.lean ====
/- The result array of the stick-breaking call, element by element. -/
module

public import proofs.«01_k».proof.Proof.KI.Frame
public import proofs.«01_k».proof.Proof.KI.Out
public import Idealize.ShloMosaic.Lib.Pipeline.ValueKit
public import Idealize.ShloMosaic.Lib.Claim

@[expose] public section

set_option maxRecDepth 16384

noncomputable section

namespace Cert.KernelIdeal.Pf

open Cert.KernelIdeal Cert.KernelIdeal.Gen Cert.Stick
open Idealize.ShloMosaic Idealize.ShloMosaic.TcCoe

variable (m : (ℓ : Loc nD τ sig) → Buf (Elt Ideal) ℓ)

theorem word_nat (a : Fin 256) : (BitVec.ofNat 32 a.val).toNat = a.val := by
  rw [BitVec.toNat_ofNat]; omega

theorem word_int (a : Fin 256) : (BitVec.ofNat 32 a.val).toInt = (a.val : ℤ) := by
  rw [BitVec.toInt_eq_toNat_cond, word_nat]; omega

theorem word_div : ∀ a : Fin 256, IntOp.divsi ArithUnit.host (BitVec.ofNat 32 a.val) 128#32 = BitVec.ofNat 32 (⟨a.val / 128, by omega⟩ : Fin 256).val := by
  decide +kernel

theorem tri_word (x y : Fin 256) : IntOp.andi (IntOp.cmpi CmpIPredicate.sgt (BitVec.ofNat 32 x.val) (BitVec.ofNat 32 y.val))
        (IntOp.cmpi CmpIPredicate.eq (IntOp.divsi ArithUnit.host (BitVec.ofNat 32 x.val) 128#32)
          (IntOp.divsi ArithUnit.host (BitVec.ofNat 32 y.val) 128#32)) = if y < x ∧ y.val / 128 = x.val / 128 then 1#1 else 0#1 := by
  rw [word_div, word_div]
  have e1 : IntOp.cmpi CmpIPredicate.sgt (BitVec.ofNat 32 x.val) (BitVec.ofNat 32 y.val) = if y < x then 1#1 else 0#1 := by
    simp only [IntOp.cmpi, BitVec.slt, word_int]
    by_cases h : y < x <;> simp [h]
  have e2 : IntOp.cmpi CmpIPredicate.eq (BitVec.ofNat 32 (⟨x.val / 128, by omega⟩ : Fin 256).val) (BitVec.ofNat 32 (⟨y.val / 128, by omega⟩ : Fin 256).val) =
      if y.val / 128 = x.val / 128 then 1#1 else 0#1 := by
    by_cases h : y.val / 128 = x.val / 128
    · simp [IntOp.cmpi, h]
    · have h' : BitVec.ofNat 32 (⟨x.val / 128, by omega⟩ : Fin 256).val ≠ BitVec.ofNat 32 (⟨y.val / 128, by omega⟩ : Fin 256).val := fun e => by
        have e' := congrArg BitVec.toNat e
        rw [word_nat, word_nat] at e'
        exact h e'.symm
      rw [if_neg h]
      simp only [IntOp.cmpi, beq_eq_false_iff_ne.mpr h']
      rfl
  rw [e1, e2]
  by_cases h1 : y < x <;> by_cases h2 : y.val / 128 = x.val / 128 <;> simp [h1, h2, IntOp.andi]

theorem tri_at (c : Dev nD) (x y : Fin 256) : (show FVec Ideal S256x256 .bf16 from V m c main_v14) (ix2 x y) = if y < x ∧ y.val / 128 = x.val / 128 then 1 else 0 := by
  entry_read
  pointwise
  rw [tri_word x y]
  by_cases h : y < x ∧ y.val / 128 = x.val / 128 <;> simp [h, FloatOps.uitofp]

theorem idx : ∀ t : Fin (cfg0 (F := Ideal)).N, win0_0.index t = ![(grid0.coords t 0).val, 0] ∧ win0_1.index t = ![0, 0] ∧ win0_2.index t = ![0, 0] ∧ win0_3.index t = ![(grid0.coords t 0).val, 0]
    ∧ win0_4.index t = ![0, 0] ∧ win0_5.index t = ![(grid0.coords t 0).val, 0] :=
  (by decide +kernel : ∀ t : Fin grid0.N, _)

section
variable (c : Dev nD) (t : Fin (cfg0 (F := Ideal)).N)

theorem iblk_k : iblk m c 1 t = V m c main_arg1 := by
  blk_ext! [iblk, idx t]

theorem iblk_v : iblk m c 2 t = V m c main_arg2 := by
  blk_ext! [iblk, idx t]

theorem iblk_t : iblk m c 4 t = V m c main_v14 := by
  blk_ext! [iblk, idx t]

theorem iblk_q : BlockOf (grid0.coords t) (iblk m c 0 t) (V m c main_arg0) := by
  intro rr cc R hR
  blk_ext [iblk, idx t]

theorem iblk_g (rr : Fin 1024) (cc : Fin 256) (R : Fin 16384) (hR : R.val = 1024 * (grid0.coords t 0).val + rr) :
    (show Vec Ideal S1024x256 .bf16 from iblk m c 3 t) (ix2 rr cc) = (show FVec Ideal SA .bf16 from V m c main_arg3) (ix2 R cc) := by
  blk_ext [iblk, idx t]

theorem isTri_t : IsTri (ldT c (btri t) (htri t) (iblk m c 4 t)) := by
  intro x y
  unfold ldT bodyRun.sl.r
  rw [iblk_t, View.readAt_eq_ld, Memref.IsWhole.read_unread]
  refine Eq.trans ?_ (tri_at m c x y)
  pointwise [k0_pay34]

theorem coord_R (y : S1024x256.Idx) : 1024 * (grid0.coords t 0).val + (y 0).val < 16384 := by
  have h : (grid0.coords t 0).val < 16 := (grid0.coords t 0).isLt
  have h2 : (y 0).val < 1024 := (y 0).isLt
  omega

/-- What the body leaves in the output's block, over the argument arrays. -/
theorem outAt_at (X0 X1 X2 X3 : FVec Ideal SA .bf16) (e0 : V m c main_arg0 = X0) (e1 : V m c main_arg1 = X1) (e2 : V m c main_arg2 = X2) (e3 : V m c main_arg3 = X3)
    (h0 : Real' X0) (h1 : Real' X1) (y : S1024x256.Idx) :
    outAt m c t y = attn X0 X1 X2 X3 ⟨1024 * (grid0.coords t 0).val + (y 0).val, coord_R t y⟩ (y 1) := by
  have hk : iblk m c 1 t = X1 := (iblk_k m c t).trans e1
  have hv : iblk m c 2 t = X2 := (iblk_v m c t).trans e2
  have hq' := iblk_q m c t
  rw [e0] at hq'
  unfold outAt
  have key := out_at c (grid0.coords t) (bq t) (hq t) (bk t) (Pf.hk t) (bv t) (Pf.hv t) (bg t) (hg t) (btri t) (htri t) (bo t) (ho t)
    mAcc (Memref.isWhole_whole _) mLat (Memref.isWhole_whole _) (iblk m c 0 t) X1 X2 (iblk m c 3 t) (iblk m c 4 t) X0 hq' h0 h1 (isTri_t m c t) y
  rw [hk, hv]
  refine key.trans ?_
  unfold outG attn
  refine congrArg₂ (· * ·) rfl ?_
  have hg' := iblk_g m c t (y 0) (y 1) ⟨1024 * (grid0.coords t 0).val + (y 0).val, coord_R t y⟩ rfl
  rw [e3] at hg'
  refine Eq.trans ?_ hg'
  refine congrArg (iblk m c 3 t) (funext fun a => ?_)
  fin_cases a <;> rfl

/-- The attention as an array. -/
def attnArr (X0 X1 X2 X3 : FVec Ideal SA .bf16) : FVec Ideal SA .bf16 := fun j => attn X0 X1 X2 X3 (j 0) (j 1)

/-- The result array after the run. -/
theorem final (X0 X1 X2 X3 : FVec Ideal SA .bf16) (e0 : V m c main_arg0 = X0) (e1 : V m c main_arg1 = X1) (e2 : V m c main_arg2 = X2) (e3 : V m c main_arg3 = X3)
    (h0 : Real' X0) (h1 : Real' X1) : (dats m 0 c).arrAt 5 (cfgs (F := Ideal) 0).N = attnArr X0 X1 X2 X3 := by
  refine (dats m 0 c).arrAt_eq_of_covers 5 _ (by decide +kernel) fun t _ y => ?_
  blk_simp
  rw [after_o]
  refine (outAt_at m c t X0 X1 X2 X3 e0 e1 e2 e3 h0 h1 y).trans ?_
  refine congrArg₂ (attn X0 X1 X2 X3) (Fin.ext ?_) (Fin.ext ?_)
  · show 1024 * (grid0.coords t 0).val + (y 0).val = _
    blk_simp [idx t]
    omega
  · blk_simp [idx t]
end

end Cert.KernelIdeal.Pf

end
-- ==== Proof.RI.Value.lean ====
/- What the reference computes, at the ideal instance, element by element. -/
module

public import proofs.«01_k».proof.Proof.Gen.ReferenceIdeal.Run
public import proofs.«01_k».proof.Proof.Math.Rows
public import Idealize.ShloMosaic.Lib.Pointwise

@[expose] public section

set_option maxRecDepth 16384

noncomputable section

namespace Cert.ReferenceIdeal.Pf

open Cert.ReferenceIdeal Cert.ReferenceIdeal.Gen Cert.ReferenceIdeal.Value Cert.Stick
open Idealize.ShloMosaic Idealize.ShloMosaic.TcCoe

theorem two_f32 : Ideal.ofBits .f32 0x40000000#32 = ((2 : ℝ) : EReal) := by
  simp [Ideal.ofBits, Ideal.ieee, -EReal.coe_mul]; norm_num

theorem log_two : Ideal.log (Ideal.ofBits .f32 0x40000000#32) = ((Real.log 2 : ℝ) : EReal) := by
  rw [two_f32, log_coe_pos _ (by norm_num)]

theorem toInt_pos (a : Fin 16384) : (BitVec.ofNat 32 a.val).toInt = (a.val : ℤ) := by
  have := a.isLt
  rw [BitVec.toInt_eq_toNat_of_lt] <;> simp only [BitVec.toNat_ofNat] <;> omega

theorem slt_pos (a b : Fin 16384) : IntOp.cmpi .slt (BitVec.ofNat 32 a.val) (BitVec.ofNat 32 b.val) = if a.val < b.val then 1#1 else 0#1 := by
  simp only [IntOp.cmpi, BitVec.slt, toInt_pos]
  by_cases h : a.val < b.val <;> simp [h]

theorem sgt_pos (a b : Fin 16384) : IntOp.cmpi .sgt (BitVec.ofNat 32 a.val) (BitVec.ofNat 32 b.val) = if b.val < a.val then 1#1 else 0#1 := by
  simp only [IntOp.cmpi, BitVec.slt, toInt_pos]
  by_cases h : b.val < a.val <;> simp [h]

theorem select_if {p : Prop} [Decidable p] (x y : EReal) : Scalar.select (if p then 1#1 else 0#1) x y = if p then x else y := by
  by_cases h : p <;> simp [h, Scalar.select]

theorem uitofp_if {p : Prop} [Decidable p] : (FloatOps.uitofp .f32 (if p then 1#1 else 0#1 : BitVec 1) : Ideal .f32) = (if p then 1 else 0 : EReal) := by
  by_cases h : p <;> simp [h, FloatOps.uitofp]

theorem zero_id : (id (constant (F := Ideal) S_ .f32 0#32) ix0 : EReal) = 0 := by
  show Ideal.ofBits .f32 0#32 = 0
  exact Ideal.ofBits_zero_f32

/-- The reference's result is the attention of its arguments. -/
theorem res_at (m : (ℓ : Loc nD τ sig) → Buf (Elt Ideal) ℓ) (c : Dev nD) (X0 X1 X2 X3 : FVec Ideal SA .bf16)
    (e0 : m (c.tc.loc main_arg0) = X0) (e1 : m (c.tc.loc main_arg1) = X1) (e2 : m (c.tc.loc main_arg2) = X2)
    (e3 : m (c.tc.loc main_arg3) = X3) (h0 : Real' X0) (h1 : Real' X1) (R : Fin 16384) (C : Fin 256) :
    (show FVec Ideal S16384x256 .bf16 from res_out0 m c) (ix2 R C) = attn X0 X1 X2 X3 R C := by
  unfold res_out0
  simp only [res_main_v38, e0, e1, e2, e3]
  pointwise
  simp only [slt_pos, sgt_pos, select_if, uitofp_if, zero_id, ne_eq, not_true_eq_false, if_false]
  obtain ⟨z, hz⟩ := zrow_real X0 X1 h0 h1 R C
  have hs : ∀ x : Fin 16384, (∑ d : Fin 64, X0 (ix2 R ⟨C.val / 64 * 64 + d, by omega⟩) * X1 (ix2 x ⟨C.val / 64 * 64 + d, by omega⟩)) =
      zrow X0 X1 R C x := fun x => by rw [zrow, dif_pos x.isLt]
  unfold attn O
  refine congrArg (· * X3 (ix2 R C)) ?_
  rw [← sum_from _ 0]
  refine Finset.sum_congr rfl fun k _ => ?_
  rw [if_pos (Nat.zero_le _)]
  have hv : vrow X2 C k = X2 (ix2 k C) := by rw [vrow, dif_pos k.isLt]
  rw [hv]
  refine congrArg (· * X2 (ix2 k C)) ?_
  simp only [hs]
  by_cases hk : k.val < R.val
  · rw [if_pos hk]
    refine A_ref (zrow X0 X1 R C) R z hz k hk _ log_two _ fun x => ?_
    by_cases hx : k.val < x.val
    · have hx' : k < x := hx
      simp only [hx, hx', if_true, mul_one]
      rfl
    · have hx' : ¬ k < x := hx
      simp only [hx, hx', if_false, mul_zero]
  · rw [if_neg hk, A, if_neg hk]

end Cert.ReferenceIdeal.Pf

end
-- ==== Proof.Algebraic.lean ====
/- The kernel's result is the reference's: both are the stick-breaking attention of the four arrays. -/
module

public import proofs.«01_k».proof.Defs
public import proofs.«01_k».proof.Proof.KI.Value
public import proofs.«01_k».proof.Proof.RI.Value
public import proofs.«01_k».proof.Proof.Gen.Pre_finite_qk

@[expose] public section

set_option maxRecDepth 16384

noncomputable section

namespace Cert.Proof

open Idealize.ShloMosaic Idealize.SL.Sem Cert.Stick Idealize.ShloMosaic.TcCoe

theorem algebraic : Cert.algebraic_KernelIdeal_ReferenceIdeal_pre_finite_qk := by
  intro m g m' g' hpre hagree
  refine ⟨fun c => Cert.KernelIdeal.Pf.attnArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨?_, ?_, ?_, ?_, ?_⟩) (Cert.KernelIdeal.Pf.run_quiescent m g)
    · obtain ⟨h0, h1⟩ := real_of_pre _ _ _ _ (hpre c)
      exact ((h.1 c).1 5).trans (Cert.KernelIdeal.Pf.final m c _ _ _ _ (Cert.KernelIdeal.Pf.V_arg m (.inl rfl) c) (Cert.KernelIdeal.Pf.V_arg m (.inr (.inl rfl)) c)
        (Cert.KernelIdeal.Pf.V_arg m (.inr (.inr (.inl rfl))) c) (Cert.KernelIdeal.Pf.V_arg m (.inr (.inr (.inr rfl))) c) h0 h1)
    · exact (Cert.KernelIdeal.Pf.arr_in m h.1 c 0 rfl).trans (Cert.KernelIdeal.Pf.V_arg m (.inl rfl) c)
    · exact (Cert.KernelIdeal.Pf.arr_in m h.1 c 1 rfl).trans (Cert.KernelIdeal.Pf.V_arg m (.inr (.inl rfl)) c)
    · exact (Cert.KernelIdeal.Pf.arr_in m h.1 c 2 rfl).trans (Cert.KernelIdeal.Pf.V_arg m (.inr (.inr (.inl rfl))) c)
    · exact (Cert.KernelIdeal.Pf.arr_in m h.1 c 3 rfl).trans (Cert.KernelIdeal.Pf.V_arg m (.inr (.inr (.inr rfl))) c)
  · refine (θ_run Cert.ReferenceIdeal.defs _ _).mono (fun r h c => ⟨(h c).1.trans ?_, (h c).2⟩) (Cert.ReferenceIdeal.Value.run (F := Ideal) m' g')
    obtain ⟨h0, h1⟩ := real_of_pre _ _ _ _ (hpre c)
    obtain ⟨a0, a1, a2, a3⟩ := hagree c
    refine funext fun j => ?_
    have e : j = ix2 (j 0) (j 1) := funext fun a => by fin_cases a <;> rfl
    refine Eq.trans (congrArg (Cert.ReferenceIdeal.Value.res_main_v38 m' c) e) ?_
    exact Cert.ReferenceIdeal.Pf.res_at m' c _ _ _ _ a0 a1 a2 a3 h0 h1 (j 0) (j 1)

end Cert.Proof

end
-- ==== Proof.P2.Launch.lean ====
module

public import proofs.«01_k».proof.Proof.Gen.Kernel2Ideal.Frame.RunA
public import Idealize.ShloMosaic.Lib.Claim
public import Idealize.ShloMosaic.Lib.Pipeline.Value

/-! # The launch of the input projection

The kernel as it is read exactly. Every output block is written whole at every grid point.
What each output block holds after a grid point, that the body at a grid point does leave that, and the run of the
whole call: it ends, its arguments are unchanged, and each result is what the grid points wrote into it. -/

@[expose] public section

set_option maxRecDepth 16384

noncomputable section

namespace Cert.Kernel2Ideal.Launch

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body's run at grid point `t`, on that point's blocks. -/
abbrev runAt (c : Dev nD) (t : Fin cfg0.N) :=
  kernelRun0_A c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t) (ms0_10 t)
    (hs0_10 t) (ms0_11 t) (hs0_11 t) (ms0_12 t) (hs0_12 t) (ms0_13 t) (hs0_13 t) (ms0_14 t) (hs0_14 t) (ms0_15 t)
    (hs0_15 t) (ms0_16 t) (hs0_16 t) (ms0_17 t) (hs0_17 t) (ms0_18 t) (hs0_18 t) (ms0_19 t) (hs0_19 t) (ms0_20 t)
    (hs0_20 t) (ms0_21 t) (hs0_21 t) scM0_0 (Memref.isWhole_whole _) scM0_1 (Memref.isWhole_whole _) (iblk m c 0 t)
    (iblk m c 1 t) (iblk m c 2 t) (iblk m c 3 t) (iblk m c 4 t) (iblk m c 5 t) (iblk m c 6 t) (iblk m c 7 t)

/-! The pieces stored into each output block cover it. -/
theorem cover8 (c : Dev nD) (t : Fin cfg0.N) (y : S512x256.Idx) : ∃ pc ∈ (runAt m c t).1, y ∈ pc.1.set :=
  View.cover_of_tiledL (runAt m c t).1 S512x256.size (by sl_kernel_rfl) y
theorem cover9 (c : Dev nD) (t : Fin cfg0.N) (y : S512x256.Idx) : ∃ pc ∈ (runAt m c t).2.1, y ∈ pc.1.set :=
  View.cover_of_tiledL (runAt m c t).2.1 S512x256.size (by sl_kernel_rfl) y
theorem cover10 (c : Dev nD) (t : Fin cfg0.N) (y : S512x256.Idx) : ∃ pc ∈ (runAt m c t).2.2.1, y ∈ pc.1.set :=
  View.cover_of_tiledL (runAt m c t).2.2.1 S512x256.size (by sl_kernel_rfl) y
theorem cover11 (c : Dev nD) (t : Fin cfg0.N) (y : S512x256.Idx) : ∃ pc ∈ (runAt m c t).2.2.2.1, y ∈ pc.1.set :=
  View.cover_of_tiledL (runAt m c t).2.2.2.1 S512x256.size (by sl_kernel_rfl) y
theorem cover12 (c : Dev nD) (t : Fin cfg0.N) (y : S6x512x128.Idx) : ∃ pc ∈ (runAt m c t).2.2.2.2.1, y ∈ pc.1.set :=
  View.cover_of_tiledL (runAt m c t).2.2.2.2.1 S1x512x128.size (by sl_kernel_rfl) y
theorem cover13 (c : Dev nD) (t : Fin cfg0.N) (y : S6x512x128.Idx) : ∃ pc ∈ (runAt m c t).2.2.2.2.2.1, y ∈ pc.1.set :=
  View.cover_of_tiledL (runAt m c t).2.2.2.2.2.1 S1x512x128.size (by sl_kernel_rfl) y
theorem cover14 (c : Dev nD) (t : Fin cfg0.N) (y : S6x512x128.Idx) : ∃ pc ∈ (runAt m c t).2.2.2.2.2.2.1, y ∈ pc.1.set :=
  View.cover_of_tiledL (runAt m c t).2.2.2.2.2.2.1 S1x512x128.size (by sl_kernel_rfl) y
theorem cover15 (c : Dev nD) (t : Fin cfg0.N) (y : S6x512x128.Idx) : ∃ pc ∈ (runAt m c t).2.2.2.2.2.2.2.1, y ∈ pc.1.set :=
  View.cover_of_tiledL (runAt m c t).2.2.2.2.2.2.2.1 S1x512x128.size (by sl_kernel_rfl) y
theorem cover16 (c : Dev nD) (t : Fin cfg0.N) (y : S6x1x4x128x128.Idx) : ∃ pc ∈ (runAt m c t).2.2.2.2.2.2.2.2.1, y ∈ pc.1.set :=
  View.cover_of_tiledL (runAt m c t).2.2.2.2.2.2.2.2.1 S1x1x1x128x128.size (by sl_kernel_rfl) y
theorem cover17 (c : Dev nD) (t : Fin cfg0.N) (y : S6x1x4x128x128.Idx) : ∃ pc ∈ (runAt m c t).2.2.2.2.2.2.2.2.2.1, y ∈ pc.1.set :=
  View.cover_of_tiledL (runAt m c t).2.2.2.2.2.2.2.2.2.1 S1x1x1x128x128.size (by sl_kernel_rfl) y
theorem cover18 (c : Dev nD) (t : Fin cfg0.N) (y : S6x1x4x128x128.Idx) : ∃ pc ∈ (runAt m c t).2.2.2.2.2.2.2.2.2.2.1, y ∈ pc.1.set :=
  View.cover_of_tiledL (runAt m c t).2.2.2.2.2.2.2.2.2.2.1 S1x1x1x128x128.size (by sl_kernel_rfl) y
theorem cover19 (c : Dev nD) (t : Fin cfg0.N) (y : S6x1x16x32x128.Idx) : ∃ pc ∈ (runAt m c t).2.2.2.2.2.2.2.2.2.2.2.1, y ∈ pc.1.set :=
  View.cover_of_tiledL (runAt m c t).2.2.2.2.2.2.2.2.2.2.2.1 S1x1x1x32x128.size (by sl_kernel_rfl) y
theorem cover20 (c : Dev nD) (t : Fin cfg0.N) (y : S6x1x16x32x128.Idx) : ∃ pc ∈ (runAt m c t).2.2.2.2.2.2.2.2.2.2.2.2.1, y ∈ pc.1.set :=
  View.cover_of_tiledL (runAt m c t).2.2.2.2.2.2.2.2.2.2.2.2.1 S1x1x1x32x128.size (by sl_kernel_rfl) y
theorem cover21 (c : Dev nD) (t : Fin cfg0.N) (y : S6x1x16x32x128.Idx) : ∃ pc ∈ (runAt m c t).2.2.2.2.2.2.2.2.2.2.2.2.2.1, y ∈ pc.1.set :=
  View.cover_of_tiledL (runAt m c t).2.2.2.2.2.2.2.2.2.2.2.2.2.1 S1x1x1x32x128.size (by sl_kernel_rfl) y

/-! What each output block holds after grid point `t`. -/
def at8 (c : Dev nD) (t : Fin cfg0.N) : Vec F S512x256 .bf16 :=
  VO0_8.read (Elt F) (VO0_8.writes (Elt F) VO0_8.junk (runAt m c t).1)
def at9 (c : Dev nD) (t : Fin cfg0.N) : Vec F S512x256 .bf16 :=
  VO0_9.read (Elt F) (VO0_9.writes (Elt F) VO0_9.junk (runAt m c t).2.1)
def at10 (c : Dev nD) (t : Fin cfg0.N) : Vec F S512x256 .bf16 :=
  VO0_10.read (Elt F) (VO0_10.writes (Elt F) VO0_10.junk (runAt m c t).2.2.1)
def at11 (c : Dev nD) (t : Fin cfg0.N) : Vec F S512x256 .bf16 :=
  VO0_11.read (Elt F) (VO0_11.writes (Elt F) VO0_11.junk (runAt m c t).2.2.2.1)
def at12 (c : Dev nD) (t : Fin cfg0.N) : Vec F S6x512x128 .bf16 :=
  VO0_12.read (Elt F) (VO0_12.writes (Elt F) VO0_12.junk (runAt m c t).2.2.2.2.1)
def at13 (c : Dev nD) (t : Fin cfg0.N) : Vec F S6x512x128 .bf16 :=
  VO0_13.read (Elt F) (VO0_13.writes (Elt F) VO0_13.junk (runAt m c t).2.2.2.2.2.1)
def at14 (c : Dev nD) (t : Fin cfg0.N) : Vec F S6x512x128 .bf16 :=
  VO0_14.read (Elt F) (VO0_14.writes (Elt F) VO0_14.junk (runAt m c t).2.2.2.2.2.2.1)
def at15 (c : Dev nD) (t : Fin cfg0.N) : Vec F S6x512x128 .bf16 :=
  VO0_15.read (Elt F) (VO0_15.writes (Elt F) VO0_15.junk (runAt m c t).2.2.2.2.2.2.2.1)
def at16 (c : Dev nD) (t : Fin cfg0.N) : Vec F S6x1x4x128x128 .bf16 :=
  VO0_16.read (Elt F) (VO0_16.writes (Elt F) VO0_16.junk (runAt m c t).2.2.2.2.2.2.2.2.1)
def at17 (c : Dev nD) (t : Fin cfg0.N) : Vec F S6x1x4x128x128 .bf16 :=
  VO0_17.read (Elt F) (VO0_17.writes (Elt F) VO0_17.junk (runAt m c t).2.2.2.2.2.2.2.2.2.1)
def at18 (c : Dev nD) (t : Fin cfg0.N) : Vec F S6x1x4x128x128 .bf16 :=
  VO0_18.read (Elt F) (VO0_18.writes (Elt F) VO0_18.junk (runAt m c t).2.2.2.2.2.2.2.2.2.2.1)
def at19 (c : Dev nD) (t : Fin cfg0.N) : Vec F S6x1x16x32x128 .bf16 :=
  VO0_19.read (Elt F) (VO0_19.writes (Elt F) VO0_19.junk (runAt m c t).2.2.2.2.2.2.2.2.2.2.2.1)
def at20 (c : Dev nD) (t : Fin cfg0.N) : Vec F S6x1x16x32x128 .bf16 :=
  VO0_20.read (Elt F) (VO0_20.writes (Elt F) VO0_20.junk (runAt m c t).2.2.2.2.2.2.2.2.2.2.2.2.1)
def at21 (c : Dev nD) (t : Fin cfg0.N) : Vec F S6x1x16x32x128 .bf16 :=
  VO0_21.read (Elt F) (VO0_21.writes (Elt F) VO0_21.junk (runAt m c t).2.2.2.2.2.2.2.2.2.2.2.2.2.1)

/-- The launch's data: the arrays at entry, and every block after the body, inputs as they were. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => at8 m c t
    | ⟨9, _⟩ => at9 m c t
    | ⟨10, _⟩ => at10 m c t
    | ⟨11, _⟩ => at11 m c t
    | ⟨12, _⟩ => at12 m c t
    | ⟨13, _⟩ => at13 m c t
    | ⟨14, _⟩ => at14 m c t
    | ⟨15, _⟩ => at15 m c t
    | ⟨16, _⟩ => at16 m c t
    | ⟨17, _⟩ => at17 m c t
    | ⟨18, _⟩ => at18 m c t
    | ⟨19, _⟩ => at19 m c t
    | ⟨20, _⟩ => at20 m c t
    | ⟨21, _⟩ => at21 m c t
    | ⟨_ + 22, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = at8 m c t := by dsimp only [dats]
theorem after0_9 (c : Dev nD) (t : Fin cfg0.N) : (dats m 0 c).after 9 t = at9 m c t := by dsimp only [dats]
theorem after0_10 (c : Dev nD) (t : Fin cfg0.N) : (dats m 0 c).after 10 t = at10 m c t := by dsimp only [dats]
theorem after0_11 (c : Dev nD) (t : Fin cfg0.N) : (dats m 0 c).after 11 t = at11 m c t := by dsimp only [dats]
theorem after0_12 (c : Dev nD) (t : Fin cfg0.N) : (dats m 0 c).after 12 t = at12 m c t := by dsimp only [dats]
theorem after0_13 (c : Dev nD) (t : Fin cfg0.N) : (dats m 0 c).after 13 t = at13 m c t := by dsimp only [dats]
theorem after0_14 (c : Dev nD) (t : Fin cfg0.N) : (dats m 0 c).after 14 t = at14 m c t := by dsimp only [dats]
theorem after0_15 (c : Dev nD) (t : Fin cfg0.N) : (dats m 0 c).after 15 t = at15 m c t := by dsimp only [dats]
theorem after0_16 (c : Dev nD) (t : Fin cfg0.N) : (dats m 0 c).after 16 t = at16 m c t := by dsimp only [dats]
theorem after0_17 (c : Dev nD) (t : Fin cfg0.N) : (dats m 0 c).after 17 t = at17 m c t := by dsimp only [dats]
theorem after0_18 (c : Dev nD) (t : Fin cfg0.N) : (dats m 0 c).after 18 t = at18 m c t := by dsimp only [dats]
theorem after0_19 (c : Dev nD) (t : Fin cfg0.N) : (dats m 0 c).after 19 t = at19 m c t := by dsimp only [dats]
theorem after0_20 (c : Dev nD) (t : Fin cfg0.N) : (dats m 0 c).after 20 t = at20 m c t := by dsimp only [dats]
theorem after0_21 (c : Dev nD) (t : Fin cfg0.N) : (dats m 0 c).after 21 t = at21 m c t := by dsimp only [dats]

/-! An input's block is there before the body. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body starts from at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

/-- What the body leaves at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t))

set_option maxHeartbeats 2000000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  rw [show (dats m 0 c).Φ t.castSucc = Pipeline.ΦA spec0 c from rfl, PhiA0_eq]
  unfold at8 at9 at10 at11 at12 at13 at14 at15 at16 at17 at18 at19 at20 at21
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)).2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [HS0]; · iexact HS0
  isplitl [HS1]; · iexact HS1
  iintro ⟨H0, H1, H2, H3, H4, H5, H6, H7, ⟨%e8, H8⟩, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover8 m c t)
  isplitl [H9]
  · unfold owns; iexists _; isplitr
    swap; · iexact H9
    ipureintro; exact View.read_writes_of_cover _ _ _ _ _ (cover9 m c t)
  isplitl [H10]
  · unfold owns; iexists _; isplitr
    swap; · iexact H10
    ipureintro; exact View.read_writes_of_cover _ _ _ _ _ (cover10 m c t)
  isplitl [H11]
  · unfold owns; iexists _; isplitr
    swap; · iexact H11
    ipureintro; exact View.read_writes_of_cover _ _ _ _ _ (cover11 m c t)
  isplitl [H12]
  · unfold owns; iexists _; isplitr
    swap; · iexact H12
    ipureintro; exact View.read_writes_of_cover _ _ _ _ _ (cover12 m c t)
  isplitl [H13]
  · unfold owns; iexists _; isplitr
    swap; · iexact H13
    ipureintro; exact View.read_writes_of_cover _ _ _ _ _ (cover13 m c t)
  isplitl [H14]
  · unfold owns; iexists _; isplitr
    swap; · iexact H14
    ipureintro; exact View.read_writes_of_cover _ _ _ _ _ (cover14 m c t)
  isplitl [H15]
  · unfold owns; iexists _; isplitr
    swap; · iexact H15
    ipureintro; exact View.read_writes_of_cover _ _ _ _ _ (cover15 m c t)
  isplitl [H16]
  · unfold owns; iexists _; isplitr
    swap; · iexact H16
    ipureintro; exact View.read_writes_of_cover _ _ _ _ _ (cover16 m c t)
  isplitl [H17]
  · unfold owns; iexists _; isplitr
    swap; · iexact H17
    ipureintro; exact View.read_writes_of_cover _ _ _ _ _ (cover17 m c t)
  isplitl [H18]
  · unfold owns; iexists _; isplitr
    swap; · iexact H18
    ipureintro; exact View.read_writes_of_cover _ _ _ _ _ (cover18 m c t)
  isplitl [H19]
  · unfold owns; iexists _; isplitr
    swap; · iexact H19
    ipureintro; exact View.read_writes_of_cover _ _ _ _ _ (cover19 m c t)
  isplitl [H20]
  · unfold owns; iexists _; isplitr
    swap; · iexact H20
    ipureintro; exact View.read_writes_of_cover _ _ _ _ _ (cover20 m c t)
  unfold owns; iexists _; isplitr
  swap; · iexact H21
  ipureintro; exact View.read_writes_of_cover _ _ _ _ _ (cover21 m c t)

theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The same at every point, as the launch asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array as the data say, every counter zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The call ends with its arguments unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ))
    ((θ_run defs _ _).mono (fun _ h => h.2) (run_quiescent m ρ))

end Cert.Kernel2Ideal.Launch

end
-- ==== Proof.P2.Spec.lean ====
/-
  The input projection as functions of its arrays: the row norm and the product with the layer's columns, the norm of a head's 64 lanes,
  the rotary embedding of its first 16 lanes, and the gate's `x · σ(x)`.
-/
module

public import proofs.«01_k».proof.Proof.Gen.Pre_finite_gw
public import proofs.«01_k».proof.Proof.Math.Rows
public import Idealize.ShloMosaic.Lib.Pointwise
public import Idealize.ShloMosaic.Lib.ReduceAll

@[expose] public section

set_option maxRecDepth 16384

noncomputable section

namespace Cert.InProj

open Idealize.ShloMosaic

abbrev SX : Shape := ⟨2, ![16384, 1024]⟩
abbrev SG : Shape := ⟨2, ![4, 1024]⟩
abbrev SW : Shape := ⟨3, ![4, 1024, 4096]⟩
abbrev SN : Shape := ⟨2, ![4, 64]⟩

/-- Row `s`, column `k` of the normed input times the layer's columns. -/
def proj (X : FVec Ideal SX .f32) (g : FVec Ideal SG .f32) (w : FVec Ideal SW .f32) (s : Fin 16384) (k : Fin 4096) : EReal :=
  ∑ x : Fin 1024, X (ix2 s x) * Ideal.rsqrt (Ideal.div (∑ x : Fin 1024, X (ix2 s x) * X (ix2 s x)) (Ideal.ofBits .f32 0x44800000#32) + Ideal.ofBits .f32 0x358637BD#32)
    * g (ix2 0 x) * w (ix3 0 x k)

/-- The angle of position `s` at frequency `f`. -/
def ang (s : Fin 16384) (f : Fin 8) : EReal :=
  FloatOps.sitofp (F := Ideal) .f32 (BitVec.ofNat 32 s.val) * Ideal.div 1 (Ideal.pow (Ideal.ofBits .f32 0x48F42400#32)
    (Ideal.div (FloatOps.sitofp (F := Ideal) .f32 (BitVec.ofNat 32 f.val) * Ideal.ofBits .f32 0x40000000#32) (Ideal.ofBits .f32 0x41800000#32)))

/-- A head's lanes normed. -/
def normHead (u : Fin 64 → EReal) (G : FVec Ideal SN .f32) (j : Fin 64) : EReal :=
  u j * Ideal.rsqrt (Ideal.div (∑ x, u x * u x) (Ideal.ofBits .f32 0x42800000#32) + Ideal.ofBits .f32 0x358637BD#32) * G (ix2 0 j)

/-- The rotary embedding of a head's lanes: the first eight and the next eight are rotated against each other, the rest stay. -/
def ropeHead (s : Fin 16384) (n : Fin 64 → EReal) (j : Fin 64) : EReal :=
  if h : j.val < 8 then n j * Ideal.cos (ang s ⟨j.val, h⟩) - n ⟨8 + j.val, by omega⟩ * Ideal.sin (ang s ⟨j.val, h⟩)
  else if h' : j.val < 16 then n j * Ideal.cos (ang s ⟨j.val - 8, by omega⟩) + n ⟨j.val - 8, by omega⟩ * Ideal.sin (ang s ⟨j.val - 8, by omega⟩)
  else n j

def silu (x : EReal) : EReal := x * Ideal.div 1 (1 + Ideal.exp (-x))

/-- `1/(8 log 2)`: the scores' scale and the change to base 2. -/
def qs : EReal := (((8 * Real.log 2)⁻¹ : ℝ) : EReal)

/-- Lane `l` of pair `p` at position `s`, from the columns starting at `c`: its head's lanes, normed and rotated. -/
def pairAt (X : FVec Ideal SX .f32) (g : FVec Ideal SG .f32) (w : FVec Ideal SW .f32) (G : FVec Ideal SN .f32) (c : ℕ) (hc : c + 768 ≤ 4096)
    (p : Fin 6) (s : Fin 16384) (l : Fin 128) : EReal :=
  ropeHead s (normHead (fun j => proj X g w s ⟨c + (p.val * 128 + (l.val / 64 * 64 + j.val)), by omega⟩) G) ⟨l.val % 64, by omega⟩

/-! The call's result arrays: columns of the projection as they are, scaled, gated, or normed and rotated in pairs of heads. -/
abbrev SA : Shape := ⟨2, ![16384, 256]⟩
abbrev SP : Shape := ⟨3, ![6, 16384, 128]⟩

def cols (X : FVec Ideal SX .f32) (g : FVec Ideal SG .f32) (w : FVec Ideal SW .f32) (f : EReal → EReal) (a : ℕ) (ha : a + 256 ≤ 4096) : FVec Ideal SA .bf16 :=
  fun j => f (proj X g w (j 0) ⟨a + (j 1).val, by have : (j 1).val < 256 := (j 1).isLt; omega⟩)

def pairs (X : FVec Ideal SX .f32) (g : FVec Ideal SG .f32) (w : FVec Ideal SW .f32) (f : EReal → EReal) (a : ℕ) (ha : a + 768 ≤ 4096) : FVec Ideal SP .bf16 :=
  fun j => f (proj X g w (j 1) ⟨a + ((j 0).val * 128 + (j 2).val), by have : (j 0).val < 6 := (j 0).isLt; have : (j 2).val < 128 := (j 2).isLt; omega⟩)

def heads (X : FVec Ideal SX .f32) (g : FVec Ideal SG .f32) (w : FVec Ideal SW .f32) (G : FVec Ideal SN .f32) (f : EReal → EReal) (a : ℕ) (ha : a + 768 ≤ 4096) : FVec Ideal SP .bf16 :=
  fun j => f (pairAt X g w G a ha (j 0) (j 1) (j 2))

theorem coe_sum_fin {n : ℕ} (f : Fin n → ℝ) : ((∑ i, f i : ℝ) : EReal) = ∑ i, ((f i : ℝ) : EReal) := by
  induction n with
  | zero => simp
  | succ n ih => rw [Fin.sum_univ_succ, Fin.sum_univ_succ, EReal.coe_add, ih]

theorem w1024 : Ideal.ofBits .f32 0x44800000#32 = ((1024 : ℝ) : EReal) := by
  simp [Ideal.ofBits, Ideal.ieee, -EReal.coe_mul]; norm_num

theorem weps : ∃ e : ℝ, 0 < e ∧ Ideal.ofBits .f32 0x358637BD#32 = (e : EReal) := by
  refine ⟨(8796093 : ℝ) * 2⁻¹ ^ 43, by positivity, ?_⟩
  simp [Ideal.ofBits, Ideal.ieee, -EReal.coe_mul]

/-- A row divided by the root of its mean square is real, also where the row has an infinite element: then it is zero. -/
theorem row_real (X : FVec Ideal SX .f32) (s : Fin 16384) (k : Fin 1024) :
    ∃ y : ℝ, X (ix2 s k) * Ideal.rsqrt (Ideal.div (∑ x : Fin 1024, X (ix2 s x) * X (ix2 s x)) (Ideal.ofBits .f32 0x44800000#32) + Ideal.ofBits .f32 0x358637BD#32) = (y : EReal) := by
  obtain ⟨e, he, ee⟩ := weps
  by_cases hX : ∀ i : Fin 1024, ∃ x : ℝ, X (ix2 s i) = (x : EReal)
  · choose x ex using hX
    simp only [ex, ← EReal.coe_mul]
    rw [← coe_sum_fin, w1024, ee, Ideal.div_coe (by norm_num), ← EReal.coe_mul, ← EReal.coe_add, Ideal.rsqrt_coe]
    have hp : 0 < (∑ i : Fin 1024, x i * x i) * (1 / 1024) + e :=
      add_pos_of_nonneg_of_pos (mul_nonneg (Finset.sum_nonneg fun i _ => mul_self_nonneg _) (by norm_num)) he
    rw [if_neg (not_lt.mpr hp.le), if_neg hp.ne', ← EReal.coe_mul]
    exact ⟨_, rfl⟩
  · obtain ⟨i, hi⟩ := not_forall.mp hX
    have hn : ∀ a : EReal, 0 ≤ a * a := fun a => by
      induction a with
      | bot => simp
      | coe r => rw [← EReal.coe_mul]; exact EReal.coe_nonneg.mpr (mul_self_nonneg r)
      | top => simp
    have hq : ∀ a : EReal, (¬ ∃ x : ℝ, a = (x : EReal)) → a * a = ⊤ := fun a ha => by
      induction a with
      | bot => simp
      | coe r => exact absurd ⟨r, rfl⟩ ha
      | top => simp
    have ht : X (ix2 s i) * X (ix2 s i) = ⊤ := hq _ hi
    have hs : ∑ x : Fin 1024, X (ix2 s x) * X (ix2 s x) = ⊤ :=
      top_le_iff.mp (ht ▸ Finset.single_le_sum (f := fun x : Fin 1024 => X (ix2 s x) * X (ix2 s x)) (fun j _ => hn _) (Finset.mem_univ i))
    rw [hs, w1024, ee, Ideal.div_coe (by norm_num), EReal.top_mul_coe_of_pos (by norm_num), EReal.top_add_coe,
      show Ideal.rsqrt ⊤ = 0 from rfl, mul_zero]
    exact ⟨0, rfl⟩

/-- A column of the projection is real where the gain and the column's weights are. -/
theorem proj_real (X : FVec Ideal SX .f32) (g : FVec Ideal SG .f32) (w : FVec Ideal SW .f32) (s : Fin 16384) (k : Fin 4096)
    (hg : ∀ i : Fin 1024, ∃ x : ℝ, g (ix2 0 i) = (x : EReal)) (hw : ∀ i : Fin 1024, ∃ x : ℝ, w (ix3 0 i k) = (x : EReal)) :
    ∃ x : ℝ, proj X g w s k = (x : EReal) := by
  choose x ex using row_real X s
  choose y ey using hg
  choose z ez using hw
  unfold proj
  refine ⟨∑ i : Fin 1024, x i * y i * z i, ?_⟩
  simp only [ex, ey, ez, ← EReal.coe_mul]
  rw [← coe_sum_fin]

/-- What the precondition says: the first layer's gain and its columns of the dilated queries and keys are real numbers. -/
theorem pre_real (X : FVec Ideal SX .f32) (g : FVec Ideal SG .f32) (w : FVec Ideal SW .f32) (a b : FVec Ideal SN .f32)
    (h : Cert.Pre_finite_gw.fn (F := Ideal) X g w a b = fun _ => 1#1) :
    (∀ i : Fin 1024, ∃ x : ℝ, g (ix2 0 i) = (x : EReal)) ∧
      ∀ (i : Fin 1024) (k : Fin 1536), ∃ x : ℝ, w (ix3 0 i ⟨1024 + k.val, by omega⟩) = (x : EReal) := by
  have h0 := congrFun h ix0
  dsimp only [Cert.Pre_finite_gw.fn] at h0
  have h1 : IntOp.andi _ _ = 1#1 := h0
  have hand : ∀ a b : BitVec 1, IntOp.andi a b = 1#1 → a = 1#1 ∧ b = 1#1 := by decide
  have hinf : Ideal.ofBits .f32 0x7F800000#32 = ⊤ := by simp [Ideal.ofBits, Ideal.ieee]
  obtain ⟨ha, hb⟩ := hand _ _ h1
  refine ⟨fun i => ?_, fun i k => ?_⟩
  · have e := Host.reduce_andi_all _ _ _ _ _ ha (ix1 i)
    have p : shapeCast Cert.Pre_finite_gw.S1024 (extractStridedSlice Cert.Pre_finite_gw.S1x1024 ![0, 0] g Cert.Pre_finite_gw.Gen.slices_S4x1024_S1x1024_0_0) Cert.Pre_finite_gw.Gen.shapeCasts_S1x1024_S1024 (ix1 i) = g (ix2 0 i) := by pointwise []
    exact p ▸ Cert.Stick.real_of_lt _ (by rw [← hinf]; exact e)
  · have e := Host.reduce_andi_all _ _ _ _ _ hb (ix2 i k)
    have p : shapeCast Cert.Pre_finite_gw.S1024x1536 (extractStridedSlice Cert.Pre_finite_gw.S1x1024x1536 ![0, 0, 1024] w Cert.Pre_finite_gw.Gen.slices_S4x1024x4096_S1x1024x1536_0_0_1024) Cert.Pre_finite_gw.Gen.shapeCasts_S1x1024x1536_S1024x1536 (ix2 i k) = w (ix3 0 i ⟨1024 + k.val, by omega⟩) := by pointwise []
    exact p ▸ Cert.Stick.real_of_lt _ (by rw [← hinf]; exact e)

end Cert.InProj

end
-- ==== Proof.P2.Blocks.lean ====
/- What the input projection's kernel reads at a grid point: the norms' gains and the rotary tables, as its arguments give them. -/
module

public import proofs.«01_k».proof.Proof.Gen.Kernel2Ideal.Frame.RunA
public import Idealize.ShloMosaic.Lib.Pipeline.ValueKit
public import Idealize.ShloMosaic.Lib.Claim
public import Idealize.ShloMosaic.Lib.StableHlo.Predicate
public import proofs.«01_k».proof.Proof.P2.Spec

@[expose] public section

set_option maxRecDepth 16384

noncomputable section

namespace Cert.Kernel2Ideal.Pf

open Cert.Kernel2Ideal Cert.Kernel2Ideal.Gen
open Idealize.ShloMosaic Idealize.ShloMosaic.TcCoe Idealize.SL.Sem

theorem idx : ∀ t : Fin cfg0.N, win0_0.index t = ![t.val, 0] ∧ win0_1.index t = ![0, 0, 0] ∧ win0_2.index t = ![0, 0, 0]
    ∧ win0_3.index t = ![0, 0, 0] ∧ win0_4.index t = ![0, 0, 0] ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![t.val, 0]
    ∧ win0_12.index t = ![0, t.val, 0] ∧ win0_13.index t = ![0, t.val, 0] ∧ win0_14.index t = ![0, t.val, 0] ∧ win0_15.index t = ![0, t.val, 0] :=
  (by decide +kernel : ∀ t : Fin grid0.N, _)

variable (m : (ℓ : Loc nD τ sig) → Buf (Elt Ideal) ℓ) (c : Dev nD) (t : Fin cfg0.N)

theorem rows : t.val * 512 + 512 ≤ 16384 := by
  have := t.isLt
  have h : cfg0.N = 32 := N_0
  omega

/-! The four tables of constants over the 128 lanes: the frequency of a lane, and which lanes are rotated. -/
theorem lit0_at : ∀ l : Fin 128, min (lit0 (S128.rowMajor (ix1 l))).toInt.toNat 7 = l.val % 64 % 8 := by decide +kernel
theorem lit1_at : ∀ l : Fin 128, lit1 (S1x128.rowMajor (ix2 0 l)) = if l.val % 64 < 16 then 1#1 else 0#1 := by decide +kernel
theorem lit2_at : ∀ l : Fin 128, lit2 (S128.rowMajor (ix1 l)) = if l.val % 64 < 8 then 1#1 else 0#1 := by decide +kernel
theorem lit3_at : ∀ l : Fin 128, lit3 (S128.rowMajor (ix1 l)) = if 8 ≤ l.val % 64 ∧ l.val % 64 < 16 then 1#1 else 0#1 := by decide +kernel

theorem gather_at (x : FVec Ideal S8 .f32) (i : IVec S128x1 32) (l : Fin 128) :
    Host.gather gather_S8_S128x1_S128_n_0_n_n_0_1_1 x i (ix1 l) = x (ix1 ⟨min (i (ix2 l 0)).toInt.toNat (8 - 1), by omega⟩) := by
  have h := StableHlo.Predicate.gather_take gather_S8_S128x1_S128_n_0_n_n_0_1_1 rfl rfl rfl rfl x i l (by decide)
  have e1 : Shape.Idx.ofFin l = (ix1 l : S128.Idx) := by funext a; obtain rfl : a = 0 := Subsingleton.elim _ _; rfl
  have e2 : (StableHlo.Predicate.ixP l : S128x1.Idx) = ix2 l 0 := by funext a; match a with | ⟨0, _⟩ => rfl | ⟨1, _⟩ => rfl
  rw [e1] at h
  refine h.trans (congrArg x ?_)
  funext a
  obtain rfl : a = 0 := Subsingleton.elim _ _
  exact Fin.ext (congrArg (fun z => min (i z).toInt.toNat (8 - 1)) e2)

theorem select_if {p : Prop} [Decidable p] (a b : EReal) : Scalar.select (if p then 1#1 else 0#1) a b = if p then a else b := by
  split <;> rfl

theorem gain_blk (x : Fin 1024) : iblk m c 1 t (ix3 0 0 x) = m ((c : Thread nD τ).loc main_arg1) (ix2 0 x) := by
  blk_simp [iblk]
  simp only [V, hostOps0, hostOps0_1, hostOps0_2, hostOps0_3, hostOps0_4, hostOps0_5, hostOps0_6, List.flatten_cons, List.flatten_nil, List.append_nil, List.cons_append,
    List.nil_append]
  entry_read
  pointwise []
  blk_ext! [idx t]

theorem qgain_blk (l : Fin 128) : iblk m c 3 t (ix3 0 0 l) = m ((c : Thread nD τ).loc main_arg3) (ix2 0 ⟨l.val % 64, by omega⟩) := by
  blk_simp [iblk]
  simp only [V, hostOps0, hostOps0_1, hostOps0_2, hostOps0_3, hostOps0_4, hostOps0_5, hostOps0_6, List.flatten_cons, List.flatten_nil, List.append_nil, List.cons_append,
    List.nil_append]
  entry_read
  pointwise []
  blk_ext! [idx t]

theorem kgain_blk (l : Fin 128) : iblk m c 4 t (ix3 0 0 l) = m ((c : Thread nD τ).loc main_arg4) (ix2 0 ⟨l.val % 64, by omega⟩) := by
  blk_simp [iblk]
  simp only [V, hostOps0, hostOps0_1, hostOps0_2, hostOps0_3, hostOps0_4, hostOps0_5, hostOps0_6, List.flatten_cons, List.flatten_nil, List.append_nil, List.cons_append,
    List.nil_append]
  entry_read
  pointwise []
  blk_ext! [idx t]

theorem cos_blk (s : Fin 512) (l : Fin 128) : iblk m c 5 t (ix2 s l)
    = if l.val % 64 < 16 then Ideal.cos (InProj.ang ⟨t.val * 512 + s.val, by have := rows t; omega⟩ ⟨l.val % 64 % 8, by omega⟩) else 1 := by
  blk_simp [iblk]
  simp only [V, hostOps0, hostOps0_1, hostOps0_2, hostOps0_3, hostOps0_4, hostOps0_5, hostOps0_6, List.flatten_cons, List.flatten_nil, List.append_nil, List.cons_append,
    List.nil_append]
  entry_read
  simp only [StableHlo.TRef.ofBuf, StableHlo.TRef.toBuf, cast_eq]
  rw [show ((View.whole main_v25).slice (win0_5.rect t)).emb (ix2 s l) = ix2 ⟨t.val * 512 + s.val, by have := rows t; omega⟩ l from by blk_ext! [idx t]]
  pointwise [gather_at, InProj.ang]
  simp only [lit0_at, lit1_at, select_if]

theorem sina_blk (s : Fin 512) (l : Fin 128) : iblk m c 6 t (ix2 s l)
    = if l.val % 64 < 8 then - Ideal.sin (InProj.ang ⟨t.val * 512 + s.val, by have := rows t; omega⟩ ⟨l.val % 64 % 8, by omega⟩) else 0 := by
  blk_simp [iblk]
  simp only [V, hostOps0, hostOps0_1, hostOps0_2, hostOps0_3, hostOps0_4, hostOps0_5, hostOps0_6, List.flatten_cons, List.flatten_nil, List.append_nil, List.cons_append,
    List.nil_append]
  entry_read
  simp only [StableHlo.TRef.ofBuf, StableHlo.TRef.toBuf, cast_eq]
  rw [show ((View.whole main_v27).slice (win0_6.rect t)).emb (ix2 s l) = ix2 ⟨t.val * 512 + s.val, by have := rows t; omega⟩ l from by blk_ext! [idx t]]
  pointwise [gather_at, InProj.ang]
  simp only [lit0_at, lit2_at, select_if]

theorem sinb_blk (s : Fin 512) (l : Fin 128) : iblk m c 7 t (ix2 s l)
    = if 8 ≤ l.val % 64 ∧ l.val % 64 < 16 then Ideal.sin (InProj.ang ⟨t.val * 512 + s.val, by have := rows t; omega⟩ ⟨l.val % 64 % 8, by omega⟩) else 0 := by
  blk_simp [iblk]
  simp only [V, hostOps0, hostOps0_1, hostOps0_2, hostOps0_3, hostOps0_4, hostOps0_5, hostOps0_6, List.flatten_cons, List.flatten_nil, List.append_nil, List.cons_append,
    List.nil_append]
  entry_read
  simp only [StableHlo.TRef.ofBuf, StableHlo.TRef.toBuf, cast_eq]
  rw [show ((View.whole main_v28).slice (win0_7.rect t)).emb (ix2 s l) = ix2 ⟨t.val * 512 + s.val, by have := rows t; omega⟩ l from by blk_ext! [idx t]]
  pointwise [gather_at, InProj.ang]
  simp only [lit0_at, lit3_at, select_if]

end Cert.Kernel2Ideal.Pf

end
-- ==== Proof.P2.Pair.lean ====
/- One pair of heads of the input projection: its norm over each head's 64 lanes and its rotary embedding. -/
module

public import proofs.«01_k».proof.Proof.Gen.Kernel2Ideal.Skeleton
public import Idealize.ShloMosaic.Lib.Pipeline.ValueKit
public import Idealize.ShloMosaic.Lib.Claim

@[expose] public section

set_option maxRecDepth 16384

noncomputable section

namespace Cert.Kernel2Ideal.Pf

open Cert.Kernel2Ideal Cert.Kernel2Ideal.Gen
open Idealize.ShloMosaic Idealize.ShloMosaic.TcCoe Idealize.SL.Sem

/-- The matrix the kernel multiplies the squares by: `1/64` between lanes of one head. -/
abbrev headMean : FVec Ideal S256x128 .bf16 := k0_pay10 k0_pay7 64#32 k0_pay8 k0_pay9

theorem select_words (a b : BitVec 32) (n m : ℕ) (c : EReal) (ha : a = BitVec.ofNat 32 n) (hb : b = BitVec.ofNat 32 m) (hn : n < 2) (hm : m < 2) :
    Scalar.select (IntOp.cmpi .eq a b) c 0 = if n = m then c else 0 := by
  subst ha hb
  interval_cases n <;> interval_cases m <;> simp [IntOp.cmpi, Scalar.select]

theorem headMean_at (k : Fin 256) (l : Fin 128) : headMean (ix2 k l) = if k.val % 128 / 64 = l.val / 64 then Ideal.ofBits .f32 0x3C800000#32 else 0 := by
  pointwise [headMean, k0_pay10, k0_pay7, k0_pay8, k0_pay9]
  refine select_words _ _ _ _ _ ?_ ?_ (by omega) (by omega)
  · clear l; revert k; decide +kernel
  · clear k; revert l; decide +kernel

theorem sixtyfourth : Ideal.ofBits .f32 0x3C800000#32 = (((64 : ℝ)⁻¹ : ℝ) : EReal) := by
  simp [Ideal.ofBits, Ideal.ieee, -EReal.coe_mul]; norm_num

theorem sixtyfour : Ideal.ofBits .f32 0x42800000#32 = ((64 : ℝ) : EReal) := by
  simp [Ideal.ofBits, Ideal.ieee, -EReal.coe_mul]; norm_num

theorem coe_sum_fin {n : ℕ} (f : Fin n → ℝ) : ((∑ i, f i : ℝ) : EReal) = ∑ i, ((f i : ℝ) : EReal) := by
  induction n with
  | zero => simp
  | succ n ih => rw [Fin.sum_univ_succ, Fin.sum_univ_succ, EReal.coe_add, ih]

/-- A sum over the 128 lanes in which only one head's count is the sum over its 64 lanes. -/
theorem sum_head (f : Fin 128 → ℝ) (h : ℕ) (hh : h < 2) :
    (∑ x : Fin 128, if x.val / 64 = h then f x else 0) = ∑ j : Fin 64, f ⟨h * 64 + j.val, by omega⟩ := by
  rw [← Finset.sum_filter]
  refine Finset.sum_bij' (fun x _ => ⟨x.val % 64, by omega⟩) (fun j _ => ⟨h * 64 + j.val, by omega⟩) ?_ ?_ ?_ ?_ ?_
  · intros; simp
  · intro j _; simp <;> omega
  · intro x hx; simp at hx ⊢; ext; simp <;> omega
  · intro j _; ext; simp <;> omega
  · intro x hx; simp at hx ⊢; congr 1; ext; simp <;> omega

/-- A pair's columns normed: the squares, and what is left of them beside their short form, against the matrix. -/
def normed (M : FVec Ideal S256x128 .bf16) (u : FVec Ideal S512x128 .f32) (G : Vec Ideal S1x1x128 .f32) : FVec Ideal S512x128 .f32 :=
  mulf (mulf u (rsqrt (addf (matmul dot_S512x256_S256x128_S512x128_1_0_0_1_n_n none
    (concatenate S512x256 1 [⟨S512x128, truncf .bf16 (mulf u u) bitsLt_bf16_f32⟩,
      ⟨S512x128, truncf .bf16 (subf (mulf u u) (extf .f32 (truncf .bf16 (mulf u u) bitsLt_bf16_f32) bitsLt_bf16_f32)) bitsLt_bf16_f32⟩] concatenates_S512x128_S512x128_S512x256_d1)
    M (constant S512x128 .f32 0x00000000#32)) (broadcast S512x128 (Scalar.ofBits .f32 0x358637BD#32)))))
    (broadcastTo S512x128 (shapeCast S1x128 G shapeCasts_S1x1x128_S1x128) broadcasts_S1x128_S512x128)

/-- The rotary embedding of a normed pair from the three tables. -/
def roped (C A B v : FVec Ideal S512x128 .f32) : FVec Ideal S512x128 .f32 :=
  addf (addf (mulf v C) (mulf (dynamicRotate 1 120#32 none v rotates_S512x128_d1) A)) (mulf (dynamicRotate 1 8#32 none v rotates_S512x128_d1) B)

def scaled (v : FVec Ideal S512x128 .f32) : FVec Ideal S512x128 .f32 := mulf v (broadcast S512x128 (Named.named κ "q_scale" 0x3E38AA3B#32))

def stored (v : FVec Ideal S512x128 .f32) : FVec Ideal S1x512x128 .bf16 := shapeCast S1x512x128 (truncf .bf16 v bitsLt_bf16_f32) shapeCasts_S512x128_S1x512x128

theorem normed_at (u : FVec Ideal S512x128 .f32) (G : Vec Ideal S1x1x128 .f32) (hu : ∀ i, ∃ x : ℝ, u i = (x : EReal)) (s : Fin 512) (l : Fin 128) :
    normed headMean u G (ix2 s l) = u (ix2 s l) * Ideal.rsqrt (Ideal.div (∑ j : Fin 64, u (ix2 s ⟨l.val / 64 * 64 + j.val, by omega⟩) * u (ix2 s ⟨l.val / 64 * 64 + j.val, by omega⟩))
      (Ideal.ofBits .f32 0x42800000#32) + Ideal.ofBits .f32 0x358637BD#32) * G (ix3 0 0 l) := by
  pointwise [normed]
  choose f hf using hu
  refine congrArg (· * G (ix3 0 0 l)) (congrArg (fun z => u (ix2 s l) * Ideal.rsqrt (z + _)) ?_)
  have h2 : ∀ x : Fin 128, (u (ix2 s x) * u (ix2 s x) - u (ix2 s x) * u (ix2 s x)) * headMean (ix2 ⟨128 + x.val, by omega⟩ l) = 0 := fun x => by
    rw [hf, ← EReal.coe_mul, ← EReal.coe_sub, sub_self, EReal.coe_zero, zero_mul]
  have h1 : ∀ x : Fin 128, u (ix2 s x) * u (ix2 s x) * headMean (ix2 ⟨x.val, by omega⟩ l)
      = ((if x.val / 64 = l.val / 64 then f (ix2 s x) * f (ix2 s x) * (64 : ℝ)⁻¹ else 0 : ℝ) : EReal) := fun x => by
    rw [headMean_at, sixtyfourth, hf]
    have : x.val % 128 / 64 = x.val / 64 := by omega
    simp only [this]
    split
    · rw [EReal.coe_mul, EReal.coe_mul]
    · rw [mul_zero, EReal.coe_zero]
  simp only [h1, h2, Finset.sum_const_zero, add_zero]
  rw [← coe_sum_fin, sum_head (fun x => f (ix2 s x) * f (ix2 s x) * (64 : ℝ)⁻¹) (l.val / 64) (by omega)]
  simp only [hf, ← EReal.coe_mul]
  rw [← coe_sum_fin, sixtyfour, ← Finset.sum_mul]
  rw [Ideal.div_coe (by norm_num), ← EReal.coe_mul, one_div]

theorem roped_at (C A B v : FVec Ideal S512x128 .f32) (s : Fin 512) (l : Fin 128) :
    roped C A B v (ix2 s l) = v (ix2 s l) * C (ix2 s l) + v (ix2 s ⟨(l.val + 128 - 120) % 128, by omega⟩) * A (ix2 s l)
      + v (ix2 s ⟨(l.val + 128 - 8) % 128, by omega⟩) * B (ix2 s l) := by
  pointwise [roped]

theorem pay343 (C A B v : FVec Ideal S512x128 .f32) : k0_pay343 C A B v = stored (roped C A B v) := rfl
theorem pay341 (M : FVec Ideal S256x128 .bf16) (P : FVec Ideal S512x768 .f32) (G : Vec Ideal S1x1x128 .f32) :
    k0_pay341 M P G = normed M (extractStridedSlice S512x128 ![0, 384] P slices_S512x768_o0_384_S512x128) G := rfl
theorem pay16 (h : FVec Ideal S512x1024 .bf16) (M : FVec Ideal S256x128 .bf16) (C A B : FVec Ideal S512x128 .f32) (w : Vec Ideal S1x1024x768 .bf16) (G : Vec Ideal S1x1x128 .f32) :
    k0_pay16 h M C A B w G = stored (scaled (roped (k0_pay11 C) (k0_pay12 A) (k0_pay13 B) (normed M (extractStridedSlice S512x128 ![0, 0] (k0_pay14 h w) slices_S512x768_o0_0_S512x128) G))) := rfl

theorem scaled_at (v : FVec Ideal S512x128 .f32) (s : Fin 512) (l : Fin 128) : scaled v (ix2 s l) = v (ix2 s l) * (((8 * Real.log 2)⁻¹ : ℝ) : EReal) := by
  pointwise [scaled]
  rfl

theorem stored_at (v : FVec Ideal S512x128 .f32) (s : Fin 512) (l : Fin 128) : stored v (ix3 0 s l) = v (ix2 s l) := by
  pointwise [stored]

end Cert.Kernel2Ideal.Pf

end
-- ==== Proof.P2.Core.lean ====
/- The input projection: each of the kernel's result arrays is the projection's columns, as the specification says. -/
module

public import proofs.«01_k».proof.Proof.P2.Launch
public import proofs.«01_k».proof.Proof.P2.Blocks
public import proofs.«01_k».proof.Proof.P2.Pair

@[expose] public section

set_option maxRecDepth 16384

noncomputable section

namespace Cert.Kernel2Ideal.Pf

open Cert.Kernel2Ideal Cert.Kernel2Ideal.Gen Cert.Kernel2Ideal.Launch
open Idealize.ShloMosaic Idealize.ShloMosaic.TcCoe Idealize.SL.Sem

variable (m : (ℓ : Loc nD τ sig) → Buf (Elt Ideal) ℓ)

/-- The projection of the call's arguments. -/
abbrev P (c : Dev nD) (s : Fin 16384) (k : Fin 4096) : EReal :=
  InProj.proj (m ((c : Thread nD τ).loc main_arg0)) (m ((c : Thread nD τ).loc main_arg1)) (m ((c : Thread nD τ).loc main_arg2)) s k

/-- The rows of a grid point, normed. -/
abbrev hN (c : Dev nD) (t : Fin cfg0.N) : FVec Ideal S512x1024 .bf16 := k0_pay6 (iblk m c 0 t) (iblk m c 1 t)

/-- The rows of a grid point times 768 of the columns. -/
theorem prod_at (c : Dev nD) (t : Fin cfg0.N) (a : ℕ) (ha : a + 768 ≤ 4096) (h : ∀ b, (![0, 0, a] : Fin 3 → ℕ) b + (![1, 1024, 768] : Fin 3 → ℕ) b ≤ S1x1024x4096.size b)
    (s : Fin 512) (k : Fin 768) :
    k0_pay14 (hN m c t) (View.ld (iblk m c 2 t) (Rect.unit ![0, 0, a] ![1, 1024, 768] h)) (ix2 s k)
      = P m c ⟨t.val * 512 + s.val, by have := rows t; omega⟩ ⟨a + k.val, by omega⟩ := by
  pointwise [k0_pay14, k0_pay6, P, InProj.proj, gain_blk]
  blk_point [iblk, V, idx t]

/-- The rows of a grid point times the first 1024 columns. -/
theorem att_at (c : Dev nD) (t : Fin cfg0.N) (h : ∀ b, (![0, 0, 0] : Fin 3 → ℕ) b + (![1, 1024, 1024] : Fin 3 → ℕ) b ≤ S1x1024x4096.size b) (s : Fin 512) (k : Fin 1024) :
    k0_pay668 (hN m c t) (View.ld (iblk m c 2 t) (Rect.unit ![0, 0, 0] ![1, 1024, 1024] h)) (ix2 s k)
      = P m c ⟨t.val * 512 + s.val, by have := rows t; omega⟩ ⟨k.val, by omega⟩ := by
  pointwise [k0_pay668, k0_pay6, P, InProj.proj, gain_blk]
  blk_point [iblk, V, idx t]

/-- One pair of heads, normed and rotated: from the pair's columns of the projection, its lanes as the specification has them. -/
theorem pair_at (c : Dev nD) (t : Fin cfg0.N) (a : ℕ) (ha : a + 768 ≤ 4096) (p : Fin 6) (u : FVec Ideal S512x128 .f32) (G : Vec Ideal S1x1x128 .f32)
    (g : FVec Ideal InProj.SN .f32) (hG : ∀ l : Fin 128, G (ix3 0 0 l) = g (ix2 0 ⟨l.val % 64, by omega⟩))
    (hP : ∀ s (k : Fin 4096), a ≤ k.val → k.val < a + 768 → ∃ x : ℝ, P m c s k = (x : EReal))
    (hu : ∀ (s : Fin 512) (l : Fin 128), u (ix2 s l) = P m c ⟨t.val * 512 + s.val, by have := rows t; omega⟩ ⟨a + (p.val * 128 + l.val), by omega⟩)
    (s : Fin 512) (l : Fin 128) :
    roped (iblk m c 5 t) (iblk m c 6 t) (iblk m c 7 t) (normed headMean u G) (ix2 s l)
      = InProj.pairAt (m ((c : Thread nD τ).loc main_arg0)) (m ((c : Thread nD τ).loc main_arg1)) (m ((c : Thread nD τ).loc main_arg2)) g a ha p
          ⟨t.val * 512 + s.val, by have := rows t; omega⟩ l := by
  have hr : ∀ i, ∃ x : ℝ, u i = (x : EReal) := fun i => by
    have e : (ix2 (i 0) (i 1) : S512x128.Idx) = i := by funext b; match b with | ⟨0, _⟩ => rfl | ⟨1, _⟩ => rfl
    obtain ⟨x, hx⟩ := hP ⟨t.val * 512 + (i 0).val, by have := rows t; have : (i 0).val < 512 := (i 0).isLt; omega⟩
      ⟨a + (p.val * 128 + (i 1).val), by have : (i 1).val < 128 := (i 1).isLt; omega⟩ (by dsimp only; omega) (by have : (i 1).val < 128 := (i 1).isLt; dsimp only; omega)
    exact ⟨x, ((congrArg u e.symm).trans (hu (i 0) (i 1))).trans hx⟩
  have hn : ∀ l : Fin 128, normed headMean u G (ix2 s l) = InProj.normHead (fun j => P m c ⟨t.val * 512 + s.val, by have := rows t; omega⟩
      ⟨a + (p.val * 128 + (l.val / 64 * 64 + j.val)), by omega⟩) g ⟨l.val % 64, by omega⟩ := fun l => by
    rw [normed_at u G hr, hG]
    unfold InProj.normHead
    simp only [hu]
    have e : l.val / 64 * 64 + l.val % 64 = l.val := by omega
    simp only [e]
  have same : ∀ l l' : Fin 128, l.val / 64 = l'.val / 64 → ∀ k (hk : k < 64), l'.val % 64 = k → normed headMean u G (ix2 s l')
      = InProj.normHead (fun j => P m c ⟨t.val * 512 + s.val, by have := rows t; omega⟩ ⟨a + (p.val * 128 + (l.val / 64 * 64 + j.val)), by omega⟩) g ⟨k, hk⟩ :=
    fun l l' e k hk ek => by subst ek; rw [hn]; simp only [e]
  rw [roped_at, cos_blk, sina_blk, sinb_blk]
  unfold InProj.pairAt InProj.ropeHead
  dsimp only
  by_cases h8 : l.val % 64 < 8
  · have e1 : l.val % 64 % 8 = l.val % 64 := by omega
    rw [dif_pos h8, if_pos (show l.val % 64 < 16 by omega), if_pos h8, if_neg (show ¬ (8 ≤ l.val % 64 ∧ l.val % 64 < 16) by omega), mul_zero, add_zero,
      same l l rfl _ (by omega) rfl, same l ⟨(l.val + 128 - 120) % 128, by omega⟩ (by dsimp only; omega) (8 + l.val % 64) (by omega) (by dsimp only; omega),
      mul_neg, ← sub_eq_add_neg]
    simp only [e1]
  · rw [dif_neg h8]
    by_cases h16 : l.val % 64 < 16
    · have e1 : l.val % 64 % 8 = l.val % 64 - 8 := by omega
      rw [dif_pos h16, if_pos h16, if_neg h8, if_pos (show 8 ≤ l.val % 64 ∧ l.val % 64 < 16 by omega), mul_zero, add_zero,
        same l l rfl _ (by omega) rfl, same l ⟨(l.val + 128 - 8) % 128, by omega⟩ (by dsimp only; omega) (l.val % 64 - 8) (by omega) (by dsimp only; omega)]
      simp only [e1]
    · rw [dif_neg h16, if_neg h16, if_neg h8, if_neg (show ¬ (8 ≤ l.val % 64 ∧ l.val % 64 < 16) by omega), mul_zero, mul_zero, add_zero, add_zero, mul_one,
        same l l rfl _ (by omega) rfl]

/-- A pair's columns `u` normed by the squares of `u'`. -/
def normedBy (M : FVec Ideal S256x128 .bf16) (u u' : FVec Ideal S512x128 .f32) (G : Vec Ideal S1x1x128 .f32) : FVec Ideal S512x128 .f32 :=
  mulf (mulf u (rsqrt (addf (matmul dot_S512x256_S256x128_S512x128_1_0_0_1_n_n none
    (concatenate S512x256 1 [⟨S512x128, truncf .bf16 (mulf u' u') bitsLt_bf16_f32⟩,
      ⟨S512x128, truncf .bf16 (subf (mulf u' u') (extf .f32 (truncf .bf16 (mulf u' u') bitsLt_bf16_f32) bitsLt_bf16_f32)) bitsLt_bf16_f32⟩] concatenates_S512x128_S512x128_S512x256_d1)
    M (constant S512x128 .f32 0x00000000#32)) (broadcast S512x128 (Scalar.ofBits .f32 0x358637BD#32)))))
    (broadcastTo S512x128 (shapeCast S1x128 G shapeCasts_S1x1x128_S1x128) broadcasts_S1x128_S512x128)

theorem normedBy_self (M : FVec Ideal S256x128 .bf16) (u : FVec Ideal S512x128 .f32) (G : Vec Ideal S1x1x128 .f32) : normedBy M u u G = normed M u G := rfl

theorem tab (v : FVec Ideal S512x128 .f32) : shapeCast S512x128 v shapeCasts_S512x128_S512x128 = v := by
  funext i
  pointwise []

/-- A scaled pair as it is stored. -/
theorem scaled_pair (c : Dev nD) (t : Fin cfg0.N) (a : ℕ) (ha : a + 768 ≤ 4096) (p : Fin 6) (M : FVec Ideal S256x128 .bf16) (hM : M = headMean) (u u' : FVec Ideal S512x128 .f32) (h' : u' = u) (G : Vec Ideal S1x1x128 .f32)
    (g : FVec Ideal InProj.SN .f32) (hG : ∀ l : Fin 128, G (ix3 0 0 l) = g (ix2 0 ⟨l.val % 64, by omega⟩))
    (hP : ∀ s (k : Fin 4096), a ≤ k.val → k.val < a + 768 → ∃ x : ℝ, P m c s k = (x : EReal))
    (hu : ∀ (s : Fin 512) (l : Fin 128), u (ix2 s l) = P m c ⟨t.val * 512 + s.val, by have := rows t; omega⟩ ⟨a + (p.val * 128 + l.val), by omega⟩)
    (x : S1x512x128.Idx) :
    stored (scaled (roped (k0_pay11 (iblk m c 5 t)) (k0_pay12 (iblk m c 6 t)) (k0_pay13 (iblk m c 7 t)) (normedBy M u u' G))) x
      = InProj.pairAt (m ((c : Thread nD τ).loc main_arg0)) (m ((c : Thread nD τ).loc main_arg1)) (m ((c : Thread nD τ).loc main_arg2)) g a ha p ⟨t.val * 512 + (x 1).val, by have := rows t; have : (x 1).val < 512 := (x 1).isLt; omega⟩ (x 2) * InProj.qs := by
  subst hM
  subst u'
  rw [normedBy_self, show k0_pay11 (iblk m c 5 t) = iblk m c 5 t from tab _, show k0_pay12 (iblk m c 6 t) = iblk m c 6 t from tab _,
    show k0_pay13 (iblk m c 7 t) = iblk m c 7 t from tab _]
  have e : x = (ix3 0 (x 1) (x 2) : S1x512x128.Idx) := by
    funext b; match b with | ⟨0, _⟩ => exact Subsingleton.elim (α := Fin 1) _ _ | ⟨1, _⟩ => rfl | ⟨2, _⟩ => rfl
  exact (congrArg _ e).trans ((stored_at _ _ _).trans ((scaled_at _ _ _).trans
    (congrArg (· * InProj.qs) (pair_at m c t a ha p u G g hG hP hu (x 1) (x 2)))))

/-- A pair as it is stored, without the scale. -/
theorem stored_pair (c : Dev nD) (t : Fin cfg0.N) (a : ℕ) (ha : a + 768 ≤ 4096) (p : Fin 6) (M : FVec Ideal S256x128 .bf16) (hM : M = headMean) (u u' : FVec Ideal S512x128 .f32) (h' : u' = u) (G : Vec Ideal S1x1x128 .f32)
    (g : FVec Ideal InProj.SN .f32) (hG : ∀ l : Fin 128, G (ix3 0 0 l) = g (ix2 0 ⟨l.val % 64, by omega⟩))
    (hP : ∀ s (k : Fin 4096), a ≤ k.val → k.val < a + 768 → ∃ x : ℝ, P m c s k = (x : EReal))
    (hu : ∀ (s : Fin 512) (l : Fin 128), u (ix2 s l) = P m c ⟨t.val * 512 + s.val, by have := rows t; omega⟩ ⟨a + (p.val * 128 + l.val), by omega⟩)
    (x : S1x512x128.Idx) :
    stored (roped (k0_pay11 (iblk m c 5 t)) (k0_pay12 (iblk m c 6 t)) (k0_pay13 (iblk m c 7 t)) (normedBy M u u' G)) x
      = InProj.pairAt (m ((c : Thread nD τ).loc main_arg0)) (m ((c : Thread nD τ).loc main_arg1)) (m ((c : Thread nD τ).loc main_arg2)) g a ha p ⟨t.val * 512 + (x 1).val, by have := rows t; have : (x 1).val < 512 := (x 1).isLt; omega⟩ (x 2) := by
  subst hM
  subst u'
  rw [normedBy_self, show k0_pay11 (iblk m c 5 t) = iblk m c 5 t from tab _, show k0_pay12 (iblk m c 6 t) = iblk m c 6 t from tab _,
    show k0_pay13 (iblk m c 7 t) = iblk m c 7 t from tab _]
  have e : x = (ix3 0 (x 1) (x 2) : S1x512x128.Idx) := by
    funext b; match b with | ⟨0, _⟩ => exact Subsingleton.elim (α := Fin 1) _ _ | ⟨1, _⟩ => rfl | ⟨2, _⟩ => rfl
  exact (congrArg _ e).trans ((stored_at _ _ _).trans (pair_at m c t a ha p u G g hG hP hu (x 1) (x 2)))

/-- A pair's columns out of a product. -/
theorem slice_at (o : ℕ) (ho : o + 128 ≤ 768) (Q : FVec Ideal S512x768 .f32) (h : S512x768.Slices ![0, o] S512x128) (s : Fin 512) (l : Fin 128) :
    extractStridedSlice S512x128 ![0, o] Q h (ix2 s l) = Q (ix2 s ⟨o + l.val, by omega⟩) := by
  pointwise []

/-- The projection depends on its row and column by their values. -/
theorem proj_of (c : Dev nD) {s s' : Fin 16384} {k k' : Fin 4096} (hs : s.val = s'.val) (hk : k.val = k'.val) :
    P m c s k = InProj.proj (m ((c : Thread nD τ).loc main_arg0)) (m ((c : Thread nD τ).loc main_arg1)) (m ((c : Thread nD τ).loc main_arg2)) s' k' := by
  obtain rfl := Fin.ext hs
  obtain rfl := Fin.ext hk
  rfl

/-- A pair's entry depends on its pair, row and column by their values. -/
theorem pairAt_of (c : Dev nD) (g : FVec Ideal InProj.SN .f32) (a : ℕ) (ha ha' : a + 768 ≤ 4096) {p p' : Fin 6} {s s' : Fin 16384} {l l' : Fin 128}
    (hp : p.val = p'.val) (hs : s.val = s'.val) (hl : l.val = l'.val) :
    InProj.pairAt (m ((c : Thread nD τ).loc main_arg0)) (m ((c : Thread nD τ).loc main_arg1)) (m ((c : Thread nD τ).loc main_arg2)) g a ha p s l = InProj.pairAt (m ((c : Thread nD τ).loc main_arg0)) (m ((c : Thread nD τ).loc main_arg1)) (m ((c : Thread nD τ).loc main_arg2)) g a ha' p' s' l' := by
  obtain rfl := Fin.ext hp
  obtain rfl := Fin.ext hs
  obtain rfl := Fin.ext hl
  rfl

/-- The gate's spelling in the kernel. -/
theorem silu_of (x : EReal) : x * Ideal.div 1 (1 + Ideal.exp (0 - x)) = InProj.silu x := by
  rw [sub_eq_add_neg, zero_add]
  rfl

end Cert.Kernel2Ideal.Pf

end
-- ==== Proof.P2.Columns.lean ====
/- The input projection: the result arrays that are the projection's columns as they are, scaled or gated. -/
module

public import proofs.«01_k».proof.Proof.P2.Launch
public import proofs.«01_k».proof.Proof.P2.Blocks
public import proofs.«01_k».proof.Proof.P2.Core

@[expose] public section

set_option maxRecDepth 16384

noncomputable section

namespace Cert.Kernel2Ideal.Pf

open Cert.Kernel2Ideal Cert.Kernel2Ideal.Gen Cert.Kernel2Ideal.Launch
open Idealize.ShloMosaic Idealize.ShloMosaic.TcCoe Idealize.SL.Sem

variable (m : (ℓ : Loc nD τ sig) → Buf (Elt Ideal) ℓ)

set_option maxHeartbeats 2000000 in
theorem final9 (c : Dev nD) : (dats m 0 c).arrAt 9 (cfgs 0).N = InProj.cols (m ((c : Thread nD τ).loc main_arg0)) (m ((c : Thread nD τ).loc main_arg1)) (m ((c : Thread nD τ).loc main_arg2)) id 256 (by omega) := by
  refine (dats m 0 c).arrAt_eq_of_covers 9 _ (by decide +kernel) fun t _ y => ?_
  blk_simp
  rw [after0_9]
  unfold at9 runAt
  frame_out
  generalize hQ : k0_pay668 (F := Ideal) _ _ = Q
  have hv : ∀ (s : Fin 512) (k : Fin 1024), Q (ix2 s k) = P m c ⟨t.val * 512 + s.val, by have := rows t; omega⟩ ⟨k.val, by omega⟩ :=
    fun s k => by rw [← hQ]; exact att_at m c t _ s k
  pointwise [InProj.cols, hv]
  refine (proj_of m c ?_ ?_) <;> blk_simp [idx t] <;> omega

set_option maxHeartbeats 2000000 in
theorem final10 (c : Dev nD) : (dats m 0 c).arrAt 10 (cfgs 0).N = InProj.cols (m ((c : Thread nD τ).loc main_arg0)) (m ((c : Thread nD τ).loc main_arg1)) (m ((c : Thread nD τ).loc main_arg2)) id 512 (by omega) := by
  refine (dats m 0 c).arrAt_eq_of_covers 10 _ (by decide +kernel) fun t _ y => ?_
  blk_simp
  rw [after0_10]
  unfold at10 runAt
  frame_out
  generalize hQ : k0_pay668 (F := Ideal) _ _ = Q
  have hv : ∀ (s : Fin 512) (k : Fin 1024), Q (ix2 s k) = P m c ⟨t.val * 512 + s.val, by have := rows t; omega⟩ ⟨k.val, by omega⟩ :=
    fun s k => by rw [← hQ]; exact att_at m c t _ s k
  pointwise [InProj.cols, hv]
  refine (proj_of m c ?_ ?_) <;> blk_simp [idx t] <;> omega

set_option maxHeartbeats 2000000 in
theorem final8 (c : Dev nD) : (dats m 0 c).arrAt 8 (cfgs 0).N = InProj.cols (m ((c : Thread nD τ).loc main_arg0)) (m ((c : Thread nD τ).loc main_arg1)) (m ((c : Thread nD τ).loc main_arg2)) (· * InProj.qs) 0 (by omega) := by
  refine (dats m 0 c).arrAt_eq_of_covers 8 _ (by decide +kernel) fun t _ y => ?_
  blk_simp
  rw [after0_8]
  unfold at8 runAt
  frame_out
  unfold k0_pay669
  generalize hQ : k0_pay668 (F := Ideal) _ _ = Q
  have hv : ∀ (s : Fin 512) (k : Fin 1024), Q (ix2 s k) = P m c ⟨t.val * 512 + s.val, by have := rows t; omega⟩ ⟨k.val, by omega⟩ :=
    fun s k => by rw [← hQ]; exact att_at m c t _ s k
  pointwise [InProj.cols, hv]
  refine congrArg (· * InProj.qs) (proj_of m c ?_ ?_) <;> blk_simp [idx t] <;> omega

set_option maxHeartbeats 2000000 in
theorem final11 (c : Dev nD) : (dats m 0 c).arrAt 11 (cfgs 0).N = InProj.cols (m ((c : Thread nD τ).loc main_arg0)) (m ((c : Thread nD τ).loc main_arg1)) (m ((c : Thread nD τ).loc main_arg2)) InProj.silu 768 (by omega) := by
  refine (dats m 0 c).arrAt_eq_of_covers 11 _ (by decide +kernel) fun t _ y => ?_
  blk_simp
  rw [after0_11]
  unfold at11 runAt
  frame_out
  generalize hQ : k0_pay668 (F := Ideal) _ _ = Q
  have hv : ∀ (s : Fin 512) (k : Fin 1024), Q (ix2 s k) = P m c ⟨t.val * 512 + s.val, by have := rows t; omega⟩ ⟨k.val, by omega⟩ :=
    fun s k => by rw [← hQ]; exact att_at m c t _ s k
  pointwise [k0_pay673, InProj.cols, hv]
  refine (silu_of _).trans (congrArg InProj.silu (proj_of m c ?_ ?_)) <;> blk_simp [idx t] <;> omega

set_option maxHeartbeats 2000000 in
theorem final15 (c : Dev nD) : (dats m 0 c).arrAt 15 (cfgs 0).N = InProj.pairs (m ((c : Thread nD τ).loc main_arg0)) (m ((c : Thread nD τ).loc main_arg1)) (m ((c : Thread nD τ).loc main_arg2)) id 2560 (by omega) := by
  refine (dats m 0 c).arrAt_eq_of_covers 15 _ (by decide +kernel) fun t _ y => ?_
  blk_simp
  rw [after0_15]
  unfold at15 runAt
  frame_out
  generalize hQ : (matmul dot_S512x1024_S1024x768_S512x768_1_0_0_1_n_n none _ _ _ : FVec Ideal S512x768 .f32) = Q
  have hv : ∀ (s : Fin 512) (k : Fin 768), Q (ix2 s k) = P m c ⟨t.val * 512 + s.val, by have := rows t; omega⟩ ⟨2560 + k.val, by omega⟩ :=
    fun s k => by rw [← hQ]; exact prod_at m c t 2560 (by omega) _ s k
  canon_tiles x h
  all_goals
    pointwise [InProj.pairs, hv]
    refine proj_of m c ?_ ?_ <;> (try dsimp only) <;> blk_simp [idx t] <;> (try dsimp only) <;> omega

set_option maxHeartbeats 2000000 in
theorem final12 (c : Dev nD) : (dats m 0 c).arrAt 12 (cfgs 0).N = InProj.pairs (m ((c : Thread nD τ).loc main_arg0)) (m ((c : Thread nD τ).loc main_arg1)) (m ((c : Thread nD τ).loc main_arg2)) InProj.silu 3328 (by omega) := by
  refine (dats m 0 c).arrAt_eq_of_covers 12 _ (by decide +kernel) fun t _ y => ?_
  blk_simp
  rw [after0_12]
  unfold at12 runAt
  frame_out
  generalize hQ : (matmul dot_S512x1024_S1024x768_S512x768_1_0_0_1_n_n none _ _ _ : FVec Ideal S512x768 .f32) = Q
  have hv : ∀ (s : Fin 512) (k : Fin 768), Q (ix2 s k) = P m c ⟨t.val * 512 + s.val, by have := rows t; omega⟩ ⟨3328 + k.val, by omega⟩ :=
    fun s k => by rw [← hQ]; exact prod_at m c t 3328 (by omega) _ s k
  canon_tiles x h
  all_goals
    pointwise [k0_pay1, k0_pay2, k0_pay3, k0_pay4, k0_pay5, k0_pay675, k0_pay676, InProj.pairs, hv]
    refine (silu_of _).trans (congrArg InProj.silu (proj_of m c ?_ ?_)) <;> (try dsimp only) <;> blk_simp [idx t] <;> (try dsimp only) <;> omega

end Cert.Kernel2Ideal.Pf

end
-- ==== Proof.P2.Heads.lean ====
/- The input projection: the result arrays of the queries and keys, normed and rotated in pairs of heads. -/
module

public import proofs.«01_k».proof.Proof.P2.Launch
public import proofs.«01_k».proof.Proof.P2.Blocks
public import proofs.«01_k».proof.Proof.P2.Core

@[expose] public section

set_option maxRecDepth 16384

noncomputable section

namespace Cert.Kernel2Ideal.Pf

open Cert.Kernel2Ideal Cert.Kernel2Ideal.Gen Cert.Kernel2Ideal.Launch
open Idealize.ShloMosaic Idealize.ShloMosaic.TcCoe Idealize.SL.Sem

variable (m : (ℓ : Loc nD τ sig) → Buf (Elt Ideal) ℓ)

set_option maxHeartbeats 2000000 in
theorem final13 (c : Dev nD) (hP : ∀ s (k : Fin 4096), 1024 ≤ k.val → k.val < 1024 + 768 → ∃ x : ℝ, P m c s k = (x : EReal)) : (dats m 0 c).arrAt 13 (cfgs 0).N = InProj.heads (m ((c : Thread nD τ).loc main_arg0)) (m ((c : Thread nD τ).loc main_arg1)) (m ((c : Thread nD τ).loc main_arg2)) (m ((c : Thread nD τ).loc main_arg3)) (· * InProj.qs) 1024 (by omega) := by
  refine (dats m 0 c).arrAt_eq_of_covers 13 _ (by decide +kernel) fun t _ y => ?_
  blk_simp
  rw [after0_13]
  unfold at13 runAt
  frame_out
  canon_tiles x h
  case' piece0 => refine (scaled_pair m c t 1024 (by omega) 5 _ (by rfl) _ _ (by frame_out <;> rfl) _ _ (qgain_blk m c t) hP (fun s l => (slice_at 640 (by omega) _ _ s l).trans (prod_at m c t 1024 (by omega) _ s _)) x).trans ?_
  case' piece1 => refine (scaled_pair m c t 1024 (by omega) 4 _ (by rfl) _ _ (by frame_out <;> rfl) _ _ (qgain_blk m c t) hP (fun s l => (slice_at 512 (by omega) _ _ s l).trans (prod_at m c t 1024 (by omega) _ s _)) x).trans ?_
  case' piece2 => refine (scaled_pair m c t 1024 (by omega) 3 _ (by rfl) _ _ (by frame_out <;> rfl) _ _ (qgain_blk m c t) hP (fun s l => (slice_at 384 (by omega) _ _ s l).trans (prod_at m c t 1024 (by omega) _ s _)) x).trans ?_
  case' piece3 => refine (scaled_pair m c t 1024 (by omega) 2 _ (by rfl) _ _ (by frame_out <;> rfl) _ _ (qgain_blk m c t) hP (fun s l => (slice_at 256 (by omega) _ _ s l).trans (prod_at m c t 1024 (by omega) _ s _)) x).trans ?_
  case' piece4 => refine (scaled_pair m c t 1024 (by omega) 1 _ (by rfl) _ _ (by frame_out <;> rfl) _ _ (qgain_blk m c t) hP (fun s l => (slice_at 128 (by omega) _ _ s l).trans (prod_at m c t 1024 (by omega) _ s _)) x).trans ?_
  case' piece5 => refine (scaled_pair m c t 1024 (by omega) 0 _ (by rfl) _ _ (by frame_out <;> rfl) _ _ (qgain_blk m c t) hP (fun s l => (slice_at 0 (by omega) _ _ s l).trans (prod_at m c t 1024 (by omega) _ s _)) x).trans ?_
  all_goals
    refine congrArg (· * InProj.qs) (pairAt_of m c _ 1024 (by omega) (by omega) ?_ ?_ ?_) <;> (try dsimp only) <;> blk_simp [idx t] <;> (try dsimp only) <;> omega

set_option maxHeartbeats 2000000 in
theorem final14 (c : Dev nD) (hP : ∀ s (k : Fin 4096), 1792 ≤ k.val → k.val < 1792 + 768 → ∃ x : ℝ, P m c s k = (x : EReal)) : (dats m 0 c).arrAt 14 (cfgs 0).N = InProj.heads (m ((c : Thread nD τ).loc main_arg0)) (m ((c : Thread nD τ).loc main_arg1)) (m ((c : Thread nD τ).loc main_arg2)) (m ((c : Thread nD τ).loc main_arg4)) id 1792 (by omega) := by
  refine (dats m 0 c).arrAt_eq_of_covers 14 _ (by decide +kernel) fun t _ y => ?_
  blk_simp
  rw [after0_14]
  unfold at14 runAt
  frame_out
  canon_tiles x h
  case' piece0 => refine (stored_pair m c t 1792 (by omega) 5 _ (by rfl) _ _ (by frame_out <;> rfl) _ _ (kgain_blk m c t) hP (fun s l => (slice_at 640 (by omega) _ _ s l).trans (prod_at m c t 1792 (by omega) _ s _)) x).trans ?_
  case' piece1 => refine (stored_pair m c t 1792 (by omega) 4 _ (by rfl) _ _ (by frame_out <;> rfl) _ _ (kgain_blk m c t) hP (fun s l => (slice_at 512 (by omega) _ _ s l).trans (prod_at m c t 1792 (by omega) _ s _)) x).trans ?_
  case' piece2 => refine (stored_pair m c t 1792 (by omega) 3 _ (by rfl) _ _ (by frame_out <;> rfl) _ _ (kgain_blk m c t) hP (fun s l => (slice_at 384 (by omega) _ _ s l).trans (prod_at m c t 1792 (by omega) _ s _)) x).trans ?_
  case' piece3 => refine (stored_pair m c t 1792 (by omega) 2 _ (by rfl) _ _ (by frame_out <;> rfl) _ _ (kgain_blk m c t) hP (fun s l => (slice_at 256 (by omega) _ _ s l).trans (prod_at m c t 1792 (by omega) _ s _)) x).trans ?_
  case' piece4 => refine (stored_pair m c t 1792 (by omega) 1 _ (by rfl) _ _ (by frame_out <;> rfl) _ _ (kgain_blk m c t) hP (fun s l => (slice_at 128 (by omega) _ _ s l).trans (prod_at m c t 1792 (by omega) _ s _)) x).trans ?_
  case' piece5 => refine (stored_pair m c t 1792 (by omega) 0 _ (by rfl) _ _ (by frame_out <;> rfl) _ _ (kgain_blk m c t) hP (fun s l => (slice_at 0 (by omega) _ _ s l).trans (prod_at m c t 1792 (by omega) _ s _)) x).trans ?_
  all_goals
    refine pairAt_of m c _ 1792 (by omega) (by omega) ?_ ?_ ?_ <;> (try dsimp only) <;> blk_simp [idx t] <;> (try dsimp only) <;> omega

end Cert.Kernel2Ideal.Pf

end
-- ==== Proof.P2.Ref.lean ====
/- The reference of the input projection, element by element. -/
module

public import proofs.«01_k».proof.Proof.Gen.Reference2Ideal.Run
public import proofs.«01_k».proof.Proof.P2.Spec
public import Idealize.ShloMosaic.Lib.Pipeline.ValueKit
public import Idealize.ShloMosaic.Lib.Claim

@[expose] public section

set_option maxRecDepth 16384

noncomputable section

namespace Cert.Reference2Ideal.Pf

open Cert.Reference2Ideal Cert.Reference2Ideal.Gen Cert.Reference2Ideal.Value
open Idealize.ShloMosaic Idealize.ShloMosaic.TcCoe Idealize.SL.Sem

variable (V0 : Valuation τ sig (Elt Ideal))

/-- The projection of the arguments. -/
abbrev R (s : Fin 16384) (k : Fin 4096) : EReal :=
  InProj.proj (V0 (Proc.devRef .tc main_arg0)) (V0 (Proc.devRef .tc main_arg1)) (V0 (Proc.devRef .tc main_arg2)) s k

theorem proj_at (s : Fin 16384) (k : Fin 4096) : (show FVec Ideal S16384x4096 .f32 from res_main_v18 V0) (ix2 s k) = R V0 s k := by
  pointwise [res_main_v18, R, InProj.proj]

theorem qcols_at (s : Fin 16384) (h : Fin 12) (l : Fin 64) : (show FVec Ideal S16384x12x64 .f32 from res_main_v27 V0) (ix3 s h l) = R V0 s ⟨1024 + (h.val * 64 + l.val), by omega⟩ := by
  pointwise [res_main_v27]
  exact proj_at V0 s _

theorem kcols_at (s : Fin 16384) (h : Fin 12) (l : Fin 64) : (show FVec Ideal S16384x12x64 .f32 from res_main_v81 V0) (ix3 s h l) = R V0 s ⟨1792 + (h.val * 64 + l.val), by omega⟩ := by
  pointwise [res_main_v81]
  exact proj_at V0 s _

/-- The heads' lanes normed, as the reference spells it. -/
def rnormed (v : FVec Ideal S16384x12x64 .f32) (g : FVec Ideal InProj.SN .f32) : FVec Ideal S16384x12x64 .f32 :=
  mulf (mulf v (broadcastInDim S16384x12x64 ![0, 1, 2] bcast_S16384x12x1_S16384x12x64_0_1_2 (Host.rsqrt (addf (Host.divf (broadcastInDim S16384x12x1 ![0, 1] bcast_S16384x12_S16384x12x1_0_1 (Host.reduceAdd (mulf v v) (constant S_ .f32 0x00000000#32) reducesTo_S16384x12x64_S16384x12_d2 h_S_)) (broadcastInDim S16384x12x1 ![] bcast_S_S16384x12x1 (constant S_ .f32 0x42800000#32))) (broadcastInDim S16384x12x1 ![] bcast_S_S16384x12x1 (constant S_ .f32 0x358637BD#32)))))) (broadcastInDim S16384x12x64 ![0, 1, 2] bcast_S1x1x64_S16384x12x64_0_1_2 (broadcastInDim S1x1x64 ![2] bcast_S64_S1x1x64_2 (shapeCast _ (extractStridedSlice S1x64 ![0, 0] g slices_S4x64_S1x64_0_0) shapeCasts_S1x64_S64)))

theorem rnormed_at (v : FVec Ideal S16384x12x64 .f32) (g : FVec Ideal InProj.SN .f32) (s : Fin 16384) (h : Fin 12) (l : Fin 64) :
    rnormed v g (ix3 s h l) = InProj.normHead (fun j => v (ix3 s h j)) g l := by
  pointwise [rnormed, InProj.normHead]

theorem cos_at (s : Fin 16384) (f : Fin 8) : (show FVec Ideal S16384x1x8 .f32 from res_main_v59 V0) (ix3 s 0 f) = Ideal.cos (InProj.ang s f) := by
  pointwise [res_main_v59, res_main_v57, res_main_v0, InProj.ang]

theorem sin_at (s : Fin 16384) (f : Fin 8) : (show FVec Ideal S16384x1x8 .f32 from res_main_v61 V0) (ix3 s 0 f) = Ideal.sin (InProj.ang s f) := by
  pointwise [res_main_v61, res_main_v57, res_main_v0, InProj.ang]

theorem kcos_at (s : Fin 16384) (f : Fin 8) : (show FVec Ideal S16384x1x8 .f32 from res_main_v113 V0) (ix3 s 0 f) = Ideal.cos (InProj.ang s f) := by
  pointwise [res_main_v113, res_main_v111, res_main_v0, InProj.ang]

theorem ksin_at (s : Fin 16384) (f : Fin 8) : (show FVec Ideal S16384x1x8 .f32 from res_main_v115 V0) (ix3 s 0 f) = Ideal.sin (InProj.ang s f) := by
  pointwise [res_main_v115, res_main_v111, res_main_v0, InProj.ang]

/-- The rotation of a head's first sixteen lanes, as the reference spells it. -/
def turned (n : FVec Ideal S16384x12x64 .f32) (C S : FVec Ideal S16384x1x8 .f32) : FVec Ideal S16384x12x64 .f32 :=
  (concatenate S16384x12x64 2 [⟨S16384x12x8, ((subf (mulf (extractStridedSlice S16384x12x8 ![0, 0, 0] n slices_S16384x12x64_S16384x12x8_0_0_0) (broadcastInDim S16384x12x8 ![0, 1, 2] bcast_S16384x1x8_S16384x12x8_0_1_2 C)) (mulf (extractStridedSlice S16384x12x8 ![0, 0, 8] n slices_S16384x12x64_S16384x12x8_0_0_8) (broadcastInDim S16384x12x8 ![0, 1, 2] bcast_S16384x1x8_S16384x12x8_0_1_2 S))) : (⟨S16384x12x8, .f32⟩ : BufTy).Contents (Elt Ideal))⟩, ⟨S16384x12x8, ((addf (mulf (extractStridedSlice S16384x12x8 ![0, 0, 8] n slices_S16384x12x64_S16384x12x8_0_0_8) (broadcastInDim S16384x12x8 ![0, 1, 2] bcast_S16384x1x8_S16384x12x8_0_1_2 C)) (mulf (extractStridedSlice S16384x12x8 ![0, 0, 0] n slices_S16384x12x64_S16384x12x8_0_0_0) (broadcastInDim S16384x12x8 ![0, 1, 2] bcast_S16384x1x8_S16384x12x8_0_1_2 S))) : (⟨S16384x12x8, .f32⟩ : BufTy).Contents (Elt Ideal))⟩, ⟨S16384x12x48, ((extractStridedSlice S16384x12x48 ![0, 0, 16] n slices_S16384x12x64_S16384x12x48_0_0_16) : (⟨S16384x12x48, .f32⟩ : BufTy).Contents (Elt Ideal))⟩] concatenates_S16384x12x8_S16384x12x8_S16384x12x48_S16384x12x64_d2 : (⟨S16384x12x64, .f32⟩ : BufTy).Contents (Elt Ideal))

theorem turned_at (n : FVec Ideal S16384x12x64 .f32) (C S : FVec Ideal S16384x1x8 .f32) (s : Fin 16384) (h : Fin 12) (l : Fin 64)
    (hC : ∀ f : Fin 8, C (ix3 s 0 f) = Ideal.cos (InProj.ang s f)) (hS : ∀ f : Fin 8, S (ix3 s 0 f) = Ideal.sin (InProj.ang s f)) :
    turned n C S (ix3 s h l) = InProj.ropeHead s (fun j => n (ix3 s h j)) l := by
  pointwise [turned, InProj.ropeHead, hC, hS]
  by_cases h8 : l.val < 8
  · rw [dif_pos h8, dif_pos h8]
  · rw [dif_neg h8, dif_neg h8]
    by_cases h16 : l.val < 16
    · rw [dif_pos (show l.val - 8 < 8 by omega), dif_pos h16, show (⟨8 + (l.val - 8), by omega⟩ : Fin 64) = l from Fin.ext (by dsimp only; omega)]
    · rw [dif_neg (show ¬ l.val - 8 < 8 by omega), dif_neg h16, show (⟨16 + (l.val - 8 - 8), by omega⟩ : Fin 64) = l from Fin.ext (by dsimp only; omega)]

/-- The reference's scale and change of base are one factor. -/
theorem scale_of (x : EReal) : Ideal.div (x * Ideal.ofBits .f32 0x3E000000#32) (Ideal.log (Ideal.ofBits .f32 0x40000000#32)) = x * InProj.qs := by
  have e : Ideal.ofBits .f32 0x3E000000#32 = ((1 / 8 : ℝ) : EReal) := by
    simp [Ideal.ofBits, Ideal.ieee, -EReal.coe_mul]; norm_num
  have t : Ideal.ofBits .f32 0x40000000#32 = ((2 : ℝ) : EReal) := by
    simp [Ideal.ofBits, Ideal.ieee, -EReal.coe_mul]; norm_num
  rw [e, t, Stick.log_coe_pos 2 (by norm_num), Ideal.div_coe (Real.log_pos (by norm_num)).ne', mul_assoc, ← EReal.coe_mul]
  unfold InProj.qs
  congr 2
  rw [one_div, one_div, mul_inv]

/-! The reference's results, from the projection `v` or from the turned heads `N`. -/

theorem qa_of (X : FVec Ideal InProj.SX .f32) (g : FVec Ideal InProj.SG .f32) (w : FVec Ideal InProj.SW .f32)
    (v : FVec Ideal S16384x4096 .f32) (hv : ∀ s k, v (ix2 s k) = InProj.proj X g w s k) :
    (show FVec Ideal S16384x256 .bf16 from truncf .bf16 (Host.divf (mulf (extractStridedSlice S16384x256 ![0, 0] v slices_S16384x4096_S16384x256_0_0) (broadcastInDim S16384x256 ![] bcast_S_S16384x256 (constant S_ .f32 0x3E000000#32))) (broadcastInDim S16384x256 ![] bcast_S_S16384x256 (Host.log (constant S_ .f32 0x40000000#32)))) bitsLt_bf16_f32) = InProj.cols X g w (· * InProj.qs) 0 (by omega) := by
  funext j
  pointwise [InProj.cols, hv]
  exact scale_of _

theorem ka_of (X : FVec Ideal InProj.SX .f32) (g : FVec Ideal InProj.SG .f32) (w : FVec Ideal InProj.SW .f32)
    (v : FVec Ideal S16384x4096 .f32) (hv : ∀ s k, v (ix2 s k) = InProj.proj X g w s k) :
    (show FVec Ideal S16384x256 .bf16 from truncf .bf16 (extractStridedSlice S16384x256 ![0, 256] v slices_S16384x4096_S16384x256_0_256) bitsLt_bf16_f32) = InProj.cols X g w id 256 (by omega) := by
  funext j
  pointwise [InProj.cols, hv]
  rfl

theorem va_of (X : FVec Ideal InProj.SX .f32) (g : FVec Ideal InProj.SG .f32) (w : FVec Ideal InProj.SW .f32)
    (v : FVec Ideal S16384x4096 .f32) (hv : ∀ s k, v (ix2 s k) = InProj.proj X g w s k) :
    (show FVec Ideal S16384x256 .bf16 from truncf .bf16 (extractStridedSlice S16384x256 ![0, 512] v slices_S16384x4096_S16384x256_0_512) bitsLt_bf16_f32) = InProj.cols X g w id 512 (by omega) := by
  funext j
  pointwise [InProj.cols, hv]
  rfl

theorem ga_of (X : FVec Ideal InProj.SX .f32) (g : FVec Ideal InProj.SG .f32) (w : FVec Ideal InProj.SW .f32)
    (v : FVec Ideal S16384x4096 .f32) (hv : ∀ s k, v (ix2 s k) = InProj.proj X g w s k) :
    (show FVec Ideal S16384x256 .bf16 from truncf .bf16 (mulf (extractStridedSlice S16384x256 ![0, 768] v slices_S16384x4096_S16384x256_0_768) (Host.divf (broadcastInDim S16384x256 ![] bcast_S_S16384x256 (constant S_ .f32 0x3F800000#32)) (addf (broadcastInDim S16384x256 ![] bcast_S_S16384x256 (constant S_ .f32 0x3F800000#32)) (Host.exp (Host.negf (extractStridedSlice S16384x256 ![0, 768] v slices_S16384x4096_S16384x256_0_768)))))) bitsLt_bf16_f32) = InProj.cols X g w InProj.silu 768 (by omega) := by
  funext j
  pointwise [InProj.cols, hv, InProj.silu]

theorem gd_of (X : FVec Ideal InProj.SX .f32) (g : FVec Ideal InProj.SG .f32) (w : FVec Ideal InProj.SW .f32)
    (v : FVec Ideal S16384x4096 .f32) (hv : ∀ s k, v (ix2 s k) = InProj.proj X g w s k) :
    (show FVec Ideal S6x16384x128 .bf16 from truncf .bf16 (transpose S6x16384x128 [1, 0, 2] (shapeCast S16384x6x128 (mulf (extractStridedSlice S16384x768 ![0, 3328] v slices_S16384x4096_S16384x768_0_3328) (Host.divf (broadcastInDim S16384x768 ![] bcast_S_S16384x768 (constant S_ .f32 0x3F800000#32)) (addf (broadcastInDim S16384x768 ![] bcast_S_S16384x768 (constant S_ .f32 0x3F800000#32)) (Host.exp (Host.negf (extractStridedSlice S16384x768 ![0, 3328] v slices_S16384x4096_S16384x768_0_3328)))))) shapeCasts_S16384x768_S16384x6x128) transposes_S16384x6x128_S6x16384x128_1_0_2) bitsLt_bf16_f32) = InProj.pairs X g w InProj.silu 3328 (by omega) := by
  funext j
  pointwise [InProj.pairs, hv, InProj.silu]

theorem vd_of (X : FVec Ideal InProj.SX .f32) (g : FVec Ideal InProj.SG .f32) (w : FVec Ideal InProj.SW .f32)
    (v : FVec Ideal S16384x4096 .f32) (hv : ∀ s k, v (ix2 s k) = InProj.proj X g w s k) :
    (show FVec Ideal S6x16384x128 .bf16 from truncf .bf16 (transpose S6x16384x128 [1, 0, 2] (shapeCast S16384x6x128 (extractStridedSlice S16384x768 ![0, 2560] v slices_S16384x4096_S16384x768_0_2560) shapeCasts_S16384x768_S16384x6x128) transposes_S16384x6x128_S6x16384x128_1_0_2) bitsLt_bf16_f32) = InProj.pairs X g w id 2560 (by omega) := by
  funext j
  pointwise [InProj.pairs, hv]
  rfl

/-- A lane's column, counted by heads and counted by pairs. -/
theorem split_at (p l k : ℕ) : (p * 2 + l / 64) * 64 + k = p * 128 + (l / 64 * 64 + k) := by omega

theorem qd_of (X : FVec Ideal InProj.SX .f32) (g : FVec Ideal InProj.SG .f32) (w : FVec Ideal InProj.SW .f32) (G : FVec Ideal InProj.SN .f32)
    (N : FVec Ideal S16384x12x64 .f32) (hN : ∀ s h l, N (ix3 s h l) = InProj.ropeHead s (InProj.normHead (fun j => InProj.proj X g w s ⟨1024 + (h.val * 64 + j.val), by omega⟩) G) l) :
    (show FVec Ideal S6x16384x128 .bf16 from truncf .bf16 (transpose S6x16384x128 [1, 0, 2] (shapeCast S16384x6x128 (Host.divf (mulf N (broadcastInDim S16384x12x64 ![] bcast_S_S16384x12x64 (constant S_ .f32 0x3E000000#32))) (broadcastInDim S16384x12x64 ![] bcast_S_S16384x12x64 (Host.log (constant S_ .f32 0x40000000#32)))) shapeCasts_S16384x12x64_S16384x6x128) transposes_S16384x6x128_S6x16384x128_1_0_2) bitsLt_bf16_f32) = InProj.heads X g w G (· * InProj.qs) 1024 (by omega) := by
  funext j
  pointwise [InProj.heads, InProj.pairAt, hN]
  simp only [split_at]
  exact scale_of _

theorem kd_of (X : FVec Ideal InProj.SX .f32) (g : FVec Ideal InProj.SG .f32) (w : FVec Ideal InProj.SW .f32) (G : FVec Ideal InProj.SN .f32)
    (N : FVec Ideal S16384x12x64 .f32) (hN : ∀ s h l, N (ix3 s h l) = InProj.ropeHead s (InProj.normHead (fun j => InProj.proj X g w s ⟨1792 + (h.val * 64 + j.val), by omega⟩) G) l) :
    (show FVec Ideal S6x16384x128 .bf16 from truncf .bf16 (transpose S6x16384x128 [1, 0, 2] (shapeCast S16384x6x128 N shapeCasts_S16384x12x64_S16384x6x128) transposes_S16384x6x128_S6x16384x128_1_0_2) bitsLt_bf16_f32) = InProj.heads X g w G id 1792 (by omega) := by
  funext j
  pointwise [InProj.heads, InProj.pairAt, hN]
  simp only [split_at]
  rfl

end Cert.Reference2Ideal.Pf

end
-- ==== Proof.P2.Value.lean ====
/- The input projection: the kernel's frame, and its results and the reference's are one and the same arrays. -/
module

public import proofs.«01_k».proof.Defs
public import proofs.«01_k».proof.Proof.P2.LaunchK
public import proofs.«01_k».proof.Proof.P2.Columns
public import proofs.«01_k».proof.Proof.P2.Heads
public import proofs.«01_k».proof.Proof.P2.Ref

@[expose] public section

set_option maxRecDepth 16384

noncomputable section

namespace Cert.Kernel2Ideal.Pf

open Cert.Kernel2Ideal Cert.Kernel2Ideal.Gen Cert.Kernel2Ideal.Launch
open Idealize.ShloMosaic Idealize.ShloMosaic.TcCoe Idealize.SL.Sem
open Cert.Reference2Ideal.Pf (R proj_at qcols_at kcols_at cos_at sin_at kcos_at ksin_at rnormed rnormed_at turned turned_at qa_of ka_of va_of ga_of gd_of qd_of kd_of vd_of)
open Cert.Reference2Ideal.Value (res_main_v27 res_main_v59 res_main_v61 res_main_v81 res_main_v113 res_main_v115)

theorem frame_k2 : Cert.quiescent_Kernel2 := fun m ρ _ => Cert.Kernel2.Launch.frame m ρ
theorem frame_ki2 : Cert.quiescent_Kernel2Ideal := fun m ρ _ => Cert.Kernel2Ideal.Launch.frame m ρ
theorem frame_ki2_pre : Cert.quiescent_Kernel2Ideal_pre_finite_gw := fun m ρ _ => Cert.Kernel2Ideal.Launch.frame m ρ
/-- The reference leaves its arguments unchanged; it declares no semaphore. -/
theorem frame_ri2 : Cert.quiescent_Reference2Ideal := fun m ρ _ =>
  (θ_run Cert.Reference2Ideal.defs _ _).mono (fun r h => ⟨fun c => (h c).2.2.2.2.2.2.2.2,
      Idealize.ShloMosaic.sem_eq_zero_of_no_sems (by decide) r.2⟩)
    (Cert.Reference2Ideal.Value.run (F := Ideal) m ρ)
theorem frame_ri2_pre : Cert.quiescent_Reference2Ideal_pre_finite_gw := fun m ρ _ => frame_ri2 m ρ trivial

/-- The named constant stands, at the ideal instance, for the value of its name. -/
theorem preserves2 : Cert.preserves_Kernel2_Kernel2Ideal :=
  IdealRules.named_const.statement Cert.Kernel2Ideal.κ "q_scale" .f32 0x3E38AA3B#32 _ rfl

set_option maxHeartbeats 2000000 in
/-- The columns, the gates and the normed and rotated heads: the same arrays on both sides. -/
theorem algebraic2 : Cert.algebraic_Kernel2Ideal_Reference2Ideal_pre_finite_gw := by
  intro m g m' g' hpre hagree
  have hP : ∀ (c : Dev nD) (s : Fin 16384) (k : Fin 4096), 1024 ≤ k.val → k.val < 2560 → ∃ x : ℝ, P m c s k = (x : EReal) := fun c s k h1 h2 => by
    obtain ⟨hg, hw⟩ := InProj.pre_real _ _ _ _ _ (hpre c)
    exact InProj.proj_real _ _ _ s k hg fun i => by
      have e : k = ⟨1024 + (k.val - 1024), by omega⟩ := Fin.ext (by dsimp only; omega)
      rw [e]
      exact hw i ⟨k.val - 1024, by omega⟩
  refine ⟨fun c => InProj.cols (m ((c : Thread nD τ).loc main_arg0)) (m ((c : Thread nD τ).loc main_arg1)) (m ((c : Thread nD τ).loc main_arg2)) (· * InProj.qs) 0 (by omega),
    fun c => InProj.cols (m ((c : Thread nD τ).loc main_arg0)) (m ((c : Thread nD τ).loc main_arg1)) (m ((c : Thread nD τ).loc main_arg2)) id 256 (by omega),
    fun c => InProj.cols (m ((c : Thread nD τ).loc main_arg0)) (m ((c : Thread nD τ).loc main_arg1)) (m ((c : Thread nD τ).loc main_arg2)) id 512 (by omega),
    fun c => InProj.cols (m ((c : Thread nD τ).loc main_arg0)) (m ((c : Thread nD τ).loc main_arg1)) (m ((c : Thread nD τ).loc main_arg2)) InProj.silu 768 (by omega),
    fun c => InProj.pairs (m ((c : Thread nD τ).loc main_arg0)) (m ((c : Thread nD τ).loc main_arg1)) (m ((c : Thread nD τ).loc main_arg2)) InProj.silu 3328 (by omega),
    fun c => InProj.heads (m ((c : Thread nD τ).loc main_arg0)) (m ((c : Thread nD τ).loc main_arg1)) (m ((c : Thread nD τ).loc main_arg2)) (m ((c : Thread nD τ).loc main_arg3)) (· * InProj.qs) 1024 (by omega),
    fun c => InProj.heads (m ((c : Thread nD τ).loc main_arg0)) (m ((c : Thread nD τ).loc main_arg1)) (m ((c : Thread nD τ).loc main_arg2)) (m ((c : Thread nD τ).loc main_arg4)) id 1792 (by omega),
    fun c => InProj.pairs (m ((c : Thread nD τ).loc main_arg0)) (m ((c : Thread nD τ).loc main_arg1)) (m ((c : Thread nD τ).loc main_arg2)) id 2560 (by omega), ?_, ?_⟩
  · refine (θ_run defs _ _).mono (fun r h c => ?_) (θ_run_and (run_main m g) (Launch.frame m g))
    have a := (h.1 c).1
    exact ⟨(a 8).trans (final8 m c), (a 9).trans (final9 m c), (a 10).trans (final10 m c), (a 11).trans (final11 m c), (a 12).trans (final12 m c),
      (a 13).trans (final13 m c fun s k h1 h2 => hP c s k h1 (by omega)), (a 14).trans (final14 m c fun s k h1 h2 => hP c s k (by omega) h2), (a 15).trans (final15 m c), h.2.1 c⟩
  · refine (θ_run Cert.Reference2Ideal.defs _ _).mono (fun r h c => ?_) (Cert.Reference2Ideal.Value.run (F := Ideal) m' g')
    obtain ⟨h0, h1, h2, h3, h4, h5, h6, h7, hk⟩ := h c
    obtain ⟨a0, a1, a2, a3, a4⟩ := hagree c
    have hR : ∀ s k, R (StableHlo.launchContents m' c) s k = P m c s k := fun s k => by
      have e : R (StableHlo.launchContents m' c) s k = InProj.proj (m' ((c.tc : Thread Cert.Reference2Ideal.nD Cert.Reference2Ideal.τ).loc Cert.Reference2Ideal.main_arg0))
        (m' ((c.tc : Thread Cert.Reference2Ideal.nD Cert.Reference2Ideal.τ).loc Cert.Reference2Ideal.main_arg1))
        (m' ((c.tc : Thread Cert.Reference2Ideal.nD Cert.Reference2Ideal.τ).loc Cert.Reference2Ideal.main_arg2)) s k := rfl
      rw [e, a0, a1, a2]
    have hv := fun s k => (proj_at (StableHlo.launchContents m' c) s k).trans (hR s k)
    have hq := fun s h l => (qcols_at (StableHlo.launchContents m' c) s h l).trans (hR s _)
    have hk' := fun s h l => (kcols_at (StableHlo.launchContents m' c) s h l).trans (hR s _)
    refine ⟨h0.trans (qa_of _ _ _ _ hv), h1.trans (ka_of _ _ _ _ hv), h2.trans (va_of _ _ _ _ hv),
      h3.trans (ga_of _ _ _ _ hv), h4.trans (gd_of _ _ _ _ hv), ?_, ?_, h7.trans (vd_of _ _ _ _ hv), hk⟩
    · beta_reduce
      rw [← a3]
      exact h5.trans (qd_of _ _ _ _ (turned (rnormed (res_main_v27 (StableHlo.launchContents m' c)) (m' ((c.tc : Thread Cert.Reference2Ideal.nD Cert.Reference2Ideal.τ).loc Cert.Reference2Ideal.main_arg3))) (res_main_v59 (StableHlo.launchContents m' c)) (res_main_v61 (StableHlo.launchContents m' c)))
        fun s h l => (turned_at _ _ _ s h l (cos_at (StableHlo.launchContents m' c) s) (sin_at (StableHlo.launchContents m' c) s)).trans
          (congrArg (fun n => InProj.ropeHead s n l) (funext fun j => (rnormed_at _ _ s h j).trans
            (congrArg (fun u => InProj.normHead u (m' ((c.tc : Thread Cert.Reference2Ideal.nD Cert.Reference2Ideal.τ).loc Cert.Reference2Ideal.main_arg3)) j) (funext fun i => hq s h i)))))
    · beta_reduce
      rw [← a4]
      exact h6.trans (kd_of _ _ _ _ (turned (rnormed (res_main_v81 (StableHlo.launchContents m' c)) (m' ((c.tc : Thread Cert.Reference2Ideal.nD Cert.Reference2Ideal.τ).loc Cert.Reference2Ideal.main_arg4))) (res_main_v113 (StableHlo.launchContents m' c)) (res_main_v115 (StableHlo.launchContents m' c)))
        fun s h l => (turned_at _ _ _ s h l (kcos_at (StableHlo.launchContents m' c) s) (ksin_at (StableHlo.launchContents m' c) s)).trans
          (congrArg (fun n => InProj.ropeHead s n l) (funext fun j => (rnormed_at _ _ s h j).trans
            (congrArg (fun u => InProj.normHead u (m' ((c.tc : Thread Cert.Reference2Ideal.nD Cert.Reference2Ideal.τ).loc Cert.Reference2Ideal.main_arg4)) j) (funext fun i => hk' s h i)))))

end Cert.Kernel2Ideal.Pf

end
-- ==== Proof.P3.Value.lean ====
/- The output projection: the kernel's two products over the columns of the two mixers are the reference's one product over all columns. -/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import Idealize.ShloMosaic.Lib.Pipeline.ValueKit
public import Idealize.ShloMosaic.Lib.Claim

@[expose] public section

set_option maxRecDepth 16384

noncomputable section

namespace Cert.Kernel3Ideal.Pf

open Cert.Kernel3Ideal Cert.Kernel3Ideal.Gen
open Idealize.ShloMosaic Idealize.ShloMosaic.TcCoe Idealize.SL.Sem

/-- Row `s`, column `d` of the output projection: the residual and the sums over the columns of the two mixers. -/
def outAt (x : FVec Ideal S16384x1024 .f32) (a : FVec Ideal S16384x256 .bf16) (b : FVec Ideal S6x16384x128 .bf16) (w : FVec Ideal S4x1024x1024 .f32)
    (s : Fin 16384) (d : Fin 1024) : EReal :=
  x (ix2 s d) + ((∑ k : Fin 256, a (ix2 s k) * w (ix3 3 ⟨k.val, by omega⟩ d))
    + ∑ k : Fin 768, b (ix3 ⟨k.val / 128, by omega⟩ s ⟨k.val % 128, by omega⟩) * w (ix3 3 ⟨256 + k.val, by omega⟩ d))

def outArr (x : FVec Ideal S16384x1024 .f32) (a : FVec Ideal S16384x256 .bf16) (b : FVec Ideal S6x16384x128 .bf16) (w : FVec Ideal S4x1024x1024 .f32) :
    FVec Ideal S16384x1024 .f32 := fun j => outAt x a b w (j 0) (j 1)

theorem idx : ∀ t : Fin cfg0.N, win0_0.index t = ![t.val, 0] ∧ win0_1.index t = ![t.val, 0] ∧ win0_2.index t = ![0, t.val, 0]
    ∧ win0_3.index t = ![3, 0, 0] ∧ win0_4.index t = ![t.val, 0] :=
  (by decide +kernel : ∀ t : Fin grid0.N, _)

variable (m : (ℓ : Loc nD τ sig) → Buf (Elt Ideal) ℓ)

theorem final (c : Dev nD) : (dats m 0 c).arrAt 4 (cfgs 0).N
    = outArr (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  pointwise [k0_pay1, outArr, outAt]
  blk_point [iblk, V, idx t]

theorem frame_k3 : Cert.quiescent_Kernel3 := fun m ρ _ => Cert.Kernel3.Gen.frame m ρ
theorem frame_ki3 : Cert.quiescent_Kernel3Ideal := fun m ρ _ => Cert.Kernel3Ideal.Gen.frame m ρ
/-- The reference leaves its arguments unchanged; it declares no semaphore. -/
theorem frame_ri3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)
theorem preserves3 : Cert.preserves_Kernel3_Kernel3Ideal := trivial

/-- Residual plus projection of both mixers' columns: the same array on both sides. -/
theorem algebraic3 : Cert.algebraic_Kernel3Ideal_Reference3Ideal := by
  intro m g m' g' _ hagree
  refine ⟨fun c => outArr (m ((c : Thread nD τ).loc main_arg0)) (m ((c : Thread nD τ).loc main_arg1)) (m ((c : Thread nD τ).loc main_arg2)) (m ((c : Thread nD τ).loc main_arg3)), ?_, ?_⟩
  · exact (θ_run defs _ _).mono (fun r h c => ⟨(h c).1.trans (final m c), (h c).2⟩) (Cert.Kernel3Ideal.Value.run_blocks m g)
  · refine (θ_run Cert.Reference3Ideal.defs _ _).mono (fun r h c => ⟨(h c).1.trans ?_, (h c).2⟩) (Cert.Reference3Ideal.Value.run (F := Ideal) m' g')
    obtain ⟨a0, a1, a2, a3⟩ := hagree c
    rw [a0, a1, a2, a3]
    funext j
    pointwise [outArr, outAt]

end Cert.Kernel3Ideal.Pf

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite_qk
public import proofs.«01_k».proof.Proof.Gen.Pre_finite_gw
public import proofs.«01_k».proof.Proof.Gen.Kernel2
public import proofs.«01_k».proof.Proof.Gen.Kernel3
public import proofs.«01_k».proof.Proof.Gen.Kernel3.Frame
public import proofs.«01_k».proof.Proof.Gen.Kernel2Ideal
public import proofs.«01_k».proof.Proof.Gen.Kernel3Ideal
public import proofs.«01_k».proof.Proof.Gen.Kernel3Ideal.Value
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import proofs.«01_k».proof.Proof.Frames
public import proofs.«01_k».proof.Proof.Algebraic
public import proofs.«01_k».proof.Proof.P2.Value
public import proofs.«01_k».proof.Proof.P3.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite_qk.Gen.facts, Cert.Pre_finite_gw.Gen.facts,
  frame_k, frame_ki, frame_ki_pre, frame_ri, frame_ri_pre,
  Kernel2Ideal.Pf.frame_k2, Kernel2Ideal.Pf.frame_ki2, Kernel2Ideal.Pf.frame_ki2_pre, Kernel2Ideal.Pf.frame_ri2, Kernel2Ideal.Pf.frame_ri2_pre,
  Kernel3Ideal.Pf.frame_k3, Kernel3Ideal.Pf.frame_ki3, Kernel3Ideal.Pf.frame_ri3, preserves, algebraic,
  Kernel2Ideal.Pf.preserves2, Kernel2Ideal.Pf.algebraic2, Kernel3Ideal.Pf.preserves3, Kernel3Ideal.Pf.algebraic3⟩

end Cert.Proof

end
